-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v155) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v1) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_v35) = v1 c
          ∧ r.2.mem ((c.tc : Thread Cert.Reference12Ideal.nD Cert.Reference12Ideal.τ).loc Cert.Reference12Ideal.main_v37) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v37) = v0 c
          ∧ r.2.mem ((c.tc : Thread Cert.Reference20Ideal.nD Cert.Reference20Ideal.τ).loc Cert.Reference20Ideal.main_v38) = v1 c
          ∧ r.2.mem ((c.tc : Thread Cert.Reference20Ideal.nD Cert.Reference20Ideal.τ).loc Cert.Reference20Ideal.main_v39) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)) (v2 : (c : Dev Cert.Kernel26Ideal.nD) → Buf (Elt Ideal) ((c.tc : Thread Cert.Kernel26Ideal.nD Cert.Kernel26Ideal.τ).loc Cert.Kernel26Ideal.main_v1_2)) (v3 : (c : Dev Cert.Kernel26Ideal.nD) → Buf (Elt Ideal) ((c.tc : Thread Cert.Kernel26Ideal.nD Cert.Kernel26Ideal.τ).loc Cert.Kernel26Ideal.main_v1_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_v1_2) = v2 c
          ∧ r.2.mem ((c.tc : Thread Cert.Kernel26Ideal.nD Cert.Kernel26Ideal.τ).loc Cert.Kernel26Ideal.main_v1_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v50) = v0 c
          ∧ r.2.mem ((c.tc : Thread Cert.Reference26Ideal.nD Cert.Reference26Ideal.τ).loc Cert.Reference26Ideal.main_v51) = v1 c
          ∧ r.2.mem ((c.tc : Thread Cert.Reference26Ideal.nD Cert.Reference26Ideal.τ).loc Cert.Reference26Ideal.main_v52) = v2 c
          ∧ r.2.mem ((c.tc : Thread Cert.Reference26Ideal.nD Cert.Reference26Ideal.τ).loc Cert.Reference26Ideal.main_v69) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v13) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S8192x14336 : Shape := ⟨2, ![8192, 14336]⟩
abbrev S8192x2048 : Shape := ⟨2, ![8192, 2048]⟩
abbrev S8192x8192 : Shape := ⟨2, ![8192, 8192]⟩
abbrev S2048 : Shape := ⟨1, ![2048]⟩
abbrev S8x128x128 : Shape := ⟨3, ![8, 128, 128]⟩
abbrev S8x128 : Shape := ⟨2, ![8, 128]⟩
abbrev S8192x4096 : Shape := ⟨2, ![8192, 4096]⟩
abbrev S_ : Shape := ⟨0, ![]⟩

class Facts : Prop where
  slices_S8192x14336_S8192x4096_0_6144 : S8192x14336.Slices ![0, 6144] S8192x4096
  bcast_S_S8192x4096 : S_.BroadcastsInDim S8192x4096 (![] : Fin 0 → Fin S8192x4096.rank)
  bcast_S_S8192x2048 : S_.BroadcastsInDim S8192x2048 (![] : Fin 0 → Fin S8192x2048.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn_part1 {F : FTy → Type} [FloatOps F] (main_v3 : IVec S8192x4096 1) (main_v6 : IVec S8192x2048 1) (main_v9 : IVec S2048 1) (main_v12 : IVec S2048 1) (main_v15 : IVec S8x128x128 1) (main_v16 : FVec F S8x128 .f32) (main_v17 : FVec F S8x128 .f32) : IVec S8192x4096 1 × IVec S8192x2048 1 × IVec S2048 1 × IVec S2048 1 × IVec S8x128x128 1 × IVec S8x128 1 :=
  let main_v18 : IVec S8x128 1 := cmpf .olt main_v16 main_v17
  (main_v3, main_v6, main_v9, main_v12, main_v15, main_v18)

def fn {F : FTy → Type} [FloatOps F] (main_arg0 : FVec F S8192x14336 .bf16) (main_arg1 : FVec F S8192x2048 .bf16) (main_arg2 : FVec F S8192x8192 .bf16) (main_arg3 : FVec F S2048 .f32) (main_arg4 : FVec F S2048 .f32) (main_arg5 : FVec F S8x128x128 .f32) (main_arg6 : FVec F S8x128 .f32) : IVec S8192x4096 1 × IVec S8192x2048 1 × IVec S2048 1 × IVec S2048 1 × IVec S8x128x128 1 × IVec S8x128 1 :=
  let main_v0 : FVec F S8192x4096 .bf16 := (extractStridedSlice S8192x4096 ![0, 6144] · slices_S8192x14336_S8192x4096_0_6144) main_arg0
  let main_v1 : FVec F S8192x4096 .bf16 := Host.absf main_v0
  let main_cst : FVec F S_ .bf16 := constant S_ .bf16 0x7F80#16
  let main_v2 : FVec F S8192x4096 .bf16 := broadcastInDim S8192x4096 ![] bcast_S_S8192x4096 main_cst
  let main_v3 : IVec S8192x4096 1 := cmpf .olt main_v1 main_v2
  let main_v4 : FVec F S8192x2048 .bf16 := Host.absf main_arg1
  let main_cst_0 : FVec F S_ .bf16 := constant S_ .bf16 0x7F80#16
  let main_v5 : FVec F S8192x2048 .bf16 := broadcastInDim S8192x2048 ![] bcast_S_S8192x2048 main_cst_0
  let main_v6 : IVec S8192x2048 1 := cmpf .olt main_v4 main_v5
  let main_v7 : FVec F S2048 .f32 := Host.absf main_arg3
  let main_cst_1 : FVec F S_ .f32 := constant S_ .f32 0x7F800000#32
  let main_v8 : FVec F S2048 .f32 := broadcastInDim S2048 ![] bcast_S_S2048 main_cst_1
  let main_v9 : IVec S2048 1 := cmpf .olt main_v7 main_v8
  let main_v10 : FVec F S2048 .f32 := Host.absf main_arg4
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  let main_v13 : FVec F S8x128x128 .f32 := Host.absf main_arg5
  let main_cst_3 : FVec F S_ .f32 := constant S_ .f32 0x7F800000#32
  let main_v14 : FVec F S8x128x128 .f32 := broadcastInDim S8x128x128 ![] bcast_S_S8x128x128 main_cst_3
  let main_v15 : IVec S8x128x128 1 := cmpf .olt main_v13 main_v14
  let main_v16 : FVec F S8x128 .f32 := Host.absf main_arg6
  let main_cst_4 : FVec F S_ .f32 := constant S_ .f32 0x7F800000#32
  let main_v17 : FVec F S8x128 .f32 := broadcastInDim S8x128 ![] bcast_S_S8x128 main_cst_4
  fn_part1 (F := F) main_v3 main_v6 main_v9 main_v12 main_v15 main_v16 main_v17
-- ==== Pre_finite11.lean ====
abbrev S8192x5632 : Shape := ⟨2, ![8192, 5632]⟩
abbrev S_ : Shape := ⟨0, ![]⟩

class Facts : Prop where
  bcast_S_S8192x5632 : S_.BroadcastsInDim S8192x5632 (![] : Fin 0 → Fin S8192x5632.rank)

variable [Facts]

def fn {F : FTy → Type} [FloatOps F] (main_arg0 : FVec F S8192x5632 .bf16) (main_arg1 : FVec F S8192x5632 .bf16) (main_arg2 : FVec F S8192x5632 .bf16) : IVec S8192x5632 1 × IVec S8192x5632 1 :=
  let main_v0 : FVec F S8192x5632 .bf16 := Host.absf main_arg1
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_v3 : FVec F S8192x5632 .bf16 := Host.absf main_arg2
  let main_cst_0 : FVec F S_ .bf16 := constant S_ .bf16 0x7F80#16
  let main_v4 : FVec F S8192x5632 .bf16 := broadcastInDim S8192x5632 ![] bcast_S_S8192x5632 main_cst_0
  let main_v5 : IVec S8192x5632 1 := cmpf .olt main_v3 main_v4
  (main_v2, main_v5)
-- ==== Kernel.lean ====
abbrev S8192x14336 : Shape := ⟨2, ![8192, 14336]⟩
abbrev S8192x2048 : Shape := ⟨2, ![8192, 2048]⟩
abbrev S8192x8192 : Shape := ⟨2, ![8192, 8192]⟩
abbrev S2048 : Shape := ⟨1, ![2048]⟩
abbrev S8x128x128 : Shape := ⟨3, ![8, 128, 128]⟩
abbrev S8x128 : Shape := ⟨2, ![8, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x1 : Shape := ⟨3, ![8, 128, 1]⟩
abbrev S1x2048 : Shape := ⟨2, ![1, 2048]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩
abbrev S128x256 : Shape := ⟨2, ![128, 256]⟩
abbrev S1x128x1 : Shape := ⟨3, ![1, 128, 1]⟩

abbrev nBuf : Space → Nat
  | .hbm => 66
  | .vmem => 18
  | .smem => 0
  | _ => 0

abbrev bufTy : (tb : Table) → Fin (tcTables nBuf tb) → BufTy
  | .hbm, ⟨0, _⟩ => ⟨S8192x14336, .bf16⟩
  | .hbm, ⟨1, _⟩ => ⟨S8192x2048, .bf16⟩
  | .hbm, ⟨2, _⟩ => ⟨S8192x8192, .bf16⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S128, .i32⟩
  | .hbm, ⟨8, _⟩ => ⟨S1x128, .i32⟩
  | .hbm, ⟨9, _⟩ => ⟨S_, .i32⟩
  | .hbm, ⟨10, _⟩ => ⟨S_, .i32⟩
  | .hbm, ⟨11, _⟩ => ⟨S1x128, .i32⟩
  | .hbm, ⟨12, _⟩ => ⟨S1x128, .i32⟩
  | .hbm, ⟨13, _⟩ => ⟨S1x128, .i32⟩
  | .hbm, ⟨14, _⟩ => ⟨S_, .i32⟩
  | .hbm, ⟨15, _⟩ => ⟨S1x128, .i32⟩
  | .hbm, ⟨16, _⟩ => ⟨S1x128, .i1⟩
  | .hbm, ⟨17, _⟩ => ⟨S1x128, .i32⟩
  | .hbm, ⟨18, _⟩ => ⟨S1x128, .i32⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S1x128, .i1⟩
  | .hbm, ⟨23, _⟩ => ⟨S_, .i32⟩
  | .hbm, ⟨24, _⟩ => ⟨S1x128, .i32⟩
  | .hbm, ⟨25, _⟩ => ⟨S1x128, .i32⟩
  | .hbm, ⟨26, _⟩ => ⟨S1x128, .i32⟩
  | .hbm, ⟨27, _⟩ => ⟨S128x1, .i32⟩
  | .hbm, ⟨28, _⟩ => ⟨S_, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i1⟩
  | .hbm, ⟨36, _⟩ => ⟨S128x1, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S128x1, .i1⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S128x1, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S1x128x128, .i1⟩
  | .hbm, ⟨50, _⟩ => ⟨S_, .f32⟩
  | .hbm, ⟨51, _⟩ => ⟨S_, .f32⟩
  | .hbm, ⟨52, _⟩ => ⟨S8x128x128, .i1⟩
  | .hbm, ⟨53, _⟩ => ⟨S8x128x128, .f32⟩
  | .hbm, ⟨54, _⟩ => ⟨S8x128x128, .f32⟩
  | .hbm, ⟨55, _⟩ => ⟨S8x128x128, .bf16⟩
  | .hbm, ⟨56, _⟩ => ⟨S8x128x128, .f32⟩
  | .hbm, ⟨57, _⟩ => ⟨S8x128x128, .bf16⟩
  | .hbm, ⟨58, _⟩ => ⟨S8x128x1, .f32⟩
  | .hbm, ⟨59, _⟩ => ⟨S1x2048, .f32⟩
  | .hbm, ⟨60, _⟩ => ⟨S1x2048, .f32⟩
  | .hbm, ⟨61, _⟩ => ⟨S8192x8192, .bf16⟩
  | .hbm, ⟨62, _⟩ => ⟨S1x2048, .f32⟩
  | .hbm, ⟨63, _⟩ => ⟨S1x2048, .f32⟩
  | .hbm, ⟨64, _⟩ => ⟨S8x128x128, .f32⟩
  | .hbm, ⟨65, _⟩ => ⟨S8x128x1, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S8x128x128, .bf16⟩
  | .local _ .vmem, ⟨9, _⟩ => ⟨S8x128x128, .bf16⟩
  | .local _ .vmem, ⟨10, _⟩ => ⟨S8x128x1, .f32⟩
  | .local _ .vmem, ⟨11, _⟩ => ⟨S256x4096, .bf16⟩
  | .local _ .vmem, ⟨12, _⟩ => ⟨S256x4096, .bf16⟩
  | .local _ .vmem, ⟨13, _⟩ => ⟨S1x2048, .f32⟩
  | .local _ .vmem, ⟨14, _⟩ => ⟨S1x2048, .f32⟩
  | .local _ .vmem, ⟨15, _⟩ => ⟨S8x128x128, .f32⟩
  | .local _ .vmem, ⟨16, _⟩ => ⟨S8x128x1, .f32⟩
  | .local _ .vmem, ⟨17, _⟩ => ⟨S256x2048, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16_0 : Ref sig .tc := ⟨.hbm, 61, rfl⟩
abbrev main_v16_1 : Ref sig .tc := ⟨.hbm, 62, rfl⟩
abbrev main_v16_2 : Ref sig .tc := ⟨.hbm, 63, rfl⟩
abbrev main_v16_3 : Ref sig .tc := ⟨.hbm, 64, rfl⟩
abbrev main_v16_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ReferenceIdeal.lean ====
abbrev S8192x14336 : Shape := ⟨2, ![8192, 14336]⟩
abbrev S8192x2048 : Shape := ⟨2, ![8192, 2048]⟩
abbrev S8192x8192 : Shape := ⟨2, ![8192, 8192]⟩
abbrev S2048 : Shape := ⟨1, ![2048]⟩
abbrev S8x128x128 : Shape := ⟨3, ![8, 128, 128]⟩
abbrev S8x128 : Shape := ⟨2, ![8, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S8x64x256x128 : Shape := ⟨4, ![8, 64, 256, 128]⟩
abbrev S128x8 : Shape := ⟨2, ![128, 8]⟩
abbrev S1x128x8x1 : Shape := ⟨4, ![1, 128, 8, 1]⟩
abbrev S8192x4096 : Shape := ⟨2, ![8192, 4096]⟩
abbrev S8x128x1 : Shape := ⟨3, ![8, 128, 1]⟩

abbrev nBuf : Space → Nat
  | .hbm => 231
  | .vmem => 0
  | .smem => 0
  | _ => 0

abbrev hbmTy0_0 (i : Nat) : BufTy := match i % 128 with
  | 0 => ⟨S8192x14336, .bf16⟩
  | 1 => ⟨S8192x2048, .bf16⟩
  | 2 => ⟨S8192x8192, .bf16⟩
  | 3 => ⟨S2048, .f32⟩
  | 4 => ⟨S2048, .f32⟩
  | 5 => ⟨S8x128x128, .f32⟩
  | 6 => ⟨S8x128, .f32⟩
  | 7 => ⟨S8192x2048, .bf16⟩
  | 8 => ⟨S8192x2048, .f32⟩
  | 9 => ⟨S8192x2048, .bf16⟩
  | 10 => ⟨S8192x2048, .f32⟩
  | 11 => ⟨S128, .i32⟩
  | 12 => ⟨S1x128, .i32⟩
  | 13 => ⟨S_, .i32⟩
  | 14 => ⟨S_, .i32⟩
  | 15 => ⟨S1x128, .i32⟩
  | 16 => ⟨S1x128, .i32⟩
  | 17 => ⟨S1x128, .i32⟩
  | 18 => ⟨S_, .i32⟩
  | 19 => ⟨S1x128, .i32⟩
  | 20 => ⟨S1x128, .i1⟩
  | 21 => ⟨S1x128, .i32⟩
  | 22 => ⟨S1x128, .i32⟩
  | 23 => ⟨S_, .i32⟩
  | 24 => ⟨S1x128, .i32⟩
  | 25 => ⟨S1x128, .i1⟩
  | 26 => ⟨S1x128, .i1⟩
  | 27 => ⟨S_, .i32⟩
  | 28 => ⟨S1x128, .i32⟩
  | 29 => ⟨S1x128, .i32⟩
  | 30 => ⟨S1x128, .i32⟩
  | 31 => ⟨S128x1, .i32⟩
  | 32 => ⟨S_, .i32⟩
  | 33 => ⟨S_, .i32⟩
  | 34 => ⟨S128x1, .i32⟩
  | 35 => ⟨S128x1, .i32⟩
  | 36 => ⟨S128x1, .i32⟩
  | 37 => ⟨S_, .i32⟩
  | 38 => ⟨S128x1, .i32⟩
  | 39 => ⟨S128x1, .i1⟩
  | 40 => ⟨S128x1, .i32⟩
  | 41 => ⟨S128x1, .i32⟩
  | 42 => ⟨S_, .i32⟩
  | 43 => ⟨S128x1, .i32⟩
  | 44 => ⟨S128x1, .i1⟩
  | 45 => ⟨S128x1, .i1⟩
  | 46 => ⟨S_, .i32⟩
  | 47 => ⟨S128x1, .i32⟩
  | 48 => ⟨S128x1, .i32⟩
  | 49 => ⟨S128x1, .i32⟩
  | 50 => ⟨S128x128, .i32⟩
  | 51 => ⟨S128x128, .i32⟩
  | 52 => ⟨S128x128, .i1⟩
  | 53 => ⟨S1x128x128, .i1⟩
  | 54 => ⟨S_, .f32⟩
  | 55 => ⟨S8x128x128, .f32⟩
  | 56 => ⟨S8x128x128, .i1⟩
  | 57 => ⟨S8x128x128, .f32⟩
  | 58 => ⟨S_, .f32⟩
  | 59 => ⟨S8192x2048, .f32⟩
  | 60 => ⟨S8192x2048, .f32⟩
  | 61 => ⟨S_, .f32⟩
  | 62 => ⟨S_, .f32⟩
  | 63 => ⟨S8192x2048, .f32⟩
  | 64 => ⟨S8192x2048, .f32⟩
  | 65 => ⟨S8192x2048, .f32⟩
  | 66 => ⟨S_, .f32⟩
  | 67 => ⟨S_, .f32⟩
  | 68 => ⟨S_, .f32⟩
  | 69 => ⟨S_, .f32⟩
  | 70 => ⟨S_, .f32⟩
  | 71 => ⟨S8192x2048, .f32⟩
  | 72 => ⟨S8192x2048, .f32⟩
  | 73 => ⟨S8192x2048, .f32⟩
  | 74 => ⟨S8192x2048, .f32⟩
  | 75 => ⟨S8192x2048, .f32⟩
  | 76 => ⟨S_, .f32⟩
  | 77 => ⟨S8192x2048, .f32⟩
  | 78 => ⟨S8192x2048, .f32⟩
  | 79 => ⟨S8192x2048, .f32⟩
  | 80 => ⟨S_, .f32⟩
  | 81 => ⟨S8192x2048, .f32⟩
  | 82 => ⟨S8192x2048, .f32⟩
  | 83 => ⟨S_, .f32⟩
  | 84 => ⟨S_, .f32⟩
  | 85 => ⟨S8192x2048, .f32⟩
  | 86 => ⟨S8192x2048, .f32⟩
  | 87 => ⟨S8192x2048, .f32⟩
  | 88 => ⟨S_, .f32⟩
  | 89 => ⟨S_, .f32⟩
  | 90 => ⟨S_, .f32⟩
  | 91 => ⟨S_, .f32⟩
  | 92 => ⟨S_, .f32⟩
  | 93 => ⟨S8192x2048, .f32⟩
  | 94 => ⟨S8192x2048, .f32⟩
  | 95 => ⟨S8192x2048, .f32⟩
  | 96 => ⟨S8192x2048, .f32⟩
  | 97 => ⟨S8192x2048, .f32⟩
  | 98 => ⟨S_, .f32⟩
  | 99 => ⟨S8192x2048, .f32⟩
  | 100 => ⟨S8192x2048, .f32⟩
  | 101 => ⟨S8192x2048, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x2048, .f32⟩
  | 109 => ⟨S8192x2048, .f32⟩
  | 110 => ⟨S8192x2048, .f32⟩
  | 111 => ⟨S_, .f32⟩
  | 112 => ⟨S8192x2048, .f32⟩
  | 113 => ⟨S8192x2048, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S8192x2048, .f32⟩
  | 121 => ⟨S8192x2048, .f32⟩
  | 122 => ⟨S_, .f32⟩
  | 123 => ⟨S8192x1, .f32⟩
  | 124 => ⟨S8192x1, .f32⟩
  | 125 => ⟨S8192x1, .f32⟩
  | 126 => ⟨S8192x1, .f32⟩
  | 127 => ⟨S_, .f32⟩
  | _ => ⟨S8192x14336, .bf16⟩

abbrev hbmTy0_1 (i : Nat) : BufTy := match i % 128 with
  | 0 => ⟨S8192x1, .f32⟩
  | 1 => ⟨S8192x1, .f32⟩
  | 2 => ⟨S8192x2048, .f32⟩
  | 3 => ⟨S8192x2048, .f32⟩
  | 4 => ⟨S1x2048, .f32⟩
  | 5 => ⟨S8192x2048, .f32⟩
  | 6 => ⟨S8192x2048, .f32⟩
  | 7 => ⟨S1x2048, .f32⟩
  | 8 => ⟨S8192x2048, .f32⟩
  | 9 => ⟨S8192x2048, .f32⟩
  | 10 => ⟨S64x128x8x256, .f32⟩
  | 11 => ⟨S8x64x256x128, .f32⟩
  | 12 => ⟨S64x128x8x256, .f32⟩
  | 13 => ⟨S128x8, .f32⟩
  | 14 => ⟨S1x128x8x1, .f32⟩
  | 15 => ⟨S64x128x8x256, .f32⟩
  | 16 => ⟨S64x128x8x256, .f32⟩
  | 17 => ⟨S8192x2048, .f32⟩
  | 18 => ⟨S8192x2048, .f32⟩
  | 19 => ⟨S8192x2048, .f32⟩
  | 20 => ⟨S8192x2048, .f32⟩
  | 21 => ⟨S8192x2048, .f32⟩
  | 22 => ⟨S64x128x8x256, .f32⟩
  | 23 => ⟨S_, .f32⟩
  | 24 => ⟨S128x8, .f32⟩
  | 25 => ⟨S1x128x8x1, .f32⟩
  | 26 => ⟨S_, .f32⟩
  | 27 => ⟨S128x8, .f32⟩
  | 28 => ⟨S8x128, .f32⟩
  | 29 => ⟨S8x64x256x128, .f32⟩
  | 30 => ⟨S8x128x128, .f32⟩
  | 31 => ⟨S8x64x256x128, .f32⟩
  | 32 => ⟨S64x128x8x256, .f32⟩
  | 33 => ⟨S8192x2048, .f32⟩
  | 34 => ⟨S_, .f32⟩
  | 35 => ⟨S2048, .f32⟩
  | 36 => ⟨S1x2048, .f32⟩
  | 37 => ⟨S_, .f32⟩
  | 38 => ⟨S2048, .f32⟩
  | 39 => ⟨S8192x2048, .f32⟩
  | 40 => ⟨S_, .f32⟩
  | 41 => ⟨S2048, .f32⟩
  | 42 => ⟨S1x2048, .f32⟩
  | 43 => ⟨S8192x2048, .f32⟩
  | 44 => ⟨S8192x2048, .f32⟩
  | 45 => ⟨S_, .f32⟩
  | 46 => ⟨S2048, .f32⟩
  | 47 => ⟨S8192x2048, .f32⟩
  | 48 => ⟨S_, .f32⟩
  | 49 => ⟨S8192, .f32⟩
  | 50 => ⟨S8192x1, .f32⟩
  | 51 => ⟨S8192x2048, .f32⟩
  | 52 => ⟨S8192x2048, .f32⟩
  | 53 => ⟨S8192x1, .f32⟩
  | 54 => ⟨S8192x2048, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192, .f32⟩
  | 63 => ⟨S8192x2048, .f32⟩
  | 64 => ⟨S8192x2048, .f32⟩
  | 65 => ⟨S8192x2048, .f32⟩
  | 66 => ⟨S_, .f32⟩
  | 67 => ⟨S8192, .f32⟩
  | 68 => ⟨S8192x1, .f32⟩
  | 69 => ⟨S8192x2048, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192, .f32⟩
  | 76 => ⟨S8192x2048, .f32⟩
  | 77 => ⟨S8192x2048, .f32⟩
  | 78 => ⟨S8192x2048, .f32⟩
  | 79 => ⟨S8192x2048, .f32⟩
  | 80 => ⟨S8192x2048, .f32⟩
  | 81 => ⟨S8192x2048, .f32⟩
  | 82 => ⟨S8192x2048, .f32⟩
  | 83 => ⟨S_, .f32⟩
  | 84 => ⟨S8192x2048, .f32⟩
  | 85 => ⟨S8192x2048, .f32⟩
  | 86 => ⟨S8192x2048, .f32⟩
  | 87 => ⟨S8192x2048, .f32⟩
  | 88 => ⟨S8192x2048, .f32⟩
  | 89 => ⟨S8192x2048, .f32⟩
  | 90 => ⟨S8192x2048, .f32⟩
  | 91 => ⟨S8192x2048, .f32⟩
  | 92 => ⟨S_, .f32⟩
  | 93 => ⟨S8192x2048, .f32⟩
  | 94 => ⟨S8192x2048, .f32⟩
  | 95 => ⟨S8192x2048, .f32⟩
  | 96 => ⟨S8192x2048, .bf16⟩
  | 97 => ⟨S8192x2048, .bf16⟩
  | 98 => ⟨S8192x4096, .bf16⟩
  | 99 => ⟨S8192x8192, .bf16⟩
  | 100 => ⟨S1x2048, .f32⟩
  | 101 => ⟨S1x2048, .f32⟩
  | 102 => ⟨S8x128x1, .f32⟩
  | _ => ⟨S8192x14336, .bf16⟩

abbrev hbmTy (i : Nat) : BufTy := match i / 128 with
  | 0 => hbmTy0_0 i
  | 1 => hbmTy0_1 i
  | _ => ⟨S8192x14336, .bf16⟩

abbrev bufTy : (tb : Table) → Fin (tcTables nBuf tb) → BufTy
  | .hbm, ⟨i, _⟩ => hbmTy i
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_v7 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst : Ref sig .tc := ⟨.hbm, 54, rfl⟩
abbrev main_v13 : Ref sig .tc := ⟨.hbm, 55, rfl⟩
abbrev main_call2_v0 : Ref sig .tc := ⟨.hbm, 56, rfl⟩
abbrev main_v14 : Ref sig .tc := ⟨.hbm, 57, rfl⟩
abbrev main_cst_1 : Ref sig .tc := ⟨.hbm, 58, rfl⟩
abbrev main_v15 : Ref sig .tc := ⟨.hbm, 59, rfl⟩
abbrev main_v16 : Ref sig .tc := ⟨.hbm, 60, rfl⟩
abbrev main_cst_2 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_5 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_6 : Ref sig .tc := ⟨.hbm, 80, rfl⟩
abbrev main_v32 : Ref sig .tc := ⟨.hbm, 81, rfl⟩
abbrev main_v33 : Ref sig .tc := ⟨.hbm, 82, rfl⟩
abbrev main_cst_7 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_8 : Ref sig .tc := ⟨.hbm, 88, rfl⟩
abbrev main_v38 : Ref sig .tc := ⟨.hbm, 89, rfl⟩
abbrev main_v39 : Ref sig .tc := ⟨.hbm, 90, rfl⟩
abbrev main_cst_9 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_cst_10 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_11 : Ref sig .tc := ⟨.hbm, 102, rfl⟩
abbrev main_v49 : Ref sig .tc := ⟨.hbm, 103, rfl⟩
abbrev main_v50 : Ref sig .tc := ⟨.hbm, 104, rfl⟩
abbrev main_cst_12 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_13 : Ref sig .tc := ⟨.hbm, 111, rfl⟩
abbrev main_v56 : Ref sig .tc := ⟨.hbm, 112, rfl⟩
abbrev main_v57 : Ref sig .tc := ⟨.hbm, 113, rfl⟩
abbrev main_cst_14 : Ref sig .tc := ⟨.hbm, 114, rfl⟩
abbrev main_v58 : Ref sig .tc := ⟨.hbm, 115, rfl⟩
abbrev main_v59 : Ref sig .tc := ⟨.hbm, 116, rfl⟩
abbrev main_cst_15 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_16 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_cst_17 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_cst_18 : Ref sig .tc := ⟨.hbm, 151, rfl⟩
abbrev main_v91 : Ref sig .tc := ⟨.hbm, 152, rfl⟩
abbrev main_v92 : Ref sig .tc := ⟨.hbm, 153, rfl⟩
abbrev main_cst_19 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_20 : Ref sig .tc := ⟨.hbm, 162, rfl⟩
abbrev main_v100 : Ref sig .tc := ⟨.hbm, 163, rfl⟩
abbrev main_v101 : Ref sig .tc := ⟨.hbm, 164, rfl⟩
abbrev main_cst_21 : Ref sig .tc := ⟨.hbm, 165, rfl⟩
abbrev main_v102 : Ref sig .tc := ⟨.hbm, 166, rfl⟩
abbrev main_v103 : Ref sig .tc := ⟨.hbm, 167, rfl⟩
abbrev main_cst_22 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_cst_23 : Ref sig .tc := ⟨.hbm, 173, rfl⟩
abbrev main_v108 : Ref sig .tc := ⟨.hbm, 174, rfl⟩
abbrev main_v109 : Ref sig .tc := ⟨.hbm, 175, rfl⟩
abbrev main_cst_24 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_cst_25 : Ref sig .tc := ⟨.hbm, 183, rfl⟩
abbrev main_v116 : Ref sig .tc := ⟨.hbm, 184, rfl⟩
abbrev main_v117 : Ref sig .tc := ⟨.hbm, 185, rfl⟩
abbrev main_cst_26 : Ref sig .tc := ⟨.hbm, 186, rfl⟩
abbrev main_v118 : Ref sig .tc := ⟨.hbm, 187, rfl⟩
abbrev main_v119 : Ref sig .tc := ⟨.hbm, 188, rfl⟩
abbrev main_cst_27 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_cst_28 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_cst_29 : Ref sig .tc := ⟨.hbm, 199, rfl⟩
abbrev main_v128 : Ref sig .tc := ⟨.hbm, 200, rfl⟩
abbrev main_v129 : Ref sig .tc := ⟨.hbm, 201, rfl⟩
abbrev main_cst_30 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_cst_31 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_cst_32 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩

abbrev nD : Nat := 1
abbrev τ : Topo := Topo.v7x

variable {F : FTy → Type} [FloatOps F]
-- ==== Kernel2.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x11264 : Shape := ⟨2, ![8192, 11264]⟩
abbrev S2048x11264 : Shape := ⟨2, ![2048, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S_, .f32⟩
  | .hbm, ⟨3, _⟩ => ⟨S8192x2048, .f32⟩
  | .hbm, ⟨4, _⟩ => ⟨S2048x11264, .f32⟩
  | .hbm, ⟨5, _⟩ => ⟨S8192x11264, .f32⟩
  | .hbm, ⟨6, _⟩ => ⟨S8192x11264, .f32⟩
  | .hbm, ⟨7, _⟩ => ⟨S8192x2048, .f32⟩
  | .hbm, ⟨8, _⟩ => ⟨S8192x2048, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x2048 : Shape := ⟨2, ![8192, 2048]⟩
abbrev S8192x11264 : Shape := ⟨2, ![8192, 11264]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .f32⟩
  | .hbm, ⟨3, _⟩ => ⟨S2048x11264, .f32⟩
  | .hbm, ⟨4, _⟩ => ⟨S8192x2048, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x6144 : Shape := ⟨2, ![8192, 6144]⟩
abbrev S2048x14336 : Shape := ⟨2, ![2048, 14336]⟩
abbrev S8192x2048 : Shape := ⟨2, ![8192, 2048]⟩
abbrev S1024x3072 : Shape := ⟨2, ![1024, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x6144, .bf16⟩
  | .hbm, ⟨1, _⟩ => ⟨S2048x14336, .bf16⟩
  | .hbm, ⟨2, _⟩ => ⟨S8192x2048, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x6144 : Shape := ⟨2, ![8192, 6144]⟩
abbrev S2048x14336 : Shape := ⟨2, ![2048, 14336]⟩
abbrev S2048x6144 : Shape := ⟨2, ![2048, 6144]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x14336, .bf16⟩
  | .hbm, ⟨2, _⟩ => ⟨S2048x6144, .bf16⟩
  | .hbm, ⟨3, _⟩ => ⟨S_, .f32⟩
  | .hbm, ⟨4, _⟩ => ⟨S8192x2048, .f32⟩
  | .hbm, ⟨5, _⟩ => ⟨S2048x6144, .f32⟩
  | .hbm, ⟨6, _⟩ => ⟨S8192x6144, .f32⟩
  | .hbm, ⟨7, _⟩ => ⟨S8192x6144, .f32⟩
  | .hbm, ⟨8, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x8192 : Shape := ⟨2, ![8192, 8192]⟩
abbrev S2048x14336 : Shape := ⟨2, ![2048, 14336]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S2048x14336, .bf16⟩
  | .hbm, ⟨2, _⟩ => ⟨S8192x2048, .f32⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x8192 : Shape := ⟨2, ![8192, 8192]⟩
abbrev S2048x14336 : Shape := ⟨2, ![2048, 14336]⟩
abbrev S8192x2048 : Shape := ⟨2, ![8192, 2048]⟩
abbrev S2048x8192 : Shape := ⟨2, ![2048, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x14336, .bf16⟩
  | .hbm, ⟨2, _⟩ => ⟨S8192x2048, .f32⟩
  | .hbm, ⟨3, _⟩ => ⟨S2048x8192, .bf16⟩
  | .hbm, ⟨4, _⟩ => ⟨S_, .f32⟩
  | .hbm, ⟨5, _⟩ => ⟨S8192x2048, .f32⟩
  | .hbm, ⟨6, _⟩ => ⟨S2048x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel10.lean ====
abbrev S8192x2048 : Shape := ⟨2, ![8192, 2048]⟩
abbrev S8192x8192 : Shape := ⟨2, ![8192, 8192]⟩
abbrev S2048x14336 : Shape := ⟨2, ![2048, 14336]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x14336, .f32⟩
  | .hbm, ⟨3, _⟩ => ⟨S2048x14336, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S8192x8192 : Shape := ⟨2, ![8192, 8192]⟩
abbrev S2048x14336 : Shape := ⟨2, ![2048, 14336]⟩
abbrev S2048x6144 : Shape := ⟨2, ![2048, 6144]⟩
abbrev S_ : Shape := ⟨0, ![]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x14336, .f32⟩
  | .hbm, ⟨3, _⟩ => ⟨S2048x6144, .f32⟩
  | .hbm, ⟨4, _⟩ => ⟨S_, .f32⟩
  | .hbm, ⟨5, _⟩ => ⟨S2048x8192, .f32⟩
  | .hbm, ⟨6, _⟩ => ⟨S8192x2048, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S2048x14336, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel11.lean ====
abbrev S8192x5632 : Shape := ⟨2, ![8192, 5632]⟩
abbrev S8192x11264 : Shape := ⟨2, ![8192, 11264]⟩
abbrev S256x5632 : Shape := ⟨2, ![256, 5632]⟩
abbrev S256x11264 : Shape := ⟨2, ![256, 11264]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S8192x11264, .bf16⟩
  | .local _ .vmem, ⟨0, _⟩ => ⟨S256x5632, .bf16⟩
  | .local _ .vmem, ⟨1, _⟩ => ⟨S256x5632, .bf16⟩
  | .local _ .vmem, ⟨2, _⟩ => ⟨S256x5632, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x11264, .bf16⟩
  | .local _ .vmem, ⟨7, _⟩ => ⟨S256x11264, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8192x5632 : Shape := ⟨2, ![8192, 5632]⟩
abbrev S_ : Shape := ⟨0, ![]⟩
abbrev S8192x11264 : Shape := ⟨2, ![8192, 11264]⟩

abbrev nBuf : Space → Nat
  | .hbm => 28
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x11264, .f32⟩
  | .hbm, ⟨27, _⟩ => ⟨S8192x11264, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel12.lean ====
abbrev S8192x2048 : Shape := ⟨2, ![8192, 2048]⟩
abbrev S8192x14336 : Shape := ⟨2, ![8192, 14336]⟩
abbrev S8192x8192 : Shape := ⟨2, ![8192, 8192]⟩
abbrev S256x2048 : Shape := ⟨2, ![256, 2048]⟩
abbrev S256x4096 : Shape := ⟨2, ![256, 4096]⟩
abbrev S8192x4096 : Shape := ⟨2, ![8192, 4096]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x14336, .bf16⟩
  | .hbm, ⟨4, _⟩ => ⟨S8192x2048, .bf16⟩
  | .hbm, ⟨5, _⟩ => ⟨S8192x2048, .bf16⟩
  | .hbm, ⟨6, _⟩ => ⟨S8192x8192, .bf16⟩
  | .hbm, ⟨7, _⟩ => ⟨S8192x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8192x2048 : Shape := ⟨2, ![8192, 2048]⟩
abbrev S8192x14336 : Shape := ⟨2, ![8192, 14336]⟩
abbrev S_ : Shape := ⟨0, ![]⟩
abbrev S8192x4096 : Shape := ⟨2, ![8192, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x14336, .bf16⟩
  | .hbm, ⟨4, _⟩ => ⟨S8192x2048, .bf16⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | .hbm, ⟨45, _⟩ => ⟨S8192x2048, .bf16⟩
  | .hbm, ⟨46, _⟩ => ⟨S8192x4096, .f32⟩
  | .hbm, ⟨47, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel13.lean ====
abbrev S8192x2048 : Shape := ⟨2, ![8192, 2048]⟩
abbrev S2048x11264 : Shape := ⟨2, ![2048, 11264]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S8192x5632, .bf16⟩
  | .hbm, ⟨8, _⟩ => ⟨S8192x5632, .bf16⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S8192x14336 : Shape := ⟨2, ![8192, 14336]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x14336, .bf16⟩
  | .hbm, ⟨4, _⟩ => ⟨S8192x2048, .bf16⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S8192x2048 : Shape := ⟨2, ![8192, 2048]⟩
abbrev S2048x2048 : Shape := ⟨2, ![2048, 2048]⟩
abbrev S8192x14336 : Shape := ⟨2, ![8192, 14336]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x14336, .bf16⟩
  | .hbm, ⟨4, _⟩ => ⟨S8192x2048, .bf16⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x2048 : Shape := ⟨2, ![8192, 2048]⟩
abbrev S2048x14336 : Shape := ⟨2, ![2048, 14336]⟩
abbrev S8192x14336 : Shape := ⟨2, ![8192, 14336]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x14336, .bf16⟩
  | .hbm, ⟨2, _⟩ => ⟨S8192x14336, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S2048x14336 : Shape := ⟨2, ![2048, 14336]⟩
abbrev S8192x14336 : Shape := ⟨2, ![8192, 14336]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x14336, .bf16⟩
  | .hbm, ⟨2, _⟩ => ⟨S8192x2048, .f32⟩
  | .hbm, ⟨3, _⟩ => ⟨S2048x14336, .f32⟩
  | .hbm, ⟨4, _⟩ => ⟨S8192x14336, .f32⟩
  | .hbm, ⟨5, _⟩ => ⟨S8192x14336, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S8192x2048 : Shape := ⟨2, ![8192, 2048]⟩
abbrev S8192x6144 : Shape := ⟨2, ![8192, 6144]⟩
abbrev S2048x14336 : Shape := ⟨2, ![2048, 14336]⟩
abbrev S2048x1024 : Shape := ⟨2, ![2048, 1024]⟩
abbrev S1024x1024 : Shape := ⟨2, ![1024, 1024]⟩
abbrev S2048x6144 : Shape := ⟨2, ![2048, 6144]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x14336, .f32⟩
  | .hbm, ⟨3, _⟩ => ⟨S2048x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S8192x2048, .f32⟩
  | .hbm, ⟨5, _⟩ => ⟨S8192x6144, .f32⟩
  | .hbm, ⟨6, _⟩ => ⟨S8192x6144, .f32⟩
  | .hbm, ⟨7, _⟩ => ⟨S6144x2048, .f32⟩
  | .hbm, ⟨8, _⟩ => ⟨S2048x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .bf16⟩
  | .hbm, ⟨52, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel21.lean ====
abbrev S8192x3584 : Shape := ⟨2, ![8192, 3584]⟩
abbrev S128x3584 : Shape := ⟨2, ![128, 3584]⟩

abbrev nBuf : Space → Nat
  | .hbm => 7
  | .vmem => 14
  | .smem => 0
  | _ => 0

abbrev bufTy : (tb : Table) → Fin (tcTables nBuf tb) → BufTy
  | .hbm, ⟨0, _⟩ => ⟨S8192x3584, .f32⟩
  | .hbm, ⟨1, _⟩ => ⟨S8192x3584, .f32⟩
  | .hbm, ⟨2, _⟩ => ⟨S8192x3584, .f32⟩
  | .hbm, ⟨3, _⟩ => ⟨S8192x3584, .f32⟩
  | .hbm, ⟨4, _⟩ => ⟨S8192x3584, .f32⟩
  | .hbm, ⟨5, _⟩ => ⟨S8192x3584, .f32⟩
  | .hbm, ⟨6, _⟩ => ⟨S8192x3584, .f32⟩
  | .local _ .vmem, ⟨0, _⟩ => ⟨S128x3584, .f32⟩
  | .local _ .vmem, ⟨1, _⟩ => ⟨S128x3584, .f32⟩
  | .local _ .vmem, ⟨2, _⟩ => ⟨S128x3584, .f32⟩
  | .local _ .vmem, ⟨3, _⟩ => ⟨S128x3584, .f32⟩
  | .local _ .vmem, ⟨4, _⟩ => ⟨S128x3584, .f32⟩
  | .local _ .vmem, ⟨5, _⟩ => ⟨S128x3584, .f32⟩
  | .local _ .vmem, ⟨6, _⟩ => ⟨S128x3584, .f32⟩
  | .local _ .vmem, ⟨7, _⟩ => ⟨S128x3584, .f32⟩
  | .local _ .vmem, ⟨8, _⟩ => ⟨S128x3584, .f32⟩
  | .local _ .vmem, ⟨9, _⟩ => ⟨S128x3584, .f32⟩
  | .local _ .vmem, ⟨10, _⟩ => ⟨S128x3584, .f32⟩
  | .local _ .vmem, ⟨11, _⟩ => ⟨S128x3584, .f32⟩
  | .local _ .vmem, ⟨12, _⟩ => ⟨S128x3584, .f32⟩
  | .local _ .vmem, ⟨13, _⟩ => ⟨S128x3584, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel21Ideal.lean ====
abbrev S8192x3584 : Shape := ⟨2, ![8192, 3584]⟩
abbrev S128x3584 : Shape := ⟨2, ![128, 3584]⟩

abbrev nBuf : Space → Nat
  | .hbm => 7
  | .vmem => 14
  | .smem => 0
  | _ => 0

abbrev bufTy : (tb : Table) → Fin (tcTables nBuf tb) → BufTy
  | .hbm, ⟨0, _⟩ => ⟨S8192x3584, .f32⟩
  | .hbm, ⟨1, _⟩ => ⟨S8192x3584, .f32⟩
  | .hbm, ⟨2, _⟩ => ⟨S8192x3584, .f32⟩
  | .hbm, ⟨3, _⟩ => ⟨S8192x3584, .f32⟩
  | .hbm, ⟨4, _⟩ => ⟨S8192x3584, .f32⟩
  | .hbm, ⟨5, _⟩ => ⟨S8192x3584, .f32⟩
  | .hbm, ⟨6, _⟩ => ⟨S8192x3584, .f32⟩
  | .local _ .vmem, ⟨0, _⟩ => ⟨S128x3584, .f32⟩
  | .local _ .vmem, ⟨1, _⟩ => ⟨S128x3584, .f32⟩
  | .local _ .vmem, ⟨2, _⟩ => ⟨S128x3584, .f32⟩
  | .local _ .vmem, ⟨3, _⟩ => ⟨S128x3584, .f32⟩
  | .local _ .vmem, ⟨4, _⟩ => ⟨S128x3584, .f32⟩
  | .local _ .vmem, ⟨5, _⟩ => ⟨S128x3584, .f32⟩
  | .local _ .vmem, ⟨6, _⟩ => ⟨S128x3584, .f32⟩
  | .local _ .vmem, ⟨7, _⟩ => ⟨S128x3584, .f32⟩
  | .local _ .vmem, ⟨8, _⟩ => ⟨S128x3584, .f32⟩
  | .local _ .vmem, ⟨9, _⟩ => ⟨S128x3584, .f32⟩
  | .local _ .vmem, ⟨10, _⟩ => ⟨S128x3584, .f32⟩
  | .local _ .vmem, ⟨11, _⟩ => ⟨S128x3584, .f32⟩
  | .local _ .vmem, ⟨12, _⟩ => ⟨S128x3584, .f32⟩
  | .local _ .vmem, ⟨13, _⟩ => ⟨S128x3584, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S8192x3584 : Shape := ⟨2, ![8192, 3584]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S8192x3584, .f32⟩
  | .hbm, ⟨2, _⟩ => ⟨S8192x3584, .f32⟩
  | .hbm, ⟨3, _⟩ => ⟨S8192x3584, .f32⟩
  | .hbm, ⟨4, _⟩ => ⟨S_, .f32⟩
  | .hbm, ⟨5, _⟩ => ⟨S8192x3584, .f32⟩
  | .hbm, ⟨6, _⟩ => ⟨S8192x3584, .f32⟩
  | .hbm, ⟨7, _⟩ => ⟨S_, .f32⟩
  | .hbm, ⟨8, _⟩ => ⟨S8192x3584, .f32⟩
  | .hbm, ⟨9, _⟩ => ⟨S8192x3584, .f32⟩
  | .hbm, ⟨10, _⟩ => ⟨S8192x3584, .f32⟩
  | .hbm, ⟨11, _⟩ => ⟨S_, .f32⟩
  | .hbm, ⟨12, _⟩ => ⟨S8192x3584, .f32⟩
  | .hbm, ⟨13, _⟩ => ⟨S8192x3584, .f32⟩
  | .hbm, ⟨14, _⟩ => ⟨S8192x3584, .f32⟩
  | .hbm, ⟨15, _⟩ => ⟨S_, .f32⟩
  | .hbm, ⟨16, _⟩ => ⟨S8192x3584, .f32⟩
  | .hbm, ⟨17, _⟩ => ⟨S8192x3584, .f32⟩
  | .hbm, ⟨18, _⟩ => ⟨S8192x3584, .f32⟩
  | .hbm, ⟨19, _⟩ => ⟨S_, .f32⟩
  | .hbm, ⟨20, _⟩ => ⟨S8192x3584, .f32⟩
  | .hbm, ⟨21, _⟩ => ⟨S8192x3584, .f32⟩
  | .hbm, ⟨22, _⟩ => ⟨S_, .f32⟩
  | .hbm, ⟨23, _⟩ => ⟨S8192x3584, .f32⟩
  | .hbm, ⟨24, _⟩ => ⟨S8192x3584, .f32⟩
  | .hbm, ⟨25, _⟩ => ⟨S8192x3584, .f32⟩
  | .hbm, ⟨26, _⟩ => ⟨S_, .f32⟩
  | .hbm, ⟨27, _⟩ => ⟨S8192x3584, .f32⟩
  | .hbm, ⟨28, _⟩ => ⟨S8192x3584, .f32⟩
  | .hbm, ⟨29, _⟩ => ⟨S8192x3584, .f32⟩
  | .hbm, ⟨30, _⟩ => ⟨S_, .f32⟩
  | .hbm, ⟨31, _⟩ => ⟨S8192x3584, .f32⟩
  | .hbm, ⟨32, _⟩ => ⟨S8192x3584, .f32⟩
  | .hbm, ⟨33, _⟩ => ⟨S8192x3584, .f32⟩
  | .hbm, ⟨34, _⟩ => ⟨S_, .f32⟩
  | .hbm, ⟨35, _⟩ => ⟨S8192x3584, .f32⟩
  | .hbm, ⟨36, _⟩ => ⟨S8192x3584, .f32⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel22Ideal.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S8192x2816 : Shape := ⟨2, ![8192, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel23Ideal.lean ====
abbrev S8192x2816 : Shape := ⟨2, ![8192, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S_, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S5632x2048 : Shape := ⟨2, ![5632, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel24Ideal.lean ====
abbrev S5632x2048 : Shape := ⟨2, ![5632, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S5632x2048 : Shape := ⟨2, ![5632, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S_, .f32⟩
  | .hbm, ⟨5, _⟩ => ⟨S5632x2048, .f32⟩
  | .hbm, ⟨6, _⟩ => ⟨S5632x2048, .f32⟩
  | .hbm, ⟨7, _⟩ => ⟨S_, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S_, .f32⟩
  | .hbm, ⟨12, _⟩ => ⟨S5632x2048, .f32⟩
  | .hbm, ⟨13, _⟩ => ⟨S5632x2048, .f32⟩
  | .hbm, ⟨14, _⟩ => ⟨S5632x2048, .f32⟩
  | .hbm, ⟨15, _⟩ => ⟨S_, .f32⟩
  | .hbm, ⟨16, _⟩ => ⟨S5632x2048, .f32⟩
  | .hbm, ⟨17, _⟩ => ⟨S5632x2048, .f32⟩
  | .hbm, ⟨18, _⟩ => ⟨S5632x2048, .f32⟩
  | .hbm, ⟨19, _⟩ => ⟨S_, .f32⟩
  | .hbm, ⟨20, _⟩ => ⟨S5632x2048, .f32⟩
  | .hbm, ⟨21, _⟩ => ⟨S5632x2048, .f32⟩
  | .hbm, ⟨22, _⟩ => ⟨S_, .f32⟩
  | .hbm, ⟨23, _⟩ => ⟨S5632x2048, .f32⟩
  | .hbm, ⟨24, _⟩ => ⟨S5632x2048, .f32⟩
  | .hbm, ⟨25, _⟩ => ⟨S5632x2048, .f32⟩
  | .hbm, ⟨26, _⟩ => ⟨S_, .f32⟩
  | .hbm, ⟨27, _⟩ => ⟨S5632x2048, .f32⟩
  | .hbm, ⟨28, _⟩ => ⟨S5632x2048, .f32⟩
  | .hbm, ⟨29, _⟩ => ⟨S5632x2048, .f32⟩
  | .hbm, ⟨30, _⟩ => ⟨S_, .f32⟩
  | .hbm, ⟨31, _⟩ => ⟨S5632x2048, .f32⟩
  | .hbm, ⟨32, _⟩ => ⟨S5632x2048, .f32⟩
  | .hbm, ⟨33, _⟩ => ⟨S5632x2048, .f32⟩
  | .hbm, ⟨34, _⟩ => ⟨S_, .f32⟩
  | .hbm, ⟨35, _⟩ => ⟨S5632x2048, .f32⟩
  | .hbm, ⟨36, _⟩ => ⟨S5632x2048, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4464x128 : Shape := ⟨2, ![4464, 128]⟩
abbrev S48x128 : Shape := ⟨2, ![48, 128]⟩

abbrev nBuf : Space → Nat
  | .hbm => 7
  | .vmem => 14
  | .smem => 0
  | _ => 0

abbrev bufTy : (tb : Table) → Fin (tcTables nBuf tb) → BufTy
  | .hbm, ⟨0, _⟩ => ⟨S4464x128, .f32⟩
  | .hbm, ⟨1, _⟩ => ⟨S4464x128, .f32⟩
  | .hbm, ⟨2, _⟩ => ⟨S4464x128, .f32⟩
  | .hbm, ⟨3, _⟩ => ⟨S4464x128, .f32⟩
  | .hbm, ⟨4, _⟩ => ⟨S4464x128, .f32⟩
  | .hbm, ⟨5, _⟩ => ⟨S4464x128, .f32⟩
  | .hbm, ⟨6, _⟩ => ⟨S4464x128, .f32⟩
  | .local _ .vmem, ⟨0, _⟩ => ⟨S48x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S48x128, .f32⟩
  | .local _ .vmem, ⟨5, _⟩ => ⟨S48x128, .f32⟩
  | .local _ .vmem, ⟨6, _⟩ => ⟨S48x128, .f32⟩
  | .local _ .vmem, ⟨7, _⟩ => ⟨S48x128, .f32⟩
  | .local _ .vmem, ⟨8, _⟩ => ⟨S48x128, .f32⟩
  | .local _ .vmem, ⟨9, _⟩ => ⟨S48x128, .f32⟩
  | .local _ .vmem, ⟨10, _⟩ => ⟨S48x128, .f32⟩
  | .local _ .vmem, ⟨11, _⟩ => ⟨S48x128, .f32⟩
  | .local _ .vmem, ⟨12, _⟩ => ⟨S48x128, .f32⟩
  | .local _ .vmem, ⟨13, _⟩ => ⟨S48x128, .f32⟩
  | _, _ => ⟨S4464x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![93], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S48x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S48x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S48x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S4464x128 : Shape := ⟨2, ![4464, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4464x128, .f32⟩
  | .hbm, ⟨1, _⟩ => ⟨S4464x128, .f32⟩
  | .hbm, ⟨2, _⟩ => ⟨S4464x128, .f32⟩
  | .hbm, ⟨3, _⟩ => ⟨S4464x128, .f32⟩
  | .hbm, ⟨4, _⟩ => ⟨S_, .f32⟩
  | .hbm, ⟨5, _⟩ => ⟨S4464x128, .f32⟩
  | .hbm, ⟨6, _⟩ => ⟨S4464x128, .f32⟩
  | .hbm, ⟨7, _⟩ => ⟨S_, .f32⟩
  | .hbm, ⟨8, _⟩ => ⟨S4464x128, .f32⟩
  | .hbm, ⟨9, _⟩ => ⟨S4464x128, .f32⟩
  | .hbm, ⟨10, _⟩ => ⟨S4464x128, .f32⟩
  | .hbm, ⟨11, _⟩ => ⟨S_, .f32⟩
  | .hbm, ⟨12, _⟩ => ⟨S4464x128, .f32⟩
  | .hbm, ⟨13, _⟩ => ⟨S4464x128, .f32⟩
  | .hbm, ⟨14, _⟩ => ⟨S4464x128, .f32⟩
  | .hbm, ⟨15, _⟩ => ⟨S_, .f32⟩
  | .hbm, ⟨16, _⟩ => ⟨S4464x128, .f32⟩
  | .hbm, ⟨17, _⟩ => ⟨S4464x128, .f32⟩
  | .hbm, ⟨18, _⟩ => ⟨S4464x128, .f32⟩
  | .hbm, ⟨19, _⟩ => ⟨S_, .f32⟩
  | .hbm, ⟨20, _⟩ => ⟨S4464x128, .f32⟩
  | .hbm, ⟨21, _⟩ => ⟨S4464x128, .f32⟩
  | .hbm, ⟨22, _⟩ => ⟨S_, .f32⟩
  | .hbm, ⟨23, _⟩ => ⟨S4464x128, .f32⟩
  | .hbm, ⟨24, _⟩ => ⟨S4464x128, .f32⟩
  | .hbm, ⟨25, _⟩ => ⟨S4464x128, .f32⟩
  | .hbm, ⟨26, _⟩ => ⟨S_, .f32⟩
  | .hbm, ⟨27, _⟩ => ⟨S4464x128, .f32⟩
  | .hbm, ⟨28, _⟩ => ⟨S4464x128, .f32⟩
  | .hbm, ⟨29, _⟩ => ⟨S4464x128, .f32⟩
  | .hbm, ⟨30, _⟩ => ⟨S_, .f32⟩
  | .hbm, ⟨31, _⟩ => ⟨S4464x128, .f32⟩
  | .hbm, ⟨32, _⟩ => ⟨S4464x128, .f32⟩
  | .hbm, ⟨33, _⟩ => ⟨S4464x128, .f32⟩
  | .hbm, ⟨34, _⟩ => ⟨S_, .f32⟩
  | .hbm, ⟨35, _⟩ => ⟨S4464x128, .f32⟩
  | .hbm, ⟨36, _⟩ => ⟨S4464x128, .f32⟩
  | _, _ => ⟨S4464x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S8192x2048 : Shape := ⟨2, ![8192, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference26Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .bf16⟩
  | .hbm, ⟨72, _⟩ => ⟨S1x2048, .f32⟩
  | .hbm, ⟨73, _⟩ => ⟨S8192x2048, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x2048, .f32⟩
  | .hbm, ⟨85, _⟩ => ⟨S8192x2048, .f32⟩
  | .hbm, ⟨86, _⟩ => ⟨S1x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S_, .f32⟩
  | .hbm, ⟨92, _⟩ => ⟨S_, .f32⟩
  | .hbm, ⟨93, _⟩ => ⟨S1x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_cst_17 : Ref sig .tc := ⟨.hbm, 77, rfl⟩
abbrev main_v56 : Ref sig .tc := ⟨.hbm, 78, rfl⟩
abbrev main_v57 : Ref sig .tc := ⟨.hbm, 79, rfl⟩
abbrev main_cst_18 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_19 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Kernel27.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Spec.lean ====
/-
  The gradient of the spatial gating unit over the real numbers. Every array is a function of its coordinates as natural
  numbers; a row of the sequence is `n`, a channel is `c`; a spatial block is 128 consecutive rows, a channel group 256
  consecutive channels. Both programs are read against these functions: the kernel's closed forms on one side, the chain
  rule's own terms on the other.
-/
module

public import Idealize.ShloMosaic.PureOps.Ideal.Laws

@[expose] public section

noncomputable section

namespace Cert.Spec

/-- The error function on the reals. -/
def erfR (r : ℝ) : ℝ := 2 / Real.sqrt Real.pi * ∫ t in (0 : ℝ)..r, Real.exp (-(t ^ 2))

/-- The exact gelu. -/
def gelu (x : ℝ) : ℝ := 1 / 2 * x * (1 + erfR (x * (Real.sqrt 2)⁻¹))

/-- Its derivative, in the kernel's closed form. -/
def geluD (x : ℝ) : ℝ :=
  1 / 2 * (1 + erfR (x * (Real.sqrt 2)⁻¹)) + x * Real.exp (-(1 / 2) * x * x) * (Real.sqrt (2 * Real.pi))⁻¹

/-- The layer norm's epsilon, the binary32 number nearest to `1e-6`. -/
def eps : ℝ := 8796093 / 8796093022208

theorem eps_pos : 0 < eps := by unfold eps; norm_num

/-! ## One row: the layer norm over 2048 channels -/

section Row

variable (v : ℕ → ℝ)

/-- The mean of a row. -/
def mean : ℝ := (∑ j : Fin 2048, v j.val) / 2048

/-- A row less its mean. -/
def dev (j : ℕ) : ℝ := v j - mean v

/-- The variance of a row. -/
def var : ℝ := (∑ j : Fin 2048, dev v j.val * dev v j.val) / 2048

/-- The reciprocal standard deviation. -/
def rstd : ℝ := (Real.sqrt (var v + eps))⁻¹

/-- The normalised row. -/
def vhat (j : ℕ) : ℝ := dev v j * rstd v

theorem var_nonneg : 0 ≤ var v :=
  div_nonneg (Finset.sum_nonneg fun _ _ => mul_self_nonneg _) (by norm_num)

theorem var_eps_pos : 0 < var v + eps := by linarith [var_nonneg v, eps_pos]

theorem sum_dev : ∑ j : Fin 2048, dev v j.val = 0 := by
  simp only [dev, Finset.sum_sub_distrib, Finset.sum_const, Finset.card_univ, Fintype.card_fin, mean, nsmul_eq_mul]
  push_cast; ring

theorem rstd_sq : rstd v * rstd v = 1 / (var v + eps) := by
  unfold rstd
  rw [← mul_inv, Real.mul_self_sqrt (var_eps_pos v).le, one_div]

end Row

/-! ## The arrays -/

section Arrays

variable (su sv dsg : ℕ → ℕ → ℝ) (lw lb : ℕ → ℝ) (W : ℕ → ℕ → ℕ → ℝ) (b : ℕ → ℕ → ℝ)

/-- The gated branch's row after the gelu. -/
def zv (n c : ℕ) : ℝ := gelu (sv n c)

/-- The normalised row, scaled and shifted. -/
def vn (n c : ℕ) : ℝ := vhat (zv sv n) c * lw c + lb c

/-- The spatial mixing inside a block of 128 rows. -/
def mixed (n c : ℕ) : ℝ :=
  ∑ k : Fin 128, W (c / 256) (n % 128) k.val * vn sv lw lb (128 * (n / 128) + k.val) c + b (c / 256) (n % 128)

/-- The cotangent of the mixed rows. -/
def dmix (n c : ℕ) : ℝ := dsg n c * gelu (su n c)

/-- The gradient of the gate's argument. -/
def dsu (n c : ℕ) : ℝ := dsg n c * mixed sv lw lb W b n c * geluD (su n c)

/-- The cotangent of the scaled rows. -/
def dvn (n c : ℕ) : ℝ := ∑ k : Fin 128, W (c / 256) k.val (n % 128) * dmix su dsg (128 * (n / 128) + k.val) c

/-- The cotangent of the normalised rows. -/
def dvh (n c : ℕ) : ℝ := dvn su dsg W n c * lw c

/-- The cotangent of the gelu's result, in the kernel's closed form. -/
def dzv (n c : ℕ) : ℝ :=
  rstd (zv sv n) * (dvh su dsg lw W n c - mean (dvh su dsg lw W n)
    - vhat (zv sv n) c * mean fun j => dvh su dsg lw W n j * vhat (zv sv n) j)

/-- The gradient of the gated branch. -/
def dsv (n c : ℕ) : ℝ := dzv su sv dsg lw W n c * geluD (sv n c)

/-- The summand of the scale's gradient. -/
def tlw (n c : ℕ) : ℝ := dvn su dsg W n c * vhat (zv sv n) c

/-- The summand of the mixing weights' gradient over one block `q` of rows. -/
def tws (q g i k : ℕ) : ℝ :=
  ∑ e : Fin 256, dmix su dsg (128 * q + i) (256 * g + e.val) * vn sv lw lb (128 * q + k) (256 * g + e.val)

/-- The summand of the mixing bias' gradient over one block `q` of rows. -/
def tbs (q g i : ℕ) : ℝ := ∑ e : Fin 256, dmix su dsg (128 * q + i) (256 * g + e.val)

/-- The gradient of the layer norm's scale. -/
def dlw (c : ℕ) : ℝ := ∑ n : Fin 8192, tlw su sv dsg W n.val c

/-- The gradient of the layer norm's shift. -/
def dlb (c : ℕ) : ℝ := ∑ n : Fin 8192, dvn su dsg W n.val c

/-- The gradient of the mixing weights. -/
def dws (g i k : ℕ) : ℝ := ∑ q : Fin 64, tws su sv dsg lw lb q.val g i k

/-- The gradient of the mixing bias. -/
def dbs (g i : ℕ) : ℝ := ∑ q : Fin 64, tbs su dsg q.val g i

end Arrays

/-! ## The chain rule's terms are the closed forms -/

/-- The chain rule through the mean and the variance, as the closed form: `p` is the cotangent of the normalised row,
    `d` the row less its mean. -/
theorem layerNorm_chain (v p : ℕ → ℝ) (c : ℕ) :
    p c * rstd v
      + (∑ j : Fin 2048, dev v j.val * p j.val) * (-(1 / 2) * (rstd v / (var v + eps))) / 2048 * (2 * dev v c)
      + (∑ j : Fin 2048, -(p j.val * rstd v)
          + ∑ j : Fin 2048, -((∑ j : Fin 2048, dev v j.val * p j.val) * (-(1 / 2) * (rstd v / (var v + eps))) / 2048
              * (2 * dev v j.val))) / 2048
    = rstd v * (p c - mean p - vhat v c * mean fun j => p j * vhat v j) := by
  have h1 : ∑ j : Fin 2048, -(p j.val * rstd v) = -((∑ j : Fin 2048, p j.val) * rstd v) := by
    rw [Finset.sum_neg_distrib, Finset.sum_mul]
  have h2 : ∀ a : ℝ, ∑ j : Fin 2048, -(a * (2 * dev v j.val)) = 0 := fun a => by
    rw [Finset.sum_neg_distrib, ← Finset.mul_sum, ← Finset.mul_sum, sum_dev]; ring
  have h3 : ∑ j : Fin 2048, p j.val * vhat v j.val = (∑ j : Fin 2048, dev v j.val * p j.val) * rstd v := by
    rw [Finset.sum_mul]; exact Finset.sum_congr rfl fun j _ => by unfold vhat; ring
  have h4 : rstd v / (var v + eps) = rstd v * (rstd v * rstd v) := by rw [rstd_sq]; ring
  rw [h1, h2, h4]
  unfold mean
  rw [h3]
  unfold vhat
  ring

/-- The derivative of the gelu as the chain rule writes it. -/
theorem gelu_chain (x g : ℝ) :
    1 / 2 * x * g * (2 / Real.sqrt Real.pi * Real.exp (-(x * (Real.sqrt 2)⁻¹ * (x * (Real.sqrt 2)⁻¹)))) * (Real.sqrt 2)⁻¹
      + 1 / 2 * (g * (1 + erfR (x * (Real.sqrt 2)⁻¹)))
    = g * geluD x := by
  have h2 : (Real.sqrt 2)⁻¹ * (Real.sqrt 2)⁻¹ = 1 / 2 := by
    rw [← mul_inv, Real.mul_self_sqrt (by norm_num)]; norm_num
  have he : -(x * (Real.sqrt 2)⁻¹ * (x * (Real.sqrt 2)⁻¹)) = -(1 / 2) * x * x := by linear_combination (-x * x) * h2
  unfold geluD
  rw [he, Real.sqrt_mul (by norm_num), mul_inv]
  ring

end Cert.Spec

end
-- ==== Proof.Lift.lean ====
/-
  Real numbers among the extended reals: the operations the two programs apply, at coerced real arguments, and the
  literals they spell.
-/
module

public import proofs.«01_k».proof.Proof.Spec
public import Idealize.ShloMosaic.Lib.IdealHost

@[expose] public section

noncomputable section

namespace Cert.Lift

open Idealize.ShloMosaic

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_real (a b : ℝ) (h : b ≠ 0) : Ideal.div (a : EReal) (b : EReal) = ((a / b : ℝ) : EReal) := by
  rw [Ideal.div_coe h, ← EReal.coe_mul, mul_one_div]

theorem sqrt_real (a : ℝ) (h : 0 ≤ a) : Ideal.sqrt (a : EReal) = ((Real.sqrt a : ℝ) : EReal) := by
  rw [Ideal.sqrt_coe, if_neg (not_lt.2 h)]

theorem rsqrt_real (a : ℝ) (h : 0 < a) : Ideal.rsqrt (a : EReal) = (((Real.sqrt a)⁻¹ : ℝ) : EReal) := by
  rw [Ideal.rsqrt_coe, if_neg (not_lt.2 h.le), if_neg h.ne']

theorem erf_real (a : ℝ) : Ideal.erf (a : EReal) = ((Spec.erfR a : ℝ) : EReal) := Ideal.erf_coe a

theorem acos_neg_one : Ideal.acos ((-1 : ℝ) : EReal) = ((Real.pi : ℝ) : EReal) := by
  rw [Ideal.acos_coe, if_pos ⟨le_refl _, by norm_num⟩, Real.arccos_neg_one]

theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_2048 : Ideal.ofBits .f32 0x45000000#32 = ((2048 : ℝ) : EReal) := by
  simp [Ideal.ofBits, Ideal.ieee, -EReal.coe_mul]; norm_num
theorem lit_eps : Ideal.ofBits .f32 0x358637BD#32 = ((Spec.eps : ℝ) : EReal) := by
  simp [Ideal.ofBits, Ideal.ieee, Spec.eps, -EReal.coe_mul]; norm_num
theorem lit_zero : Ideal.ofBits .f32 0x00000000#32 = ((0 : ℝ) : EReal) := by
  rw [Ideal.ofBits_zero_f32, EReal.coe_zero]

/-- A filtered sum with one member. -/
theorem sum_filter_one {ι M : Type*} [Fintype ι] [AddCommMonoid M] (p : ι → Prop) [DecidablePred p] (f : ι → M) (a : ι)
    (ha : p a) (hu : ∀ j, p j → j = a) : ∑ j ∈ Finset.univ.filter p, f j = f a :=
  (Finset.sum_eq_single a (fun j hj hne => absurd (hu j (Finset.mem_filter.1 hj).2) hne)
    fun hn => absurd (Finset.mem_filter.2 ⟨Finset.mem_univ _, ha⟩) hn)

/-- A host sum from the literal zero, at real terms. -/
theorem init_sum {n : ℕ} (f : Fin n → EReal) (g : Fin n → ℝ) (h : ∀ k, f k = ((g k : ℝ) : EReal)) :
    Ideal.ofBits .f32 0x00000000#32 + ∑ k, f k = ((∑ k, g k : ℝ) : EReal) := by
  rw [Ideal.ofBits_zero_f32, zero_add, Finset.sum_congr rfl fun k _ => h k, coe_sum]

/-- A contraction at real operands. -/
theorem dot_sum {n : ℕ} (f f' : Fin n → EReal) (g g' : Fin n → ℝ) (h : ∀ k, f k = ((g k : ℝ) : EReal))
    (h' : ∀ k, f' k = ((g' k : ℝ) : EReal)) : ∑ k, f k * f' k = ((∑ k, g k * g' k : ℝ) : EReal) := by
  rw [Finset.sum_congr rfl fun k _ => by rw [h k, h' k, ← EReal.coe_mul], coe_sum]

end Cert.Lift

end
-- ==== Proof.KPay.lean ====
/-
  The kernel's payloads over the extended reals, read at an index: on blocks that are the coercions of real arrays each
  payload is the coercion of the function of Proof/Spec.lean it computes. The rows' payloads come first, then the payloads
  of one tile of 128 rows and 256 channels.
-/
module

public import proofs.«01_k».proof.Proof.Lift
public import proofs.«01_k».proof.Proof.Gen.KernelIdeal.Skeleton
public import Idealize.ShloMosaic.PureOps.IdealRules
public import Idealize.ShloMosaic.Lib.Pipeline.Value
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

namespace Cert.KPay

open Idealize.ShloMosaic Cert.KernelIdeal Cert.KernelIdeal.Gen

/-! ## The named constants -/

theorem inv_sqrt2 : Named.named (F := Ideal) κ "inv_sqrt2" (φ := .f32) 0x3F3504F3#32 = (((Real.sqrt 2)⁻¹ : ℝ) : EReal) :=
  IdealRules.named_const.ideal_named_scalar _ _ _ _ rfl

theorem inv_sqrt_2pi :
    Named.named (F := Ideal) κ "inv_sqrt_2pi" (φ := .f32) 0x3ECC422A#32 = (((Real.sqrt (2 * Real.pi))⁻¹ : ℝ) : EReal) :=
  IdealRules.named_const.ideal_named_scalar _ _ _ _ rfl

/-! ## The gelu and its derivative on the coercion of a real -/

/-- The gelu's other factor. -/
theorem erf1_coe (x : ℝ) : 1 + Ideal.erf ((x : EReal) * Named.named (F := Ideal) κ "inv_sqrt2" (φ := .f32) 0x3F3504F3#32)
    = ((1 + Spec.erfR (x * (Real.sqrt 2)⁻¹) : ℝ) : EReal) := by
  rw [inv_sqrt2, ← EReal.coe_mul, Lift.erf_real, EReal.coe_add, EReal.coe_one]

theorem gelu_coe (x : ℝ) : Ideal.ofBits .f32 0x3F000000#32 * (x : EReal)
    * (1 + Ideal.erf ((x : EReal) * Named.named (F := Ideal) κ "inv_sqrt2" (φ := .f32) 0x3F3504F3#32))
    = ((Spec.gelu x : ℝ) : EReal) := by
  rw [erf1_coe, Lift.lit_half, ← EReal.coe_mul, ← EReal.coe_mul]
  rfl

theorem geluD_coe (x : ℝ) : Ideal.ofBits .f32 0x3F000000#32
      * (1 + Ideal.erf ((x : EReal) * Named.named (F := Ideal) κ "inv_sqrt2" (φ := .f32) 0x3F3504F3#32))
    + (x : EReal) * Ideal.exp (Ideal.ofBits .f32 0xBF000000#32 * (x : EReal) * (x : EReal))
      * Named.named (F := Ideal) κ "inv_sqrt_2pi" (φ := .f32) 0x3ECC422A#32
    = ((Spec.geluD x : ℝ) : EReal) := by
  rw [erf1_coe, inv_sqrt_2pi, Lift.lit_half, Lift.lit_neg_half, ← EReal.coe_mul, ← EReal.coe_mul,
    ← EReal.coe_mul, Ideal.exp_coe, ← EReal.coe_mul, ← EReal.coe_mul, ← EReal.coe_add]
  rfl

/-- A row's mean. -/
theorem mean_coe (f : Fin 2048 → EReal) (v : ℕ → ℝ) (h : ∀ k, f k = ((v k.val : ℝ) : EReal)) :
    Ideal.div (∑ k, f k) (Ideal.ofBits .f32 0x45000000#32) = ((Spec.mean v : ℝ) : EReal) := by
  rw [Finset.sum_congr rfl fun k _ => h k, Lift.coe_sum, Lift.lit_2048, Lift.div_real _ _ (by norm_num)]
  rfl

/-! ## The rows -/

section Rows

variable {X1 : Vec Ideal S256x2048 .bf16} {v : ℕ → ℕ → ℝ}
  (hv : ∀ i : S256x2048.Idx, X1 i = ((v (i 0).val (i 1).val : ℝ) : EReal))

include hv in
theorem p7 (i : S256x2048.Idx) :
    k0_pay7 (F := Ideal) X1 i = ((Spec.dev (Spec.zv v (i 0).val) (i 1).val : ℝ) : EReal) := by
  idx_vars i
  pointwise [k0_pay7, k0_pay6]
  have e : ∀ x : Fin 2048, Ideal.ofBits .f32 0x3F000000#32 * X1 (ix2 i0 x)
      * (1 + Ideal.erf (X1 (ix2 i0 x) * Named.named (F := Ideal) κ "inv_sqrt2" (φ := .f32) 0x3F3504F3#32))
      = ((Spec.zv v i0.val x.val : ℝ) : EReal) := fun x => by
    rw [hv]; exact gelu_coe _
  exact (congrArg₂ (· - ·) (e i1) (mean_coe _ _ e)).trans (EReal.coe_sub _ _).symm

include hv in
theorem p8 (i : S256x1.Idx) :
    k0_pay8 (F := Ideal) X1 i = ((Spec.rstd (Spec.zv v (i 0).val) : ℝ) : EReal) := by
  idx_vars i
  pointwise [k0_pay8]
  have e : ∀ x : Fin 2048, k0_pay7 (F := Ideal) X1 (ix2 i0 x) * k0_pay7 (F := Ideal) X1 (ix2 i0 x)
      = ((Spec.dev (Spec.zv v i0.val) x.val * Spec.dev (Spec.zv v i0.val) x.val : ℝ) : EReal) := fun x => by
    rw [p7 hv]; exact (EReal.coe_mul _ _).symm
  rw [mean_coe _ (fun j => Spec.dev (Spec.zv v i0.val) j * Spec.dev (Spec.zv v i0.val) j) e, Lift.lit_eps, ← EReal.coe_add]
  exact Lift.rsqrt_real _ (Spec.var_eps_pos _)

include hv in
theorem p9 (i : S256x2048.Idx) :
    k0_pay9 (F := Ideal) X1 i = ((Spec.vhat (Spec.zv v (i 0).val) (i 1).val : ℝ) : EReal) := by
  idx_vars i
  pointwise [k0_pay9]
  rw [p7 hv, p8 hv]
  exact (EReal.coe_mul _ _).symm

variable {X3 X4 : Vec Ideal S1x2048 .f32} {lw lb : ℕ → ℝ}
  (hw : ∀ i : S1x2048.Idx, X3 i = ((lw (i 1).val : ℝ) : EReal))
  (hb : ∀ i : S1x2048.Idx, X4 i = ((lb (i 1).val : ℝ) : EReal))

include hv hw hb in
theorem p10 (i : S256x2048.Idx) :
    k0_pay10 (F := Ideal) X1 X3 X4 i = ((Spec.vn v lw lb (i 0).val (i 1).val : ℝ) : EReal) := by
  idx_vars i
  pointwise [k0_pay10]
  rw [p9 hv, hw, hb, ← EReal.coe_mul, ← EReal.coe_add]
  rfl

variable {R : Vec Ideal S256x2048 .f32} {dv : ℕ → ℕ → ℝ}
  (hR : ∀ i : S256x2048.Idx, R i = ((dv (i 0).val (i 1).val : ℝ) : EReal))

include hv hw hR in
/-- The gated branch's gradient in a row of the scaled rows' cotangent `dv`. -/
theorem tail (i : S256x2048.Idx) :
    k0_pay1 (F := Ideal) (k0_pay6 X1) (k0_pay190 (k0_pay8 X1) (k0_pay9 X1) R X3) (k0_pay191 (k0_pay6 X1)) i
    = ((Spec.rstd (Spec.zv v (i 0).val) * (dv (i 0).val (i 1).val * lw (i 1).val
          - Spec.mean (fun j => dv (i 0).val j * lw j)
          - Spec.vhat (Spec.zv v (i 0).val) (i 1).val
            * Spec.mean fun j => dv (i 0).val j * lw j * Spec.vhat (Spec.zv v (i 0).val) j)
        * Spec.geluD (v (i 0).val (i 1).val) : ℝ) : EReal) := by
  idx_vars i
  pointwise [k0_pay1, k0_pay190, k0_pay191, k0_pay6]
  have e1 : ∀ x : Fin 2048, R (ix2 i0 x) * X3 (ix2 0 x) = ((dv i0.val x.val * lw x.val : ℝ) : EReal) := fun x => by
    rw [hR, hw]; exact (EReal.coe_mul _ _).symm
  have e2 : ∀ x : Fin 2048, R (ix2 i0 x) * X3 (ix2 0 x) * k0_pay9 (F := Ideal) X1 (ix2 i0 x)
      = ((dv i0.val x.val * lw x.val * Spec.vhat (Spec.zv v i0.val) x.val : ℝ) : EReal) := fun x => by
    rw [e1, p9 hv]; exact (EReal.coe_mul _ _).symm
  rw [mean_coe _ (fun j => dv i0.val j * lw j) e1,
    mean_coe _ (fun j => dv i0.val j * lw j * Spec.vhat (Spec.zv v i0.val) j) e2, e1, p9 hv, p8 hv, hv,
    ← EReal.coe_mul, ← EReal.coe_sub, ← EReal.coe_sub, ← EReal.coe_mul, EReal.coe_mul]
  exact congrArg (_ * ·) (geluD_coe _)

include hv hR in
theorem lwAdd (P : Vec Ideal S1x2048 .f32) (i : S1x2048.Idx) :
    k0_pay188 (F := Ideal) (k0_pay9 X1) R P i
    = P i + ((∑ r : Fin 256, dv r.val (i 1).val * Spec.vhat (Spec.zv v r.val) (i 1).val : ℝ) : EReal) := by
  idx_vars i
  pointwise [k0_pay188]
  rw [Lift.dot_sum _ _ (fun r : Fin 256 => dv r.val i1.val) (fun r : Fin 256 => Spec.vhat (Spec.zv v r.val) i1.val)
    (fun r => hR _) fun r => p9 hv _]

include hR in
theorem lbAdd (P : Vec Ideal S1x2048 .f32) (i : S1x2048.Idx) :
    k0_pay189 (F := Ideal) R P i = P i + ((∑ r : Fin 256, dv r.val (i 1).val : ℝ) : EReal) := by
  idx_vars i
  pointwise [k0_pay189]
  rw [Finset.sum_congr rfl fun (r : Fin 256) _ => hR (ix2 r i1), Lift.coe_sum]
  rfl

end Rows

/-! ## One tile -/

section Tile

variable {U D : Vec Ideal S128x256 .bf16} {u d : ℕ → ℕ → ℝ}
  (hU : ∀ i : S128x256.Idx, U i = ((u (i 0).val (i 1).val : ℝ) : EReal))
  (hD : ∀ i : S128x256.Idx, D i = ((d (i 0).val (i 1).val : ℝ) : EReal))

include hU hD in
/-- The cotangent of the mixed rows. -/
theorem tMix (i : S128x256.Idx) :
    k0_pay17 (F := Ideal) (k0_pay13 D) (k0_pay15 U) (k0_pay16 U) i
    = ((d (i 0).val (i 1).val * Spec.gelu (u (i 0).val (i 1).val) : ℝ) : EReal) := by
  idx_vars i
  pointwise [k0_pay17, k0_pay13, k0_pay15, k0_pay16, k0_pay12]
  rw [hU, hD, EReal.coe_mul]
  exact congrArg (_ * ·) (gelu_coe _)

variable {T : Vec Ideal S1x128x128 .bf16} {w : ℕ → ℕ → ℝ}
  (hT : ∀ i : S1x128x128.Idx, T i = ((w (i 1).val (i 2).val : ℝ) : EReal))

include hU hD hT in
/-- The cotangent of the scaled rows. -/
theorem tDvn (i : S128x256.Idx) :
    k0_pay19 (F := Ideal) (k0_pay13 D) (k0_pay15 U) (k0_pay16 U) T i
    = ((∑ k : Fin 128, w (i 0).val k.val * (d k.val (i 1).val * Spec.gelu (u k.val (i 1).val)) : ℝ) : EReal) := by
  idx_vars i
  pointwise [k0_pay19, k0_pay18]
  exact Lift.dot_sum _ _ (fun k : Fin 128 => w i0.val k.val) (fun k : Fin 128 => d k.val i1.val * Spec.gelu (u k.val i1.val))
    (fun k => hT _) fun k => tMix hU hD _

variable {V : FVec Ideal S128x256 .bf16} {vn : ℕ → ℕ → ℝ} {B : Vec Ideal S1x128x1 .f32} {b : ℕ → ℝ}
  (hV : ∀ i : S128x256.Idx, V i = ((vn (i 0).val (i 1).val : ℝ) : EReal))
  (hB : ∀ i : S1x128x1.Idx, B i = ((b (i 1).val : ℝ) : EReal))

include hU hD hT hV hB in
/-- The gradient of the gate's argument. -/
theorem tDsu (i : S128x256.Idx) :
    k0_pay14 (F := Ideal) V T B U D i
    = ((d (i 0).val (i 1).val * (∑ k : Fin 128, w (i 0).val k.val * vn k.val (i 1).val + b (i 0).val)
        * Spec.geluD (u (i 0).val (i 1).val) : ℝ) : EReal) := by
  idx_vars i
  pointwise [k0_pay14, k0_pay13, k0_pay12]
  rw [Lift.dot_sum _ _ (fun k : Fin 128 => w i0.val k.val) (fun k : Fin 128 => vn k.val i1.val)
    (fun k => hT _) (fun k => hV _), hB, hU, hD, ← EReal.coe_add, ← EReal.coe_mul, EReal.coe_mul]
  exact congrArg (_ * ·) (geluD_coe _)

include hU hD hV in
/-- The addend of the mixing weights' gradient. -/
theorem tDws (P : Vec Ideal S1x128x128 .f32) (i : S1x128x128.Idx) :
    k0_pay20 (F := Ideal) V (k0_pay13 D) (k0_pay15 U) (k0_pay16 U) P i
    = P i + ((∑ e : Fin 256, d (i 1).val e.val * Spec.gelu (u (i 1).val e.val) * vn (i 2).val e.val : ℝ) : EReal) := by
  idx_vars i
  pointwise [k0_pay20, k0_pay18]
  rw [Lift.dot_sum _ _ (fun e : Fin 256 => d i1.val e.val * Spec.gelu (u i1.val e.val)) (fun e : Fin 256 => vn i2.val e.val)
    (fun e => tMix hU hD _) fun e => hV _, Subsingleton.elim i0 0]

include hU hD in
/-- The addend of the mixing bias' gradient. -/
theorem tDbs (P : Vec Ideal S1x128x1 .f32) (i : S1x128x1.Idx) :
    k0_pay21 (F := Ideal) (k0_pay13 D) (k0_pay15 U) (k0_pay16 U) P i
    = P i + ((∑ e : Fin 256, d (i 1).val e.val * Spec.gelu (u (i 1).val e.val) : ℝ) : EReal) := by
  idx_vars i
  pointwise [k0_pay21]
  rw [Finset.sum_congr rfl fun (e : Fin 256) _ => tMix hU hD (ix2 i1 e), Lift.coe_sum, Subsingleton.elim i0 0, Subsingleton.elim i2 0]
  rfl

end Tile

/-! ## The pieces a point stores -/

/-- The blocks a point loads are the coercions of real arrays: the two branches, the cotangent, the scale and the shift,
    the mixing weights, their transposes and the mixing bias. -/
structure Blk (X0 X1 X2 : Vec Ideal S256x2048 .bf16) (X3 X4 : Vec Ideal S1x2048 .f32) (X5 X6 : Vec Ideal S8x128x128 .bf16)
    (X7 : Vec Ideal S8x128x1 .f32) (su sv dsg : ℕ → ℕ → ℝ) (lw lb : ℕ → ℝ) (W : ℕ → ℕ → ℕ → ℝ) (b : ℕ → ℕ → ℝ) : Prop where
  hu : ∀ i : S256x2048.Idx, X0 i = ((su (i 0).val (i 1).val : ℝ) : EReal)
  hv : ∀ i : S256x2048.Idx, X1 i = ((sv (i 0).val (i 1).val : ℝ) : EReal)
  hg : ∀ i : S256x2048.Idx, X2 i = ((dsg (i 0).val (i 1).val : ℝ) : EReal)
  hw : ∀ i : S1x2048.Idx, X3 i = ((lw (i 1).val : ℝ) : EReal)
  hb : ∀ i : S1x2048.Idx, X4 i = ((lb (i 1).val : ℝ) : EReal)
  hW : ∀ i : S8x128x128.Idx, X5 i = ((W (i 0).val (i 1).val (i 2).val : ℝ) : EReal)
  hT : ∀ i : S8x128x128.Idx, X6 i = ((W (i 0).val (i 2).val (i 1).val : ℝ) : EReal)
  hs : ∀ i : S8x128x1.Idx, X7 i = ((b (i 0).val (i 1).val : ℝ) : EReal)

/-- A tile of a matrix, read at an index. -/
theorem ld_tile {X : Vec Ideal S256x2048 .bf16} {f : ℕ → ℕ → ℝ}
    (hX : ∀ i : S256x2048.Idx, X i = ((f (i 0).val (i 1).val : ℝ) : EReal)) (p q : ℕ)
    (h : ∀ a, (![p, q] : Fin 2 → ℕ) a + (![128, 256] : Fin 2 → ℕ) a ≤ S256x2048.size a) (i : S128x256.Idx) :
    View.ld (Val := Elt Ideal) (e' := EltTy.bf16) X (Rect.unit (s := S256x2048) ![p, q] ![128, 256] h) i = ((f (p + (i 0).val) (q + (i 1).val) : ℝ) : EReal) := by
  rw [View.ld_apply, hX, Rect.idx_unit_val, Rect.idx_unit_val]
  rfl

/-- A slab of the stacked square matrices, read at an index. -/
theorem ld_slab {X : Vec Ideal S8x128x128 .bf16} {f : ℕ → ℕ → ℕ → ℝ}
    (hX : ∀ i : S8x128x128.Idx, X i = ((f (i 0).val (i 1).val (i 2).val : ℝ) : EReal)) (g : ℕ)
    (h : ∀ a, (![g, 0, 0] : Fin 3 → ℕ) a + (![1, 128, 128] : Fin 3 → ℕ) a ≤ S8x128x128.size a) (i : S1x128x128.Idx) :
    View.ld (Val := Elt Ideal) (e' := EltTy.bf16) X (Rect.unit (s := S8x128x128) ![g, 0, 0] ![1, 128, 128] h) i = ((f g (i 1).val (i 2).val : ℝ) : EReal) := by
  have h0 : (i 0).val = 0 := Nat.lt_one_iff.1 (i 0).isLt
  rw [View.ld_apply, hX, Rect.idx_unit_val, Rect.idx_unit_val, Rect.idx_unit_val]
  show ((f (g + (i 0).val) (0 + (i 1).val) (0 + (i 2).val) : ℝ) : EReal) = _
  rw [h0, Nat.zero_add, Nat.zero_add, Nat.add_zero]

/-- A slab of the stacked columns, read at an index. -/
theorem ld_col {X : Vec Ideal S8x128x1 .f32} {f : ℕ → ℕ → ℝ}
    (hX : ∀ i : S8x128x1.Idx, X i = ((f (i 0).val (i 1).val : ℝ) : EReal)) (g : ℕ)
    (h : ∀ a, (![g, 0, 0] : Fin 3 → ℕ) a + (![1, 128, 1] : Fin 3 → ℕ) a ≤ S8x128x1.size a) (i : S1x128x1.Idx) :
    View.ld (Val := Elt Ideal) (e' := EltTy.f32) X (Rect.unit (s := S8x128x1) ![g, 0, 0] ![1, 128, 1] h) i = ((f g (i 1).val : ℝ) : EReal) := by
  have h0 : (i 0).val = 0 := Nat.lt_one_iff.1 (i 0).isLt
  rw [View.ld_apply, hX, Rect.idx_unit_val, Rect.idx_unit_val]
  show ((f (g + (i 0).val) (0 + (i 1).val) : ℝ) : EReal) = _
  rw [h0, Nat.zero_add, Nat.add_zero]

/-- A tile cut out of a matrix in registers, read at an index. -/
theorem slice_tile {X : FVec Ideal S256x2048 .bf16} {f : ℕ → ℕ → ℝ}
    (hX : ∀ i : S256x2048.Idx, X i = ((f (i 0).val (i 1).val : ℝ) : EReal)) (p q : ℕ)
    (h : S256x2048.Slices ![p, q] S128x256) (i : S128x256.Idx) :
    extractStridedSlice S128x256 ![p, q] X h i = ((f (p + (i 0).val) (q + (i 1).val) : ℝ) : EReal) :=
  hX _

section Pieces

variable {X0 X1 X2 : Vec Ideal S256x2048 .bf16} {X3 X4 : Vec Ideal S1x2048 .f32} {X5 X6 : Vec Ideal S8x128x128 .bf16}
    {X7 : Vec Ideal S8x128x1 .f32} {su sv dsg : ℕ → ℕ → ℝ} {lw lb : ℕ → ℝ} {W : ℕ → ℕ → ℕ → ℝ} {b : ℕ → ℕ → ℝ}
    (hB : Blk X0 X1 X2 X3 X4 X5 X6 X7 su sv dsg lw lb W b)

/-- What the scratch buffer of the scaled rows' cotangent holds. -/
def gDvn (su dsg : ℕ → ℕ → ℝ) (W : ℕ → ℕ → ℕ → ℝ) (y : S256x2048.Idx) : EReal :=
  ((Spec.dvn su dsg W (y 0).val (y 1).val : ℝ) : EReal)

/-- What a point stores of the projection's gradient: the gate's argument's on the left, the gated branch's on the right. -/
def gDz (su sv dsg : ℕ → ℕ → ℝ) (lw lb : ℕ → ℝ) (W : ℕ → ℕ → ℕ → ℝ) (b : ℕ → ℕ → ℝ) (y : S256x4096.Idx) : EReal :=
  if (y 1).val < 2048 then ((Spec.dsu su sv dsg lw lb W b (y 0).val (y 1).val : ℝ) : EReal)
  else ((Spec.dsv su sv dsg lw W (y 0).val ((y 1).val - 2048) : ℝ) : EReal)

/-- What a point leaves of the mixing weights' gradient over the array `P` it found. -/
def gWs (su sv dsg : ℕ → ℕ → ℝ) (lw lb : ℕ → ℝ) (P : Vec Ideal S8x128x128 .f32) (y : S8x128x128.Idx) : EReal :=
  P y + ((Spec.tws su sv dsg lw lb 0 (y 0).val (y 1).val (y 2).val + Spec.tws su sv dsg lw lb 1 (y 0).val (y 1).val (y 2).val : ℝ) : EReal)

/-- What a point leaves of the mixing bias' gradient over the array `P` it found. -/
def gBs (su dsg : ℕ → ℕ → ℝ) (P : Vec Ideal S8x128x1 .f32) (y : S8x128x1.Idx) : EReal :=
  P y + ((Spec.tbs su dsg 0 (y 0).val (y 1).val + Spec.tbs su dsg 1 (y 0).val (y 1).val : ℝ) : EReal)

/-- The tile at rows `p`, channels `q` of the scratch buffer. -/
theorem dvn_piece (hB : Blk X0 X1 X2 X3 X4 X5 X6 X7 su sv dsg lw lb W b) (p q ρ γ : ℕ) (hp : p = 128 * ρ) (hq : q = 256 * γ)
    (h h' : ∀ a, (![p, q] : Fin 2 → ℕ) a + (![128, 256] : Fin 2 → ℕ) a ≤ S256x2048.size a)
    (h6 : ∀ a, (![γ, 0, 0] : Fin 3 → ℕ) a + (![1, 128, 128] : Fin 3 → ℕ) a ≤ S8x128x128.size a) (x : S128x256.Idx) :
    k0_pay19 (F := Ideal) (k0_pay13 (View.ld X2 (Rect.unit ![p, q] ![128, 256] h)))
      (k0_pay15 (View.ld X0 (Rect.unit ![p, q] ![128, 256] h))) (k0_pay16 (View.ld X0 (Rect.unit ![p, q] ![128, 256] h)))
      (View.ld X6 (Rect.unit ![γ, 0, 0] ![1, 128, 128] h6)) x
    = gDvn su dsg W ((Rect.unit (s := S256x2048) ![p, q] ![128, 256] h').emb x) := by
  have e0 : (((Rect.unit (s := S256x2048) ![p, q] ![128, 256] h').emb x) 0).val = p + (x 0).val := ValueKit.rect_emb_unit_val _ _ _ _ _
  have e1 : (((Rect.unit (s := S256x2048) ![p, q] ![128, 256] h').emb x) 1).val = q + (x 1).val := ValueKit.rect_emb_unit_val _ _ _ _ _
  have b0 : (x 0).val < 128 := (x 0).isLt
  have b1 : (x 1).val < 256 := (x 1).isLt
  rw [tDvn (u := fun i j => su (p + i) (q + j)) (d := fun i j => dsg (p + i) (q + j)) (w := fun i k => W γ k i)
    (ld_tile hB.hu p q h) (ld_tile hB.hg p q h) (ld_slab (f := fun g i k => W g k i) hB.hT γ h6)]
  unfold gDvn
  rw [e0, e1]
  unfold Spec.dvn Spec.dmix
  rw [show (q + (x 1).val) / 256 = γ by omega, show (p + (x 0).val) % 128 = (x 0).val by omega,
    show 128 * ((p + (x 0).val) / 128) = p by omega]

/-- The tile at rows `p`, channels `q` of the gate's argument's gradient. -/
theorem dsu_piece (hB : Blk X0 X1 X2 X3 X4 X5 X6 X7 su sv dsg lw lb W b) (p q ρ γ : ℕ) (hp : p = 128 * ρ) (hq : q = 256 * γ) (hγ : γ < 8)
    (h : ∀ a, (![p, q] : Fin 2 → ℕ) a + (![128, 256] : Fin 2 → ℕ) a ≤ S256x2048.size a)
    (h' : ∀ a, (![p, q] : Fin 2 → ℕ) a + (![128, 256] : Fin 2 → ℕ) a ≤ S256x4096.size a)
    (hs : S256x2048.Slices ![p, q] S128x256)
    (h5 : ∀ a, (![γ, 0, 0] : Fin 3 → ℕ) a + (![1, 128, 128] : Fin 3 → ℕ) a ≤ S8x128x128.size a)
    (h7 : ∀ a, (![γ, 0, 0] : Fin 3 → ℕ) a + (![1, 128, 1] : Fin 3 → ℕ) a ≤ S8x128x1.size a) (x : S128x256.Idx) :
    k0_pay14 (F := Ideal) (extractStridedSlice S128x256 ![p, q] (k0_pay10 X1 X3 X4) hs)
      (View.ld X5 (Rect.unit ![γ, 0, 0] ![1, 128, 128] h5)) (View.ld X7 (Rect.unit ![γ, 0, 0] ![1, 128, 1] h7))
      (View.ld X0 (Rect.unit ![p, q] ![128, 256] h)) (View.ld X2 (Rect.unit ![p, q] ![128, 256] h)) x
    = gDz su sv dsg lw lb W b ((Rect.unit (s := S256x4096) ![p, q] ![128, 256] h').emb x) := by
  have e0 : (((Rect.unit (s := S256x4096) ![p, q] ![128, 256] h').emb x) 0).val = p + (x 0).val := ValueKit.rect_emb_unit_val _ _ _ _ _
  have e1 : (((Rect.unit (s := S256x4096) ![p, q] ![128, 256] h').emb x) 1).val = q + (x 1).val := ValueKit.rect_emb_unit_val _ _ _ _ _
  have b0 : (x 0).val < 128 := (x 0).isLt
  have b1 : (x 1).val < 256 := (x 1).isLt
  rw [tDsu (u := fun i j => su (p + i) (q + j)) (d := fun i j => dsg (p + i) (q + j))
    (vn := fun i j => Spec.vn sv lw lb (p + i) (q + j)) (w := W γ) (b := b γ)
    (ld_tile hB.hu p q h) (ld_tile hB.hg p q h) (ld_slab hB.hW γ h5)
    (slice_tile (p10 hB.hv hB.hw hB.hb) p q hs) (ld_col hB.hs γ h7)]
  unfold gDz
  rw [e0, e1, if_pos (by omega)]
  unfold Spec.dsu Spec.mixed
  rw [show (q + (x 1).val) / 256 = γ by omega, show (p + (x 0).val) % 128 = (x 0).val by omega,
    show 128 * ((p + (x 0).val) / 128) = p by omega]

/-- The gated branch's gradient, all rows. -/
theorem dsv_piece (hB : Blk X0 X1 X2 X3 X4 X5 X6 X7 su sv dsg lw lb W b) {R : Vec Ideal S256x2048 .f32}
    (hR : ∀ i, R i = gDvn su dsg W i)
    (h' : ∀ a, (![0, 2048] : Fin 2 → ℕ) a + (![256, 2048] : Fin 2 → ℕ) a ≤ S256x4096.size a) (x : S256x2048.Idx) :
    k0_pay1 (F := Ideal) (k0_pay6 X1) (k0_pay190 (k0_pay8 X1) (k0_pay9 X1) R X3) (k0_pay191 (k0_pay6 X1)) x
    = gDz su sv dsg lw lb W b ((Rect.unit (s := S256x4096) ![0, 2048] ![256, 2048] h').emb x) := by
  have e0 : (((Rect.unit (s := S256x4096) ![0, 2048] ![256, 2048] h').emb x) 0).val = (x 0).val :=
    (ValueKit.rect_emb_unit_val _ _ _ _ _).trans (Nat.zero_add _)
  have e1 : (((Rect.unit (s := S256x4096) ![0, 2048] ![256, 2048] h').emb x) 1).val = 2048 + (x 1).val := ValueKit.rect_emb_unit_val _ _ _ _ _
  rw [tail hB.hv hB.hw (dv := Spec.dvn su dsg W) hR]
  unfold gDz
  rw [e0, e1, if_neg (by omega), Nat.add_sub_cancel_left]
  rfl

/-- The mixing weights' slab `g` after both row tiles. -/
theorem dws_piece (hB : Blk X0 X1 X2 X3 X4 X5 X6 X7 su sv dsg lw lb W b) (P : Vec Ideal S8x128x128 .f32) (q γ : ℕ) (hq : q = 256 * γ)
    (h0 : ∀ a, (![0, q] : Fin 2 → ℕ) a + (![128, 256] : Fin 2 → ℕ) a ≤ S256x2048.size a)
    (h1 : ∀ a, (![128, q] : Fin 2 → ℕ) a + (![128, 256] : Fin 2 → ℕ) a ≤ S256x2048.size a)
    (s0 : S256x2048.Slices ![0, q] S128x256) (s1 : S256x2048.Slices ![128, q] S128x256)
    (h h' : ∀ a, (![γ, 0, 0] : Fin 3 → ℕ) a + (![1, 128, 128] : Fin 3 → ℕ) a ≤ S8x128x128.size a) (x : S1x128x128.Idx) :
    k0_pay20 (F := Ideal) (extractStridedSlice S128x256 ![128, q] (k0_pay10 X1 X3 X4) s1)
      (k0_pay13 (View.ld X2 (Rect.unit ![128, q] ![128, 256] h1)))
      (k0_pay15 (View.ld X0 (Rect.unit ![128, q] ![128, 256] h1))) (k0_pay16 (View.ld X0 (Rect.unit ![128, q] ![128, 256] h1)))
      (k0_pay20 (F := Ideal) (extractStridedSlice S128x256 ![0, q] (k0_pay10 X1 X3 X4) s0)
        (k0_pay13 (View.ld X2 (Rect.unit ![0, q] ![128, 256] h0)))
        (k0_pay15 (View.ld X0 (Rect.unit ![0, q] ![128, 256] h0))) (k0_pay16 (View.ld X0 (Rect.unit ![0, q] ![128, 256] h0)))
        (View.ld P (Rect.unit ![γ, 0, 0] ![1, 128, 128] h))) x
    = gWs su sv dsg lw lb P ((Rect.unit (s := S8x128x128) ![γ, 0, 0] ![1, 128, 128] h').emb x) := by
  have e0 : (((Rect.unit (s := S8x128x128) ![γ, 0, 0] ![1, 128, 128] h').emb x) 0).val = γ := by
    have h0 : (x 0).val = 0 := Nat.lt_one_iff.1 (x 0).isLt
    exact (ValueKit.rect_emb_unit_val _ _ _ _ _).trans (congrArg (γ + ·) h0)
  have e1 : (((Rect.unit (s := S8x128x128) ![γ, 0, 0] ![1, 128, 128] h').emb x) 1).val = (x 1).val :=
    (ValueKit.rect_emb_unit_val _ _ _ _ _).trans (Nat.zero_add _)
  have e2 : (((Rect.unit (s := S8x128x128) ![γ, 0, 0] ![1, 128, 128] h').emb x) 2).val = (x 2).val :=
    (ValueKit.rect_emb_unit_val _ _ _ _ _).trans (Nat.zero_add _)
  rw [tDws (u := fun i j => su (128 + i) (q + j)) (d := fun i j => dsg (128 + i) (q + j))
    (vn := fun i j => Spec.vn sv lw lb (128 + i) (q + j)) (ld_tile hB.hu 128 q h1) (ld_tile hB.hg 128 q h1) (slice_tile (p10 hB.hv hB.hw hB.hb) 128 q s1),
    tDws (u := fun i j => su (0 + i) (q + j)) (d := fun i j => dsg (0 + i) (q + j))
    (vn := fun i j => Spec.vn sv lw lb (0 + i) (q + j)) (ld_tile hB.hu 0 q h0) (ld_tile hB.hg 0 q h0) (slice_tile (p10 hB.hv hB.hw hB.hb) 0 q s0)]
  unfold gWs
  rw [e0, e1, e2, add_assoc, ← EReal.coe_add, hq]
  rfl

/-- The mixing bias' slab `g` after both row tiles. -/
theorem dbs_piece (hB : Blk X0 X1 X2 X3 X4 X5 X6 X7 su sv dsg lw lb W b) (P : Vec Ideal S8x128x1 .f32) (q γ : ℕ) (hq : q = 256 * γ)
    (h0 : ∀ a, (![0, q] : Fin 2 → ℕ) a + (![128, 256] : Fin 2 → ℕ) a ≤ S256x2048.size a)
    (h1 : ∀ a, (![128, q] : Fin 2 → ℕ) a + (![128, 256] : Fin 2 → ℕ) a ≤ S256x2048.size a)
    (h h' : ∀ a, (![γ, 0, 0] : Fin 3 → ℕ) a + (![1, 128, 1] : Fin 3 → ℕ) a ≤ S8x128x1.size a) (x : S1x128x1.Idx) :
    k0_pay21 (F := Ideal) (k0_pay13 (View.ld X2 (Rect.unit ![128, q] ![128, 256] h1)))
      (k0_pay15 (View.ld X0 (Rect.unit ![128, q] ![128, 256] h1))) (k0_pay16 (View.ld X0 (Rect.unit ![128, q] ![128, 256] h1)))
      (k0_pay21 (F := Ideal) (k0_pay13 (View.ld X2 (Rect.unit ![0, q] ![128, 256] h0)))
        (k0_pay15 (View.ld X0 (Rect.unit ![0, q] ![128, 256] h0))) (k0_pay16 (View.ld X0 (Rect.unit ![0, q] ![128, 256] h0)))
        (View.ld P (Rect.unit ![γ, 0, 0] ![1, 128, 1] h))) x
    = gBs su dsg P ((Rect.unit (s := S8x128x1) ![γ, 0, 0] ![1, 128, 1] h').emb x) := by
  have e0 : (((Rect.unit (s := S8x128x1) ![γ, 0, 0] ![1, 128, 1] h').emb x) 0).val = γ := by
    have h0 : (x 0).val = 0 := Nat.lt_one_iff.1 (x 0).isLt
    exact (ValueKit.rect_emb_unit_val _ _ _ _ _).trans (congrArg (γ + ·) h0)
  have e1 : (((Rect.unit (s := S8x128x1) ![γ, 0, 0] ![1, 128, 1] h').emb x) 1).val = (x 1).val :=
    (ValueKit.rect_emb_unit_val _ _ _ _ _).trans (Nat.zero_add _)
  rw [tDbs (u := fun i j => su (128 + i) (q + j)) (d := fun i j => dsg (128 + i) (q + j))
    (ld_tile hB.hu 128 q h1) (ld_tile hB.hg 128 q h1), tDbs (u := fun i j => su (0 + i) (q + j)) (d := fun i j => dsg (0 + i) (q + j))
    (ld_tile hB.hu 0 q h0) (ld_tile hB.hg 0 q h0)]
  unfold gBs
  rw [e0, e1, add_assoc, ← EReal.coe_add, hq]
  rfl

end Pieces

end Cert.KPay

end
-- ==== Proof.KVal.lean ====
/-
  What a point of the kernel's grid leaves in its outputs' buffers, over the extended reals, on blocks that are the
  coercions of real arrays: the stores' payloads are the tiles of Proof/KPay.lean, in whatever cuts the body spells them.
-/
module

public import proofs.«01_k».proof.Proof.KPay
public import proofs.«01_k».proof.Proof.Gen.KernelIdeal.Value
public import Idealize.ShloMosaic.Lib.Pipeline.ReadBack
public import Idealize.ShloMosaic.Lib.Pipeline.Value
public import Idealize.ShloMosaic.Lib.Pipeline.ValueKit.Acc
public import Idealize.ShloMosaic.Lib.Tactic
public import Idealize.ShloMosaic.Lib.Pointwise

@[expose] public section

set_option maxRecDepth 16384

noncomputable section

namespace Cert.KVal

open Idealize.ShloMosaic Idealize.ShloMosaic.Pipeline Cert.KernelIdeal Cert.KernelIdeal.Gen Cert.KPay

variable {m : (ℓ : Loc nD τ sig) → Buf (Elt Ideal) ℓ} {c : Dev nD} {su sv dsg : ℕ → ℕ → ℝ} {lw lb : ℕ → ℝ}
    {W : ℕ → ℕ → ℕ → ℝ} {b : ℕ → ℕ → ℝ}

/-- The blocks of point `t` are the coercions of real arrays. -/
abbrev BlkAt (m : (ℓ : Loc nD τ sig) → Buf (Elt Ideal) ℓ) (c : Dev nD) (t : Fin cfg0.N) (su sv dsg : ℕ → ℕ → ℝ) (lw lb : ℕ → ℝ)
    (W : ℕ → ℕ → ℕ → ℝ) (b : ℕ → ℕ → ℝ) : Prop :=
  Blk (iblk m c 0 t) (iblk m c 1 t) (iblk m c 2 t) (iblk m c 3 t) (iblk m c 4 t) (iblk m c 5 t) (iblk m c 6 t) (iblk m c 7 t)
    su sv dsg lw lb W b

/-- Pieces that agree with one function and cover the shape leave that function. -/
theorem canon_eq {Val : EltTy → Type} [∀ e, Nonempty (Val e)] {S : Shape} {e : EltTy} (G : S.Idx → Val e) (L : List (View.Piece Val S e))
    (h : View.PiecesOf G L) (hc : ∀ y, ∃ p ∈ L, y ∈ p.1.set) : View.canon L = G :=
  funext fun y => View.canon_apply_of_pieces G L h.mem y (hc y)

/-- A load of the whole scratch buffer. -/
theorem ld_full (G : S256x2048.Idx → EReal) (h : ∀ a, (![0, 0] : Fin 2 → ℕ) a + (![256, 2048] : Fin 2 → ℕ) a ≤ S256x2048.size a) :
    View.ld (Val := Elt Ideal) (e' := EltTy.f32) G (Rect.unit (s := S256x2048) ![0, 0] ![256, 2048] h) = G :=
  funext fun j => View.ld_unit_apply_of (Val := Elt Ideal) (e := EltTy.f32) G _ _ h j j (Fin.forall_fin_two.2 ⟨(Nat.zero_add _).symm, (Nat.zero_add _).symm⟩)

/-- Eight pieces that agree with one function and cover the shape leave that function, whatever was stored before. -/
theorem canon8 {Val : EltTy → Type} [∀ e, Nonempty (Val e)] {S : Shape} {e : EltTy} (G : S.Idx → Val e)
    (p0 p1 p2 p3 p4 p5 p6 p7 : View.Piece Val S e) (L : List (View.Piece Val S e))
    (h : View.PiecesOf G [p0, p1, p2, p3, p4, p5, p6, p7]) (hc : ∀ y, ∃ p ∈ [p0, p1, p2, p3, p4, p5, p6, p7], y ∈ p.1.set) :
    View.canon (p0 :: p1 :: p2 :: p3 :: p4 :: p5 :: p6 :: p7 :: L) = G :=
  funext fun y => View.canon_append_of_piecesOf G L [p0, p1, p2, p3, p4, p5, p6, p7] h y (hc y)

theorem zero2 (i : S1x2048.Idx) : k0_pay2 (F := Ideal) i = 0 := by
  pointwise [k0_pay2]

theorem zero3 (i : S1x2048.Idx) : k0_pay3 (F := Ideal) i = 0 := by
  pointwise [k0_pay3]

theorem zero4 (i : S8x128x128.Idx) : k0_pay4 (F := Ideal) i = 0 := by
  pointwise [k0_pay4]

theorem zero5 (i : S8x128x1.Idx) : k0_pay5 (F := Ideal) i = 0 := by
  pointwise [k0_pay5]

theorem o8_A (t : Fin cfg0.N) (h : t.val % 32 = 0) (hB : BlkAt m c t su sv dsg lw lb W b) :
    (Gen.outsAt0 m c t.val t.isLt).1 = gDz su sv dsg lw lb W b := by
  rw [Gen.outsAt0_A m c t h]
  frame_open
  simp (disch := decide) only [↓ View.readCov_skip, ↓ View.readCov_cons_toLoadRect, ↓ View.readCov_fill]
  frame_out
  rw [View.readCov_eq_canon_ld]
  on_goal 2 => exact View.cover_of_tiled _ ![128, 256] rfl
  rw [canon_eq (Val := Elt Ideal) (S := S256x2048) (e := EltTy.f32) (gDvn su dsg W)]
  on_goal 2 => exact ⟨dvn_piece hB 128 1792 1 7 rfl rfl inb_S256x2048_S128x256_128_1792 inb_S256x2048_S128x256_128_1792 inb_S8x128x128_S1x128x128_7_0_0,
      dvn_piece hB 128 1536 1 6 rfl rfl inb_S256x2048_S128x256_128_1536 inb_S256x2048_S128x256_128_1536 inb_S8x128x128_S1x128x128_6_0_0,
      dvn_piece hB 128 1280 1 5 rfl rfl inb_S256x2048_S128x256_128_1280 inb_S256x2048_S128x256_128_1280 inb_S8x128x128_S1x128x128_5_0_0,
      dvn_piece hB 128 1024 1 4 rfl rfl inb_S256x2048_S128x256_128_1024 inb_S256x2048_S128x256_128_1024 inb_S8x128x128_S1x128x128_4_0_0,
      dvn_piece hB 128 768 1 3 rfl rfl inb_S256x2048_S128x256_128_768 inb_S256x2048_S128x256_128_768 inb_S8x128x128_S1x128x128_3_0_0,
      dvn_piece hB 128 512 1 2 rfl rfl inb_S256x2048_S128x256_128_512 inb_S256x2048_S128x256_128_512 inb_S8x128x128_S1x128x128_2_0_0,
      dvn_piece hB 128 256 1 1 rfl rfl inb_S256x2048_S128x256_128_256 inb_S256x2048_S128x256_128_256 inb_S8x128x128_S1x128x128_1_0_0,
      dvn_piece hB 128 0 1 0 rfl rfl inb_S256x2048_S128x256_128_0 inb_S256x2048_S128x256_128_0 inb_S8x128x128_S1x128x128_0_0_0,
      dvn_piece hB 0 1792 0 7 rfl rfl inb_S256x2048_S128x256_0_1792 inb_S256x2048_S128x256_0_1792 inb_S8x128x128_S1x128x128_7_0_0,
      dvn_piece hB 0 1536 0 6 rfl rfl inb_S256x2048_S128x256_0_1536 inb_S256x2048_S128x256_0_1536 inb_S8x128x128_S1x128x128_6_0_0,
      dvn_piece hB 0 1280 0 5 rfl rfl inb_S256x2048_S128x256_0_1280 inb_S256x2048_S128x256_0_1280 inb_S8x128x128_S1x128x128_5_0_0,
      dvn_piece hB 0 1024 0 4 rfl rfl inb_S256x2048_S128x256_0_1024 inb_S256x2048_S128x256_0_1024 inb_S8x128x128_S1x128x128_4_0_0,
      dvn_piece hB 0 768 0 3 rfl rfl inb_S256x2048_S128x256_0_768 inb_S256x2048_S128x256_0_768 inb_S8x128x128_S1x128x128_3_0_0,
      dvn_piece hB 0 512 0 2 rfl rfl inb_S256x2048_S128x256_0_512 inb_S256x2048_S128x256_0_512 inb_S8x128x128_S1x128x128_2_0_0,
      dvn_piece hB 0 256 0 1 rfl rfl inb_S256x2048_S128x256_0_256 inb_S256x2048_S128x256_0_256 inb_S8x128x128_S1x128x128_1_0_0,
      dvn_piece hB 0 0 0 0 rfl rfl inb_S256x2048_S128x256_0_0 inb_S256x2048_S128x256_0_0 inb_S8x128x128_S1x128x128_0_0_0, trivial⟩
  on_goal 2 => exact View.cover_of_tiled _ ![128, 256] rfl
  rw [ld_full]
  rw [canon_eq (gDz su sv dsg lw lb W b)]
  · exact ⟨dsv_piece hB (fun _ => rfl) inb_S256x4096_S256x2048_0_2048,
      dsu_piece hB 128 1792 1 7 rfl rfl (by decide) inb_S256x2048_S128x256_128_1792 inb_S256x4096_S128x256_128_1792 slices_S256x2048_o128_1792_S128x256 inb_S8x128x128_S1x128x128_7_0_0 inb_S8x128x1_S1x128x1_7_0_0,
      dsu_piece hB 128 1536 1 6 rfl rfl (by decide) inb_S256x2048_S128x256_128_1536 inb_S256x4096_S128x256_128_1536 slices_S256x2048_o128_1536_S128x256 inb_S8x128x128_S1x128x128_6_0_0 inb_S8x128x1_S1x128x1_6_0_0,
      dsu_piece hB 128 1280 1 5 rfl rfl (by decide) inb_S256x2048_S128x256_128_1280 inb_S256x4096_S128x256_128_1280 slices_S256x2048_o128_1280_S128x256 inb_S8x128x128_S1x128x128_5_0_0 inb_S8x128x1_S1x128x1_5_0_0,
      dsu_piece hB 128 1024 1 4 rfl rfl (by decide) inb_S256x2048_S128x256_128_1024 inb_S256x4096_S128x256_128_1024 slices_S256x2048_o128_1024_S128x256 inb_S8x128x128_S1x128x128_4_0_0 inb_S8x128x1_S1x128x1_4_0_0,
      dsu_piece hB 128 768 1 3 rfl rfl (by decide) inb_S256x2048_S128x256_128_768 inb_S256x4096_S128x256_128_768 slices_S256x2048_o128_768_S128x256 inb_S8x128x128_S1x128x128_3_0_0 inb_S8x128x1_S1x128x1_3_0_0,
      dsu_piece hB 128 512 1 2 rfl rfl (by decide) inb_S256x2048_S128x256_128_512 inb_S256x4096_S128x256_128_512 slices_S256x2048_o128_512_S128x256 inb_S8x128x128_S1x128x128_2_0_0 inb_S8x128x1_S1x128x1_2_0_0,
      dsu_piece hB 128 256 1 1 rfl rfl (by decide) inb_S256x2048_S128x256_128_256 inb_S256x4096_S128x256_128_256 slices_S256x2048_o128_256_S128x256 inb_S8x128x128_S1x128x128_1_0_0 inb_S8x128x1_S1x128x1_1_0_0,
      dsu_piece hB 128 0 1 0 rfl rfl (by decide) inb_S256x2048_S128x256_128_0 inb_S256x4096_S128x256_128_0 slices_S256x2048_o128_0_S128x256 inb_S8x128x128_S1x128x128_0_0_0 inb_S8x128x1_S1x128x1_0_0_0,
      dsu_piece hB 0 1792 0 7 rfl rfl (by decide) inb_S256x2048_S128x256_0_1792 inb_S256x4096_S128x256_0_1792 slices_S256x2048_o0_1792_S128x256 inb_S8x128x128_S1x128x128_7_0_0 inb_S8x128x1_S1x128x1_7_0_0,
      dsu_piece hB 0 1536 0 6 rfl rfl (by decide) inb_S256x2048_S128x256_0_1536 inb_S256x4096_S128x256_0_1536 slices_S256x2048_o0_1536_S128x256 inb_S8x128x128_S1x128x128_6_0_0 inb_S8x128x1_S1x128x1_6_0_0,
      dsu_piece hB 0 1280 0 5 rfl rfl (by decide) inb_S256x2048_S128x256_0_1280 inb_S256x4096_S128x256_0_1280 slices_S256x2048_o0_1280_S128x256 inb_S8x128x128_S1x128x128_5_0_0 inb_S8x128x1_S1x128x1_5_0_0,
      dsu_piece hB 0 1024 0 4 rfl rfl (by decide) inb_S256x2048_S128x256_0_1024 inb_S256x4096_S128x256_0_1024 slices_S256x2048_o0_1024_S128x256 inb_S8x128x128_S1x128x128_4_0_0 inb_S8x128x1_S1x128x1_4_0_0,
      dsu_piece hB 0 768 0 3 rfl rfl (by decide) inb_S256x2048_S128x256_0_768 inb_S256x4096_S128x256_0_768 slices_S256x2048_o0_768_S128x256 inb_S8x128x128_S1x128x128_3_0_0 inb_S8x128x1_S1x128x1_3_0_0,
      dsu_piece hB 0 512 0 2 rfl rfl (by decide) inb_S256x2048_S128x256_0_512 inb_S256x4096_S128x256_0_512 slices_S256x2048_o0_512_S128x256 inb_S8x128x128_S1x128x128_2_0_0 inb_S8x128x1_S1x128x1_2_0_0,
      dsu_piece hB 0 256 0 1 rfl rfl (by decide) inb_S256x2048_S128x256_0_256 inb_S256x4096_S128x256_0_256 slices_S256x2048_o0_256_S128x256 inb_S8x128x128_S1x128x128_1_0_0 inb_S8x128x1_S1x128x1_1_0_0,
      dsu_piece hB 0 0 0 0 rfl rfl (by decide) inb_S256x2048_S128x256_0_0 inb_S256x4096_S128x256_0_0 slices_S256x2048_o0_0_S128x256 inb_S8x128x128_S1x128x128_0_0_0 inb_S8x128x1_S1x128x1_0_0_0, trivial⟩
  · exact View.cover_of_tiledBy _ ![128, 256] (by sl_kernel_rfl)

theorem o9_A (t : Fin cfg0.N) (h : t.val % 32 = 0) (hB : BlkAt m c t su sv dsg lw lb W b) (i : S1x2048.Idx) :
    (Gen.outsAt0 m c t.val t.isLt).2.1 i = ((∑ r : Fin 256, Spec.dvn su dsg W r.val (i 1).val * Spec.vhat (Spec.zv sv r.val) (i 1).val : ℝ) : EReal) := by
  rw [Gen.outsAt0_A m c t h]
  frame_open
  simp (disch := decide) only [↓ View.readCov_skip, ↓ View.readCov_cons_toLoadRect, ↓ View.readCov_fill]
  frame_out
  rw [View.readCov_eq_canon_ld]
  on_goal 2 => exact View.cover_of_tiled _ ![128, 256] rfl
  rw [canon_eq (Val := Elt Ideal) (S := S256x2048) (e := EltTy.f32) (gDvn su dsg W)]
  on_goal 2 => exact ⟨dvn_piece hB 128 1792 1 7 rfl rfl inb_S256x2048_S128x256_128_1792 inb_S256x2048_S128x256_128_1792 inb_S8x128x128_S1x128x128_7_0_0,
      dvn_piece hB 128 1536 1 6 rfl rfl inb_S256x2048_S128x256_128_1536 inb_S256x2048_S128x256_128_1536 inb_S8x128x128_S1x128x128_6_0_0,
      dvn_piece hB 128 1280 1 5 rfl rfl inb_S256x2048_S128x256_128_1280 inb_S256x2048_S128x256_128_1280 inb_S8x128x128_S1x128x128_5_0_0,
      dvn_piece hB 128 1024 1 4 rfl rfl inb_S256x2048_S128x256_128_1024 inb_S256x2048_S128x256_128_1024 inb_S8x128x128_S1x128x128_4_0_0,
      dvn_piece hB 128 768 1 3 rfl rfl inb_S256x2048_S128x256_128_768 inb_S256x2048_S128x256_128_768 inb_S8x128x128_S1x128x128_3_0_0,
      dvn_piece hB 128 512 1 2 rfl rfl inb_S256x2048_S128x256_128_512 inb_S256x2048_S128x256_128_512 inb_S8x128x128_S1x128x128_2_0_0,
      dvn_piece hB 128 256 1 1 rfl rfl inb_S256x2048_S128x256_128_256 inb_S256x2048_S128x256_128_256 inb_S8x128x128_S1x128x128_1_0_0,
      dvn_piece hB 128 0 1 0 rfl rfl inb_S256x2048_S128x256_128_0 inb_S256x2048_S128x256_128_0 inb_S8x128x128_S1x128x128_0_0_0,
      dvn_piece hB 0 1792 0 7 rfl rfl inb_S256x2048_S128x256_0_1792 inb_S256x2048_S128x256_0_1792 inb_S8x128x128_S1x128x128_7_0_0,
      dvn_piece hB 0 1536 0 6 rfl rfl inb_S256x2048_S128x256_0_1536 inb_S256x2048_S128x256_0_1536 inb_S8x128x128_S1x128x128_6_0_0,
      dvn_piece hB 0 1280 0 5 rfl rfl inb_S256x2048_S128x256_0_1280 inb_S256x2048_S128x256_0_1280 inb_S8x128x128_S1x128x128_5_0_0,
      dvn_piece hB 0 1024 0 4 rfl rfl inb_S256x2048_S128x256_0_1024 inb_S256x2048_S128x256_0_1024 inb_S8x128x128_S1x128x128_4_0_0,
      dvn_piece hB 0 768 0 3 rfl rfl inb_S256x2048_S128x256_0_768 inb_S256x2048_S128x256_0_768 inb_S8x128x128_S1x128x128_3_0_0,
      dvn_piece hB 0 512 0 2 rfl rfl inb_S256x2048_S128x256_0_512 inb_S256x2048_S128x256_0_512 inb_S8x128x128_S1x128x128_2_0_0,
      dvn_piece hB 0 256 0 1 rfl rfl inb_S256x2048_S128x256_0_256 inb_S256x2048_S128x256_0_256 inb_S8x128x128_S1x128x128_1_0_0,
      dvn_piece hB 0 0 0 0 rfl rfl inb_S256x2048_S128x256_0_0 inb_S256x2048_S128x256_0_0 inb_S8x128x128_S1x128x128_0_0_0, trivial⟩
  on_goal 2 => exact View.cover_of_tiled _ ![128, 256] rfl
  rw [ld_full]
  exact (lwAdd (X1 := iblk m c 1 t) hB.hv (R := gDvn su dsg W) (dv := Spec.dvn su dsg W) (fun _ => rfl) _ i).trans (by rw [zero2, zero_add])

theorem o10_A (t : Fin cfg0.N) (h : t.val % 32 = 0) (hB : BlkAt m c t su sv dsg lw lb W b) (i : S1x2048.Idx) :
    (Gen.outsAt0 m c t.val t.isLt).2.2.1 i = ((∑ r : Fin 256, Spec.dvn su dsg W r.val (i 1).val : ℝ) : EReal) := by
  rw [Gen.outsAt0_A m c t h]
  frame_open
  simp (disch := decide) only [↓ View.readCov_skip, ↓ View.readCov_cons_toLoadRect, ↓ View.readCov_fill]
  frame_out
  rw [View.readCov_eq_canon_ld]
  on_goal 2 => exact View.cover_of_tiled _ ![128, 256] rfl
  rw [canon_eq (Val := Elt Ideal) (S := S256x2048) (e := EltTy.f32) (gDvn su dsg W)]
  on_goal 2 => exact ⟨dvn_piece hB 128 1792 1 7 rfl rfl inb_S256x2048_S128x256_128_1792 inb_S256x2048_S128x256_128_1792 inb_S8x128x128_S1x128x128_7_0_0,
      dvn_piece hB 128 1536 1 6 rfl rfl inb_S256x2048_S128x256_128_1536 inb_S256x2048_S128x256_128_1536 inb_S8x128x128_S1x128x128_6_0_0,
      dvn_piece hB 128 1280 1 5 rfl rfl inb_S256x2048_S128x256_128_1280 inb_S256x2048_S128x256_128_1280 inb_S8x128x128_S1x128x128_5_0_0,
      dvn_piece hB 128 1024 1 4 rfl rfl inb_S256x2048_S128x256_128_1024 inb_S256x2048_S128x256_128_1024 inb_S8x128x128_S1x128x128_4_0_0,
      dvn_piece hB 128 768 1 3 rfl rfl inb_S256x2048_S128x256_128_768 inb_S256x2048_S128x256_128_768 inb_S8x128x128_S1x128x128_3_0_0,
      dvn_piece hB 128 512 1 2 rfl rfl inb_S256x2048_S128x256_128_512 inb_S256x2048_S128x256_128_512 inb_S8x128x128_S1x128x128_2_0_0,
      dvn_piece hB 128 256 1 1 rfl rfl inb_S256x2048_S128x256_128_256 inb_S256x2048_S128x256_128_256 inb_S8x128x128_S1x128x128_1_0_0,
      dvn_piece hB 128 0 1 0 rfl rfl inb_S256x2048_S128x256_128_0 inb_S256x2048_S128x256_128_0 inb_S8x128x128_S1x128x128_0_0_0,
      dvn_piece hB 0 1792 0 7 rfl rfl inb_S256x2048_S128x256_0_1792 inb_S256x2048_S128x256_0_1792 inb_S8x128x128_S1x128x128_7_0_0,
      dvn_piece hB 0 1536 0 6 rfl rfl inb_S256x2048_S128x256_0_1536 inb_S256x2048_S128x256_0_1536 inb_S8x128x128_S1x128x128_6_0_0,
      dvn_piece hB 0 1280 0 5 rfl rfl inb_S256x2048_S128x256_0_1280 inb_S256x2048_S128x256_0_1280 inb_S8x128x128_S1x128x128_5_0_0,
      dvn_piece hB 0 1024 0 4 rfl rfl inb_S256x2048_S128x256_0_1024 inb_S256x2048_S128x256_0_1024 inb_S8x128x128_S1x128x128_4_0_0,
      dvn_piece hB 0 768 0 3 rfl rfl inb_S256x2048_S128x256_0_768 inb_S256x2048_S128x256_0_768 inb_S8x128x128_S1x128x128_3_0_0,
      dvn_piece hB 0 512 0 2 rfl rfl inb_S256x2048_S128x256_0_512 inb_S256x2048_S128x256_0_512 inb_S8x128x128_S1x128x128_2_0_0,
      dvn_piece hB 0 256 0 1 rfl rfl inb_S256x2048_S128x256_0_256 inb_S256x2048_S128x256_0_256 inb_S8x128x128_S1x128x128_1_0_0,
      dvn_piece hB 0 0 0 0 rfl rfl inb_S256x2048_S128x256_0_0 inb_S256x2048_S128x256_0_0 inb_S8x128x128_S1x128x128_0_0_0, trivial⟩
  on_goal 2 => exact View.cover_of_tiled _ ![128, 256] rfl
  rw [ld_full]
  exact (lbAdd (R := gDvn su dsg W) (dv := Spec.dvn su dsg W) (fun _ => rfl) _ i).trans (by rw [zero3, zero_add])

theorem o11_A (t : Fin cfg0.N) (h : t.val % 32 = 0) (hB : BlkAt m c t su sv dsg lw lb W b) (i : S8x128x128.Idx) :
    (Gen.outsAt0 m c t.val t.isLt).2.2.2.1 i = ((Spec.tws su sv dsg lw lb 0 (i 0).val (i 1).val (i 2).val + Spec.tws su sv dsg lw lb 1 (i 0).val (i 1).val (i 2).val : ℝ) : EReal) := by
  rw [Gen.outsAt0_A m c t h]
  frame_open
  simp (disch := decide) only [↓ View.readCov_skip, ↓ View.readCov_cons_toLoadRect, ↓ View.readCov_fill]
  frame_out
  rw [canon8 (gWs su sv dsg lw lb (k0_pay4 (F := Ideal)))]
  on_goal 2 => exact ⟨dws_piece hB (k0_pay4 (F := Ideal)) 1792 7 rfl inb_S256x2048_S128x256_0_1792 inb_S256x2048_S128x256_128_1792 slices_S256x2048_o0_1792_S128x256 slices_S256x2048_o128_1792_S128x256 inb_S8x128x128_S1x128x128_7_0_0 inb_S8x128x128_S1x128x128_7_0_0,
      dws_piece hB (k0_pay4 (F := Ideal)) 1536 6 rfl inb_S256x2048_S128x256_0_1536 inb_S256x2048_S128x256_128_1536 slices_S256x2048_o0_1536_S128x256 slices_S256x2048_o128_1536_S128x256 inb_S8x128x128_S1x128x128_6_0_0 inb_S8x128x128_S1x128x128_6_0_0,
      dws_piece hB (k0_pay4 (F := Ideal)) 1280 5 rfl inb_S256x2048_S128x256_0_1280 inb_S256x2048_S128x256_128_1280 slices_S256x2048_o0_1280_S128x256 slices_S256x2048_o128_1280_S128x256 inb_S8x128x128_S1x128x128_5_0_0 inb_S8x128x128_S1x128x128_5_0_0,
      dws_piece hB (k0_pay4 (F := Ideal)) 1024 4 rfl inb_S256x2048_S128x256_0_1024 inb_S256x2048_S128x256_128_1024 slices_S256x2048_o0_1024_S128x256 slices_S256x2048_o128_1024_S128x256 inb_S8x128x128_S1x128x128_4_0_0 inb_S8x128x128_S1x128x128_4_0_0,
      dws_piece hB (k0_pay4 (F := Ideal)) 768 3 rfl inb_S256x2048_S128x256_0_768 inb_S256x2048_S128x256_128_768 slices_S256x2048_o0_768_S128x256 slices_S256x2048_o128_768_S128x256 inb_S8x128x128_S1x128x128_3_0_0 inb_S8x128x128_S1x128x128_3_0_0,
      dws_piece hB (k0_pay4 (F := Ideal)) 512 2 rfl inb_S256x2048_S128x256_0_512 inb_S256x2048_S128x256_128_512 slices_S256x2048_o0_512_S128x256 slices_S256x2048_o128_512_S128x256 inb_S8x128x128_S1x128x128_2_0_0 inb_S8x128x128_S1x128x128_2_0_0,
      dws_piece hB (k0_pay4 (F := Ideal)) 256 1 rfl inb_S256x2048_S128x256_0_256 inb_S256x2048_S128x256_128_256 slices_S256x2048_o0_256_S128x256 slices_S256x2048_o128_256_S128x256 inb_S8x128x128_S1x128x128_1_0_0 inb_S8x128x128_S1x128x128_1_0_0,
      dws_piece hB (k0_pay4 (F := Ideal)) 0 0 rfl inb_S256x2048_S128x256_0_0 inb_S256x2048_S128x256_128_0 slices_S256x2048_o0_0_S128x256 slices_S256x2048_o128_0_S128x256 inb_S8x128x128_S1x128x128_0_0_0 inb_S8x128x128_S1x128x128_0_0_0, trivial⟩
  on_goal 2 => exact View.cover_of_tiled _ ![1, 128, 128] rfl
  exact (congrArg (· + _) (zero4 i)).trans (zero_add _)

theorem o12_A (t : Fin cfg0.N) (h : t.val % 32 = 0) (hB : BlkAt m c t su sv dsg lw lb W b) (i : S8x128x1.Idx) :
    (Gen.outsAt0 m c t.val t.isLt).2.2.2.2 i = ((Spec.tbs su dsg 0 (i 0).val (i 1).val + Spec.tbs su dsg 1 (i 0).val (i 1).val : ℝ) : EReal) := by
  rw [Gen.outsAt0_A m c t h]
  frame_open
  simp (disch := decide) only [↓ View.readCov_skip, ↓ View.readCov_cons_toLoadRect, ↓ View.readCov_fill]
  frame_out
  rw [canon8 (gBs su dsg (k0_pay5 (F := Ideal)))]
  on_goal 2 => exact ⟨dbs_piece hB (k0_pay5 (F := Ideal)) 1792 7 rfl inb_S256x2048_S128x256_0_1792 inb_S256x2048_S128x256_128_1792 inb_S8x128x1_S1x128x1_7_0_0 inb_S8x128x1_S1x128x1_7_0_0,
      dbs_piece hB (k0_pay5 (F := Ideal)) 1536 6 rfl inb_S256x2048_S128x256_0_1536 inb_S256x2048_S128x256_128_1536 inb_S8x128x1_S1x128x1_6_0_0 inb_S8x128x1_S1x128x1_6_0_0,
      dbs_piece hB (k0_pay5 (F := Ideal)) 1280 5 rfl inb_S256x2048_S128x256_0_1280 inb_S256x2048_S128x256_128_1280 inb_S8x128x1_S1x128x1_5_0_0 inb_S8x128x1_S1x128x1_5_0_0,
      dbs_piece hB (k0_pay5 (F := Ideal)) 1024 4 rfl inb_S256x2048_S128x256_0_1024 inb_S256x2048_S128x256_128_1024 inb_S8x128x1_S1x128x1_4_0_0 inb_S8x128x1_S1x128x1_4_0_0,
      dbs_piece hB (k0_pay5 (F := Ideal)) 768 3 rfl inb_S256x2048_S128x256_0_768 inb_S256x2048_S128x256_128_768 inb_S8x128x1_S1x128x1_3_0_0 inb_S8x128x1_S1x128x1_3_0_0,
      dbs_piece hB (k0_pay5 (F := Ideal)) 512 2 rfl inb_S256x2048_S128x256_0_512 inb_S256x2048_S128x256_128_512 inb_S8x128x1_S1x128x1_2_0_0 inb_S8x128x1_S1x128x1_2_0_0,
      dbs_piece hB (k0_pay5 (F := Ideal)) 256 1 rfl inb_S256x2048_S128x256_0_256 inb_S256x2048_S128x256_128_256 inb_S8x128x1_S1x128x1_1_0_0 inb_S8x128x1_S1x128x1_1_0_0,
      dbs_piece hB (k0_pay5 (F := Ideal)) 0 0 rfl inb_S256x2048_S128x256_0_0 inb_S256x2048_S128x256_128_0 inb_S8x128x1_S1x128x1_0_0_0 inb_S8x128x1_S1x128x1_0_0_0, trivial⟩
  on_goal 2 => exact View.cover_of_tiled _ ![1, 128, 1] rfl
  exact (congrArg (· + _) (zero5 i)).trans (zero_add _)

theorem o8_B (t : Fin cfg0.N) (h : ¬ t.val % 32 = 0) (hB : BlkAt m c t su sv dsg lw lb W b) :
    (Gen.outsAt0 m c t.val t.isLt).1 = gDz su sv dsg lw lb W b := by
  rw [Gen.outsAt0_B m c t h]
  frame_open
  simp (disch := decide) only [↓ View.readCov_skip, ↓ View.readCov_cons_toLoadRect, ↓ View.readCov_fill]
  frame_out
  rw [View.readCov_eq_canon_ld]
  on_goal 2 => exact View.cover_of_tiled _ ![128, 256] rfl
  rw [canon_eq (Val := Elt Ideal) (S := S256x2048) (e := EltTy.f32) (gDvn su dsg W)]
  on_goal 2 => exact ⟨dvn_piece hB 128 1792 1 7 rfl rfl inb_S256x2048_S128x256_128_1792 inb_S256x2048_S128x256_128_1792 inb_S8x128x128_S1x128x128_7_0_0,
      dvn_piece hB 128 1536 1 6 rfl rfl inb_S256x2048_S128x256_128_1536 inb_S256x2048_S128x256_128_1536 inb_S8x128x128_S1x128x128_6_0_0,
      dvn_piece hB 128 1280 1 5 rfl rfl inb_S256x2048_S128x256_128_1280 inb_S256x2048_S128x256_128_1280 inb_S8x128x128_S1x128x128_5_0_0,
      dvn_piece hB 128 1024 1 4 rfl rfl inb_S256x2048_S128x256_128_1024 inb_S256x2048_S128x256_128_1024 inb_S8x128x128_S1x128x128_4_0_0,
      dvn_piece hB 128 768 1 3 rfl rfl inb_S256x2048_S128x256_128_768 inb_S256x2048_S128x256_128_768 inb_S8x128x128_S1x128x128_3_0_0,
      dvn_piece hB 128 512 1 2 rfl rfl inb_S256x2048_S128x256_128_512 inb_S256x2048_S128x256_128_512 inb_S8x128x128_S1x128x128_2_0_0,
      dvn_piece hB 128 256 1 1 rfl rfl inb_S256x2048_S128x256_128_256 inb_S256x2048_S128x256_128_256 inb_S8x128x128_S1x128x128_1_0_0,
      dvn_piece hB 128 0 1 0 rfl rfl inb_S256x2048_S128x256_128_0 inb_S256x2048_S128x256_128_0 inb_S8x128x128_S1x128x128_0_0_0,
      dvn_piece hB 0 1792 0 7 rfl rfl inb_S256x2048_S128x256_0_1792 inb_S256x2048_S128x256_0_1792 inb_S8x128x128_S1x128x128_7_0_0,
      dvn_piece hB 0 1536 0 6 rfl rfl inb_S256x2048_S128x256_0_1536 inb_S256x2048_S128x256_0_1536 inb_S8x128x128_S1x128x128_6_0_0,
      dvn_piece hB 0 1280 0 5 rfl rfl inb_S256x2048_S128x256_0_1280 inb_S256x2048_S128x256_0_1280 inb_S8x128x128_S1x128x128_5_0_0,
      dvn_piece hB 0 1024 0 4 rfl rfl inb_S256x2048_S128x256_0_1024 inb_S256x2048_S128x256_0_1024 inb_S8x128x128_S1x128x128_4_0_0,
      dvn_piece hB 0 768 0 3 rfl rfl inb_S256x2048_S128x256_0_768 inb_S256x2048_S128x256_0_768 inb_S8x128x128_S1x128x128_3_0_0,
      dvn_piece hB 0 512 0 2 rfl rfl inb_S256x2048_S128x256_0_512 inb_S256x2048_S128x256_0_512 inb_S8x128x128_S1x128x128_2_0_0,
      dvn_piece hB 0 256 0 1 rfl rfl inb_S256x2048_S128x256_0_256 inb_S256x2048_S128x256_0_256 inb_S8x128x128_S1x128x128_1_0_0,
      dvn_piece hB 0 0 0 0 rfl rfl inb_S256x2048_S128x256_0_0 inb_S256x2048_S128x256_0_0 inb_S8x128x128_S1x128x128_0_0_0, trivial⟩
  on_goal 2 => exact View.cover_of_tiled _ ![128, 256] rfl
  rw [ld_full]
  rw [canon_eq (gDz su sv dsg lw lb W b)]
  · exact ⟨dsv_piece hB (fun _ => rfl) inb_S256x4096_S256x2048_0_2048,
      dsu_piece hB 128 1792 1 7 rfl rfl (by decide) inb_S256x2048_S128x256_128_1792 inb_S256x4096_S128x256_128_1792 slices_S256x2048_o128_1792_S128x256 inb_S8x128x128_S1x128x128_7_0_0 inb_S8x128x1_S1x128x1_7_0_0,
      dsu_piece hB 128 1536 1 6 rfl rfl (by decide) inb_S256x2048_S128x256_128_1536 inb_S256x4096_S128x256_128_1536 slices_S256x2048_o128_1536_S128x256 inb_S8x128x128_S1x128x128_6_0_0 inb_S8x128x1_S1x128x1_6_0_0,
      dsu_piece hB 128 1280 1 5 rfl rfl (by decide) inb_S256x2048_S128x256_128_1280 inb_S256x4096_S128x256_128_1280 slices_S256x2048_o128_1280_S128x256 inb_S8x128x128_S1x128x128_5_0_0 inb_S8x128x1_S1x128x1_5_0_0,
      dsu_piece hB 128 1024 1 4 rfl rfl (by decide) inb_S256x2048_S128x256_128_1024 inb_S256x4096_S128x256_128_1024 slices_S256x2048_o128_1024_S128x256 inb_S8x128x128_S1x128x128_4_0_0 inb_S8x128x1_S1x128x1_4_0_0,
      dsu_piece hB 128 768 1 3 rfl rfl (by decide) inb_S256x2048_S128x256_128_768 inb_S256x4096_S128x256_128_768 slices_S256x2048_o128_768_S128x256 inb_S8x128x128_S1x128x128_3_0_0 inb_S8x128x1_S1x128x1_3_0_0,
      dsu_piece hB 128 512 1 2 rfl rfl (by decide) inb_S256x2048_S128x256_128_512 inb_S256x4096_S128x256_128_512 slices_S256x2048_o128_512_S128x256 inb_S8x128x128_S1x128x128_2_0_0 inb_S8x128x1_S1x128x1_2_0_0,
      dsu_piece hB 128 256 1 1 rfl rfl (by decide) inb_S256x2048_S128x256_128_256 inb_S256x4096_S128x256_128_256 slices_S256x2048_o128_256_S128x256 inb_S8x128x128_S1x128x128_1_0_0 inb_S8x128x1_S1x128x1_1_0_0,
      dsu_piece hB 128 0 1 0 rfl rfl (by decide) inb_S256x2048_S128x256_128_0 inb_S256x4096_S128x256_128_0 slices_S256x2048_o128_0_S128x256 inb_S8x128x128_S1x128x128_0_0_0 inb_S8x128x1_S1x128x1_0_0_0,
      dsu_piece hB 0 1792 0 7 rfl rfl (by decide) inb_S256x2048_S128x256_0_1792 inb_S256x4096_S128x256_0_1792 slices_S256x2048_o0_1792_S128x256 inb_S8x128x128_S1x128x128_7_0_0 inb_S8x128x1_S1x128x1_7_0_0,
      dsu_piece hB 0 1536 0 6 rfl rfl (by decide) inb_S256x2048_S128x256_0_1536 inb_S256x4096_S128x256_0_1536 slices_S256x2048_o0_1536_S128x256 inb_S8x128x128_S1x128x128_6_0_0 inb_S8x128x1_S1x128x1_6_0_0,
      dsu_piece hB 0 1280 0 5 rfl rfl (by decide) inb_S256x2048_S128x256_0_1280 inb_S256x4096_S128x256_0_1280 slices_S256x2048_o0_1280_S128x256 inb_S8x128x128_S1x128x128_5_0_0 inb_S8x128x1_S1x128x1_5_0_0,
      dsu_piece hB 0 1024 0 4 rfl rfl (by decide) inb_S256x2048_S128x256_0_1024 inb_S256x4096_S128x256_0_1024 slices_S256x2048_o0_1024_S128x256 inb_S8x128x128_S1x128x128_4_0_0 inb_S8x128x1_S1x128x1_4_0_0,
      dsu_piece hB 0 768 0 3 rfl rfl (by decide) inb_S256x2048_S128x256_0_768 inb_S256x4096_S128x256_0_768 slices_S256x2048_o0_768_S128x256 inb_S8x128x128_S1x128x128_3_0_0 inb_S8x128x1_S1x128x1_3_0_0,
      dsu_piece hB 0 512 0 2 rfl rfl (by decide) inb_S256x2048_S128x256_0_512 inb_S256x4096_S128x256_0_512 slices_S256x2048_o0_512_S128x256 inb_S8x128x128_S1x128x128_2_0_0 inb_S8x128x1_S1x128x1_2_0_0,
      dsu_piece hB 0 256 0 1 rfl rfl (by decide) inb_S256x2048_S128x256_0_256 inb_S256x4096_S128x256_0_256 slices_S256x2048_o0_256_S128x256 inb_S8x128x128_S1x128x128_1_0_0 inb_S8x128x1_S1x128x1_1_0_0,
      dsu_piece hB 0 0 0 0 rfl rfl (by decide) inb_S256x2048_S128x256_0_0 inb_S256x4096_S128x256_0_0 slices_S256x2048_o0_0_S128x256 inb_S8x128x128_S1x128x128_0_0_0 inb_S8x128x1_S1x128x1_0_0_0, trivial⟩
  · exact View.cover_of_tiledBy _ ![128, 256] (by sl_kernel_rfl)

theorem o9_B (t : Fin cfg0.N) (h : ¬ t.val % 32 = 0) (hB : BlkAt m c t su sv dsg lw lb W b) (i : S1x2048.Idx) :
    (Gen.outsAt0 m c t.val t.isLt).2.1 i = (Gen.outsAt0 m c (t.val - 1) (Nat.lt_of_le_of_lt (Nat.sub_le _ _) t.isLt)).2.1 i
      + ((∑ r : Fin 256, Spec.dvn su dsg W r.val (i 1).val * Spec.vhat (Spec.zv sv r.val) (i 1).val : ℝ) : EReal) := by
  rw [Gen.outsAt0_B m c t h]
  frame_open
  simp (disch := decide) only [↓ View.readCov_skip, ↓ View.readCov_cons_toLoadRect, ↓ View.readCov_fill]
  frame_out
  rw [View.readCov_eq_canon_ld]
  on_goal 2 => exact View.cover_of_tiled _ ![128, 256] rfl
  rw [canon_eq (Val := Elt Ideal) (S := S256x2048) (e := EltTy.f32) (gDvn su dsg W)]
  on_goal 2 => exact ⟨dvn_piece hB 128 1792 1 7 rfl rfl inb_S256x2048_S128x256_128_1792 inb_S256x2048_S128x256_128_1792 inb_S8x128x128_S1x128x128_7_0_0,
      dvn_piece hB 128 1536 1 6 rfl rfl inb_S256x2048_S128x256_128_1536 inb_S256x2048_S128x256_128_1536 inb_S8x128x128_S1x128x128_6_0_0,
      dvn_piece hB 128 1280 1 5 rfl rfl inb_S256x2048_S128x256_128_1280 inb_S256x2048_S128x256_128_1280 inb_S8x128x128_S1x128x128_5_0_0,
      dvn_piece hB 128 1024 1 4 rfl rfl inb_S256x2048_S128x256_128_1024 inb_S256x2048_S128x256_128_1024 inb_S8x128x128_S1x128x128_4_0_0,
      dvn_piece hB 128 768 1 3 rfl rfl inb_S256x2048_S128x256_128_768 inb_S256x2048_S128x256_128_768 inb_S8x128x128_S1x128x128_3_0_0,
      dvn_piece hB 128 512 1 2 rfl rfl inb_S256x2048_S128x256_128_512 inb_S256x2048_S128x256_128_512 inb_S8x128x128_S1x128x128_2_0_0,
      dvn_piece hB 128 256 1 1 rfl rfl inb_S256x2048_S128x256_128_256 inb_S256x2048_S128x256_128_256 inb_S8x128x128_S1x128x128_1_0_0,
      dvn_piece hB 128 0 1 0 rfl rfl inb_S256x2048_S128x256_128_0 inb_S256x2048_S128x256_128_0 inb_S8x128x128_S1x128x128_0_0_0,
      dvn_piece hB 0 1792 0 7 rfl rfl inb_S256x2048_S128x256_0_1792 inb_S256x2048_S128x256_0_1792 inb_S8x128x128_S1x128x128_7_0_0,
      dvn_piece hB 0 1536 0 6 rfl rfl inb_S256x2048_S128x256_0_1536 inb_S256x2048_S128x256_0_1536 inb_S8x128x128_S1x128x128_6_0_0,
      dvn_piece hB 0 1280 0 5 rfl rfl inb_S256x2048_S128x256_0_1280 inb_S256x2048_S128x256_0_1280 inb_S8x128x128_S1x128x128_5_0_0,
      dvn_piece hB 0 1024 0 4 rfl rfl inb_S256x2048_S128x256_0_1024 inb_S256x2048_S128x256_0_1024 inb_S8x128x128_S1x128x128_4_0_0,
      dvn_piece hB 0 768 0 3 rfl rfl inb_S256x2048_S128x256_0_768 inb_S256x2048_S128x256_0_768 inb_S8x128x128_S1x128x128_3_0_0,
      dvn_piece hB 0 512 0 2 rfl rfl inb_S256x2048_S128x256_0_512 inb_S256x2048_S128x256_0_512 inb_S8x128x128_S1x128x128_2_0_0,
      dvn_piece hB 0 256 0 1 rfl rfl inb_S256x2048_S128x256_0_256 inb_S256x2048_S128x256_0_256 inb_S8x128x128_S1x128x128_1_0_0,
      dvn_piece hB 0 0 0 0 rfl rfl inb_S256x2048_S128x256_0_0 inb_S256x2048_S128x256_0_0 inb_S8x128x128_S1x128x128_0_0_0, trivial⟩
  on_goal 2 => exact View.cover_of_tiled _ ![128, 256] rfl
  rw [ld_full]
  exact lwAdd (X1 := iblk m c 1 t) hB.hv (R := gDvn su dsg W) (dv := Spec.dvn su dsg W) (fun _ => rfl) _ i

theorem o10_B (t : Fin cfg0.N) (h : ¬ t.val % 32 = 0) (hB : BlkAt m c t su sv dsg lw lb W b) (i : S1x2048.Idx) :
    (Gen.outsAt0 m c t.val t.isLt).2.2.1 i = (Gen.outsAt0 m c (t.val - 1) (Nat.lt_of_le_of_lt (Nat.sub_le _ _) t.isLt)).2.2.1 i
      + ((∑ r : Fin 256, Spec.dvn su dsg W r.val (i 1).val : ℝ) : EReal) := by
  rw [Gen.outsAt0_B m c t h]
  frame_open
  simp (disch := decide) only [↓ View.readCov_skip, ↓ View.readCov_cons_toLoadRect, ↓ View.readCov_fill]
  frame_out
  rw [View.readCov_eq_canon_ld]
  on_goal 2 => exact View.cover_of_tiled _ ![128, 256] rfl
  rw [canon_eq (Val := Elt Ideal) (S := S256x2048) (e := EltTy.f32) (gDvn su dsg W)]
  on_goal 2 => exact ⟨dvn_piece hB 128 1792 1 7 rfl rfl inb_S256x2048_S128x256_128_1792 inb_S256x2048_S128x256_128_1792 inb_S8x128x128_S1x128x128_7_0_0,
      dvn_piece hB 128 1536 1 6 rfl rfl inb_S256x2048_S128x256_128_1536 inb_S256x2048_S128x256_128_1536 inb_S8x128x128_S1x128x128_6_0_0,
      dvn_piece hB 128 1280 1 5 rfl rfl inb_S256x2048_S128x256_128_1280 inb_S256x2048_S128x256_128_1280 inb_S8x128x128_S1x128x128_5_0_0,
      dvn_piece hB 128 1024 1 4 rfl rfl inb_S256x2048_S128x256_128_1024 inb_S256x2048_S128x256_128_1024 inb_S8x128x128_S1x128x128_4_0_0,
      dvn_piece hB 128 768 1 3 rfl rfl inb_S256x2048_S128x256_128_768 inb_S256x2048_S128x256_128_768 inb_S8x128x128_S1x128x128_3_0_0,
      dvn_piece hB 128 512 1 2 rfl rfl inb_S256x2048_S128x256_128_512 inb_S256x2048_S128x256_128_512 inb_S8x128x128_S1x128x128_2_0_0,
      dvn_piece hB 128 256 1 1 rfl rfl inb_S256x2048_S128x256_128_256 inb_S256x2048_S128x256_128_256 inb_S8x128x128_S1x128x128_1_0_0,
      dvn_piece hB 128 0 1 0 rfl rfl inb_S256x2048_S128x256_128_0 inb_S256x2048_S128x256_128_0 inb_S8x128x128_S1x128x128_0_0_0,
      dvn_piece hB 0 1792 0 7 rfl rfl inb_S256x2048_S128x256_0_1792 inb_S256x2048_S128x256_0_1792 inb_S8x128x128_S1x128x128_7_0_0,
      dvn_piece hB 0 1536 0 6 rfl rfl inb_S256x2048_S128x256_0_1536 inb_S256x2048_S128x256_0_1536 inb_S8x128x128_S1x128x128_6_0_0,
      dvn_piece hB 0 1280 0 5 rfl rfl inb_S256x2048_S128x256_0_1280 inb_S256x2048_S128x256_0_1280 inb_S8x128x128_S1x128x128_5_0_0,
      dvn_piece hB 0 1024 0 4 rfl rfl inb_S256x2048_S128x256_0_1024 inb_S256x2048_S128x256_0_1024 inb_S8x128x128_S1x128x128_4_0_0,
      dvn_piece hB 0 768 0 3 rfl rfl inb_S256x2048_S128x256_0_768 inb_S256x2048_S128x256_0_768 inb_S8x128x128_S1x128x128_3_0_0,
      dvn_piece hB 0 512 0 2 rfl rfl inb_S256x2048_S128x256_0_512 inb_S256x2048_S128x256_0_512 inb_S8x128x128_S1x128x128_2_0_0,
      dvn_piece hB 0 256 0 1 rfl rfl inb_S256x2048_S128x256_0_256 inb_S256x2048_S128x256_0_256 inb_S8x128x128_S1x128x128_1_0_0,
      dvn_piece hB 0 0 0 0 rfl rfl inb_S256x2048_S128x256_0_0 inb_S256x2048_S128x256_0_0 inb_S8x128x128_S1x128x128_0_0_0, trivial⟩
  on_goal 2 => exact View.cover_of_tiled _ ![128, 256] rfl
  rw [ld_full]
  exact lbAdd (R := gDvn su dsg W) (dv := Spec.dvn su dsg W) (fun _ => rfl) _ i

theorem o11_B (t : Fin cfg0.N) (h : ¬ t.val % 32 = 0) (hB : BlkAt m c t su sv dsg lw lb W b) (i : S8x128x128.Idx) :
    (Gen.outsAt0 m c t.val t.isLt).2.2.2.1 i = (Gen.outsAt0 m c (t.val - 1) (Nat.lt_of_le_of_lt (Nat.sub_le _ _) t.isLt)).2.2.2.1 i
      + ((Spec.tws su sv dsg lw lb 0 (i 0).val (i 1).val (i 2).val + Spec.tws su sv dsg lw lb 1 (i 0).val (i 1).val (i 2).val : ℝ) : EReal) := by
  rw [Gen.outsAt0_B m c t h]
  frame_open
  simp (disch := decide) only [↓ View.readCov_skip, ↓ View.readCov_cons_toLoadRect, ↓ View.readCov_fill]
  frame_out
  rw [canon8 (gWs su sv dsg lw lb (Gen.outsAt0 m c (t.val - 1) (Nat.lt_of_le_of_lt (Nat.sub_le _ _) t.isLt)).2.2.2.1)]
  on_goal 2 => exact ⟨dws_piece hB (Gen.outsAt0 m c (t.val - 1) (Nat.lt_of_le_of_lt (Nat.sub_le _ _) t.isLt)).2.2.2.1 1792 7 rfl inb_S256x2048_S128x256_0_1792 inb_S256x2048_S128x256_128_1792 slices_S256x2048_o0_1792_S128x256 slices_S256x2048_o128_1792_S128x256 inb_S8x128x128_S1x128x128_7_0_0 inb_S8x128x128_S1x128x128_7_0_0,
      dws_piece hB (Gen.outsAt0 m c (t.val - 1) (Nat.lt_of_le_of_lt (Nat.sub_le _ _) t.isLt)).2.2.2.1 1536 6 rfl inb_S256x2048_S128x256_0_1536 inb_S256x2048_S128x256_128_1536 slices_S256x2048_o0_1536_S128x256 slices_S256x2048_o128_1536_S128x256 inb_S8x128x128_S1x128x128_6_0_0 inb_S8x128x128_S1x128x128_6_0_0,
      dws_piece hB (Gen.outsAt0 m c (t.val - 1) (Nat.lt_of_le_of_lt (Nat.sub_le _ _) t.isLt)).2.2.2.1 1280 5 rfl inb_S256x2048_S128x256_0_1280 inb_S256x2048_S128x256_128_1280 slices_S256x2048_o0_1280_S128x256 slices_S256x2048_o128_1280_S128x256 inb_S8x128x128_S1x128x128_5_0_0 inb_S8x128x128_S1x128x128_5_0_0,
      dws_piece hB (Gen.outsAt0 m c (t.val - 1) (Nat.lt_of_le_of_lt (Nat.sub_le _ _) t.isLt)).2.2.2.1 1024 4 rfl inb_S256x2048_S128x256_0_1024 inb_S256x2048_S128x256_128_1024 slices_S256x2048_o0_1024_S128x256 slices_S256x2048_o128_1024_S128x256 inb_S8x128x128_S1x128x128_4_0_0 inb_S8x128x128_S1x128x128_4_0_0,
      dws_piece hB (Gen.outsAt0 m c (t.val - 1) (Nat.lt_of_le_of_lt (Nat.sub_le _ _) t.isLt)).2.2.2.1 768 3 rfl inb_S256x2048_S128x256_0_768 inb_S256x2048_S128x256_128_768 slices_S256x2048_o0_768_S128x256 slices_S256x2048_o128_768_S128x256 inb_S8x128x128_S1x128x128_3_0_0 inb_S8x128x128_S1x128x128_3_0_0,
      dws_piece hB (Gen.outsAt0 m c (t.val - 1) (Nat.lt_of_le_of_lt (Nat.sub_le _ _) t.isLt)).2.2.2.1 512 2 rfl inb_S256x2048_S128x256_0_512 inb_S256x2048_S128x256_128_512 slices_S256x2048_o0_512_S128x256 slices_S256x2048_o128_512_S128x256 inb_S8x128x128_S1x128x128_2_0_0 inb_S8x128x128_S1x128x128_2_0_0,
      dws_piece hB (Gen.outsAt0 m c (t.val - 1) (Nat.lt_of_le_of_lt (Nat.sub_le _ _) t.isLt)).2.2.2.1 256 1 rfl inb_S256x2048_S128x256_0_256 inb_S256x2048_S128x256_128_256 slices_S256x2048_o0_256_S128x256 slices_S256x2048_o128_256_S128x256 inb_S8x128x128_S1x128x128_1_0_0 inb_S8x128x128_S1x128x128_1_0_0,
      dws_piece hB (Gen.outsAt0 m c (t.val - 1) (Nat.lt_of_le_of_lt (Nat.sub_le _ _) t.isLt)).2.2.2.1 0 0 rfl inb_S256x2048_S128x256_0_0 inb_S256x2048_S128x256_128_0 slices_S256x2048_o0_0_S128x256 slices_S256x2048_o128_0_S128x256 inb_S8x128x128_S1x128x128_0_0_0 inb_S8x128x128_S1x128x128_0_0_0, trivial⟩
  on_goal 2 => exact View.cover_of_tiled _ ![1, 128, 128] rfl
  rfl

theorem o12_B (t : Fin cfg0.N) (h : ¬ t.val % 32 = 0) (hB : BlkAt m c t su sv dsg lw lb W b) (i : S8x128x1.Idx) :
    (Gen.outsAt0 m c t.val t.isLt).2.2.2.2 i = (Gen.outsAt0 m c (t.val - 1) (Nat.lt_of_le_of_lt (Nat.sub_le _ _) t.isLt)).2.2.2.2 i
      + ((Spec.tbs su dsg 0 (i 0).val (i 1).val + Spec.tbs su dsg 1 (i 0).val (i 1).val : ℝ) : EReal) := by
  rw [Gen.outsAt0_B m c t h]
  frame_open
  simp (disch := decide) only [↓ View.readCov_skip, ↓ View.readCov_cons_toLoadRect, ↓ View.readCov_fill]
  frame_out
  rw [canon8 (gBs su dsg (Gen.outsAt0 m c (t.val - 1) (Nat.lt_of_le_of_lt (Nat.sub_le _ _) t.isLt)).2.2.2.2)]
  on_goal 2 => exact ⟨dbs_piece hB (Gen.outsAt0 m c (t.val - 1) (Nat.lt_of_le_of_lt (Nat.sub_le _ _) t.isLt)).2.2.2.2 1792 7 rfl inb_S256x2048_S128x256_0_1792 inb_S256x2048_S128x256_128_1792 inb_S8x128x1_S1x128x1_7_0_0 inb_S8x128x1_S1x128x1_7_0_0,
      dbs_piece hB (Gen.outsAt0 m c (t.val - 1) (Nat.lt_of_le_of_lt (Nat.sub_le _ _) t.isLt)).2.2.2.2 1536 6 rfl inb_S256x2048_S128x256_0_1536 inb_S256x2048_S128x256_128_1536 inb_S8x128x1_S1x128x1_6_0_0 inb_S8x128x1_S1x128x1_6_0_0,
      dbs_piece hB (Gen.outsAt0 m c (t.val - 1) (Nat.lt_of_le_of_lt (Nat.sub_le _ _) t.isLt)).2.2.2.2 1280 5 rfl inb_S256x2048_S128x256_0_1280 inb_S256x2048_S128x256_128_1280 inb_S8x128x1_S1x128x1_5_0_0 inb_S8x128x1_S1x128x1_5_0_0,
      dbs_piece hB (Gen.outsAt0 m c (t.val - 1) (Nat.lt_of_le_of_lt (Nat.sub_le _ _) t.isLt)).2.2.2.2 1024 4 rfl inb_S256x2048_S128x256_0_1024 inb_S256x2048_S128x256_128_1024 inb_S8x128x1_S1x128x1_4_0_0 inb_S8x128x1_S1x128x1_4_0_0,
      dbs_piece hB (Gen.outsAt0 m c (t.val - 1) (Nat.lt_of_le_of_lt (Nat.sub_le _ _) t.isLt)).2.2.2.2 768 3 rfl inb_S256x2048_S128x256_0_768 inb_S256x2048_S128x256_128_768 inb_S8x128x1_S1x128x1_3_0_0 inb_S8x128x1_S1x128x1_3_0_0,
      dbs_piece hB (Gen.outsAt0 m c (t.val - 1) (Nat.lt_of_le_of_lt (Nat.sub_le _ _) t.isLt)).2.2.2.2 512 2 rfl inb_S256x2048_S128x256_0_512 inb_S256x2048_S128x256_128_512 inb_S8x128x1_S1x128x1_2_0_0 inb_S8x128x1_S1x128x1_2_0_0,
      dbs_piece hB (Gen.outsAt0 m c (t.val - 1) (Nat.lt_of_le_of_lt (Nat.sub_le _ _) t.isLt)).2.2.2.2 256 1 rfl inb_S256x2048_S128x256_0_256 inb_S256x2048_S128x256_128_256 inb_S8x128x1_S1x128x1_1_0_0 inb_S8x128x1_S1x128x1_1_0_0,
      dbs_piece hB (Gen.outsAt0 m c (t.val - 1) (Nat.lt_of_le_of_lt (Nat.sub_le _ _) t.isLt)).2.2.2.2 0 0 rfl inb_S256x2048_S128x256_0_0 inb_S256x2048_S128x256_128_0 inb_S8x128x1_S1x128x1_0_0_0 inb_S8x128x1_S1x128x1_0_0_0, trivial⟩
  on_goal 2 => exact View.cover_of_tiled _ ![1, 128, 1] rfl
  rfl

end Cert.KVal

end
-- ==== Proof.Ent.lean ====
/-
  What the kernel's host lines put into the region's arrays before it starts, read at an index over the arguments.
-/
module

public import proofs.«01_k».proof.Proof.KVal
public import proofs.«01_k».proof.Proof.Gen.ReferenceIdeal.Read
public import Idealize.ShloMosaic.Lib.StableHlo.ReadAt

@[expose] public section

set_option maxRecDepth 16384

noncomputable section

namespace Cert.Ent

open Idealize.ShloMosaic Idealize.ShloMosaic.TcCoe Idealize.SL.Sem
open Cert.KernelIdeal Cert.KernelIdeal.Gen

variable (m : (ℓ : Loc nD τ sig) → Buf (Elt Ideal) ℓ) (c : Dev nD)

set_option maxHeartbeats 4000000 in
theorem v9 : V m c main_v9 = Cert.ReferenceIdeal.Read.val_main_v14 (F := Ideal) (m ((c : Thread nD τ).loc main_arg5)) := by
  unfold V
  after_reads_simp
  rfl

set_option maxHeartbeats 4000000 in
theorem v10 (i : S8x128x128.Idx) : V m c main_v10 i = Cert.ReferenceIdeal.Read.val_main_v14 (F := Ideal) (m ((c : Thread nD τ).loc main_arg5)) i := by
  rw [← v9 m c]
  unfold V
  after_reads_simp
  rfl

set_option maxHeartbeats 4000000 in
theorem v12 (g : Fin 8) (a b : Fin 128) : V m c main_v12 (ix3 g a b) =
    Cert.ReferenceIdeal.Read.val_main_v14 (F := Ideal) (m ((c : Thread nD τ).loc main_arg5)) (ix3 g b a) := by
  rw [← v9 m c]
  unfold V
  after_reads_simp
  generalize Idealize.ShloMosaic.select _ _ _ = y
  pointwise

set_option maxHeartbeats 4000000 in
theorem v13 (g : Fin 8) (a : Fin 128) (b : Fin 1) : V m c main_v13 (ix3 g a b) = m ((c : Thread nD τ).loc main_arg6) (ix2 g a) := by
  unfold V
  after_reads_at

set_option maxHeartbeats 4000000 in
theorem v14 (a : Fin 1) (j : Fin 2048) : V m c main_v14 (ix2 a j) = m ((c : Thread nD τ).loc main_arg3) (ix1 j) := by
  unfold V
  after_reads_at

set_option maxHeartbeats 4000000 in
theorem v15 (a : Fin 1) (j : Fin 2048) : V m c main_v15 (ix2 a j) = m ((c : Thread nD τ).loc main_arg4) (ix1 j) := by
  unfold V
  after_reads_at

theorem v16 : V m c main_v16_0 = m ((c : Thread nD τ).loc main_arg2) := by
  unfold V
  after_reads_simp
  rfl

end Cert.Ent
end
-- ==== Proof.Ref.lean ====
/-
  The reference's results over the extended reals, stage by stage: at arrays of real numbers every stage is the coercion
  of a real function of its coordinates (Proof/Spec.lean), and the chain rule's terms close up to the closed forms.
-/
module

public import proofs.«01_k».proof.Proof.Lift
public import proofs.«01_k».proof.Proof.Gen.ReferenceIdeal.Read
public import Idealize.ShloMosaic.Lib.Pointwise

@[expose] public section

set_option maxRecDepth 16384

noncomputable section

namespace Cert.RefValue

open Idealize.ShloMosaic Cert.ReferenceIdeal Cert.ReferenceIdeal.Read

variable {x0 : (⟨S8192x14336, .bf16⟩ : BufTy).Contents (Elt Ideal)} {x1 : (⟨S8192x2048, .bf16⟩ : BufTy).Contents (Elt Ideal)}
  {x2 : (⟨S8192x8192, .bf16⟩ : BufTy).Contents (Elt Ideal)} {x3 x4 : (⟨S2048, .f32⟩ : BufTy).Contents (Elt Ideal)}
  {x5 : (⟨S8x128x128, .f32⟩ : BufTy).Contents (Elt Ideal)} {x6 : (⟨S8x128, .f32⟩ : BufTy).Contents (Elt Ideal)}
  {su sv dsg : ℕ → ℕ → ℝ} {lw lb : ℕ → ℝ} {W : ℕ → ℕ → ℕ → ℝ} {b : ℕ → ℕ → ℝ}

/-- The arguments are the coercions of real arrays: the two branches' columns of the projection, the cotangent, the
    layer norm's scale and shift, the masked mixing weights and the mixing bias. -/
structure Lifted (x0 : (⟨S8192x14336, .bf16⟩ : BufTy).Contents (Elt Ideal)) (x1 : (⟨S8192x2048, .bf16⟩ : BufTy).Contents (Elt Ideal))
    (x3 x4 : (⟨S2048, .f32⟩ : BufTy).Contents (Elt Ideal)) (x5 : (⟨S8x128x128, .f32⟩ : BufTy).Contents (Elt Ideal))
    (x6 : (⟨S8x128, .f32⟩ : BufTy).Contents (Elt Ideal)) (su sv dsg : ℕ → ℕ → ℝ) (lw lb : ℕ → ℝ) (W : ℕ → ℕ → ℕ → ℝ)
    (b : ℕ → ℕ → ℝ) : Prop where
  hu : ∀ i : S8192x2048.Idx, x0 (idx_main_v0 i) = ((su (i 0).val (i 1).val : ℝ) : EReal)
  hv : ∀ i : S8192x2048.Idx, x0 (idx_main_v2 i) = ((sv (i 0).val (i 1).val : ℝ) : EReal)
  hg : ∀ i : S8192x2048.Idx, x1 i = ((dsg (i 0).val (i 1).val : ℝ) : EReal)
  hw : ∀ i : S2048.Idx, x3 i = ((lw (i 0).val : ℝ) : EReal)
  hb : ∀ i : S2048.Idx, x4 i = ((lb (i 0).val : ℝ) : EReal)
  hW : ∀ i : S8x128x128.Idx, val_main_v14 (F := Ideal) x5 i = ((W (i 0).val (i 1).val (i 2).val : ℝ) : EReal)
  hs : ∀ i : S8x128.Idx, x6 i = ((b (i 0).val (i 1).val : ℝ) : EReal)

theorem sqrt_two_ne : Real.sqrt 2 ≠ 0 := (Real.sqrt_pos.2 (by norm_num)).ne'

theorem sqrt_pi_ne : Real.sqrt Real.pi ≠ 0 := (Real.sqrt_pos.2 Real.pi_pos).ne'

variable (h : Lifted x0 x1 x3 x4 x5 x6 su sv dsg lw lb W b)

include h in
theorem r1 (i : S8192x2048.Idx) : val_main_v1 (F := Ideal) x0 i = ((su (i 0).val (i 1).val : ℝ) : EReal) := by
  rw [val_main_v1_apply, val_main_v0_apply]; exact h.hu i

include h in
theorem r3 (i : S8192x2048.Idx) : val_main_v3 (F := Ideal) x0 i = ((sv (i 0).val (i 1).val : ℝ) : EReal) := by
  rw [val_main_v3_apply, val_main_v2_apply]; exact h.hv i

include h in
theorem r14 (i : S8x128x128.Idx) : val_main_v14 (F := Ideal) x5 i = ((W (i 0).val (i 1).val (i 2).val : ℝ) : EReal) := by
  exact h.hW i

theorem r15 (i : S8192x2048.Idx) : val_main_v15 (F := Ideal) i = ((1 / 2 : ℝ) : EReal) := by
  rw [val_main_v15_apply]; exact Lift.lit_half

include h in
theorem r16 (i : S8192x2048.Idx) : val_main_v16 (F := Ideal) x0 i = ((1 / 2 * su (i 0).val (i 1).val : ℝ) : EReal) := by
  rw [val_main_v16_apply, r15, r1 h]; exact (EReal.coe_mul _ _).symm

theorem r17 (i : S_.Idx) : val_main_v17 (F := Ideal) i = ((Real.sqrt 2 : ℝ) : EReal) := by
  rw [val_main_v17_apply]; exact (congrArg Ideal.sqrt Lift.lit_two).trans (Lift.sqrt_real 2 (by norm_num))

theorem r18 (i : S8192x2048.Idx) : val_main_v18 (F := Ideal) i = ((Real.sqrt 2 : ℝ) : EReal) := by
  rw [val_main_v18_apply]; exact r17 _

include h in
theorem r19 (i : S8192x2048.Idx) : val_main_v19 (F := Ideal) x0 i = ((su (i 0).val (i 1).val * (Real.sqrt 2)⁻¹ : ℝ) : EReal) := by
  rw [val_main_v19_apply, r1 h, r18]; exact (Lift.div_real _ _ sqrt_two_ne).trans (by rw [div_eq_mul_inv])

include h in
theorem r20 (i : S8192x2048.Idx) : val_main_v20 (F := Ideal) x0 i = ((Spec.erfR (su (i 0).val (i 1).val * (Real.sqrt 2)⁻¹) : ℝ) : EReal) := by
  rw [val_main_v20_apply, r19 h]; exact Lift.erf_real _

theorem r21 (i : S_.Idx) : val_main_v21 (F := Ideal) i = ((Real.pi : ℝ) : EReal) := by
  rw [val_main_v21_apply]; exact (congrArg Ideal.acos Lift.lit_neg_one).trans Lift.acos_neg_one

theorem r22 (i : S_.Idx) : val_main_v22 (F := Ideal) i = ((Real.sqrt Real.pi : ℝ) : EReal) := by
  rw [val_main_v22_apply, r21]; exact Lift.sqrt_real _ Real.pi_pos.le

theorem r23 (i : S_.Idx) : val_main_v23 (F := Ideal) i = ((2 / Real.sqrt Real.pi : ℝ) : EReal) := by
  rw [val_main_v23_apply, r22]; exact (congrArg (fun z => Ideal.div z _) Lift.lit_two).trans (Lift.div_real _ _ sqrt_pi_ne)

include h in
theorem r24 (i : S8192x2048.Idx) : val_main_v24 (F := Ideal) x0 i = (((su (i 0).val (i 1).val * (Real.sqrt 2)⁻¹) * (su (i 0).val (i 1).val * (Real.sqrt 2)⁻¹) : ℝ) : EReal) := by
  rw [val_main_v24_apply, r19 h]; exact (EReal.coe_mul _ _).symm

include h in
theorem r25 (i : S8192x2048.Idx) : val_main_v25 (F := Ideal) x0 i = ((-((su (i 0).val (i 1).val * (Real.sqrt 2)⁻¹) * (su (i 0).val (i 1).val * (Real.sqrt 2)⁻¹)) : ℝ) : EReal) := by
  rw [val_main_v25_apply, r24 h]; exact (EReal.coe_neg _).symm

include h in
theorem r26 (i : S8192x2048.Idx) : val_main_v26 (F := Ideal) x0 i = ((Real.exp (-((su (i 0).val (i 1).val * (Real.sqrt 2)⁻¹) * (su (i 0).val (i 1).val * (Real.sqrt 2)⁻¹))) : ℝ) : EReal) := by
  rw [val_main_v26_apply, r25 h]; exact Ideal.exp_coe _

theorem r27 (i : S8192x2048.Idx) : val_main_v27 (F := Ideal) i = ((2 / Real.sqrt Real.pi : ℝ) : EReal) := by
  rw [val_main_v27_apply]; exact r23 _

include h in
theorem r28 (i : S8192x2048.Idx) : val_main_v28 (F := Ideal) x0 i = ((2 / Real.sqrt Real.pi * Real.exp (-((su (i 0).val (i 1).val * (Real.sqrt 2)⁻¹) * (su (i 0).val (i 1).val * (Real.sqrt 2)⁻¹))) : ℝ) : EReal) := by
  rw [val_main_v28_apply, r27, r26 h]; exact (EReal.coe_mul _ _).symm

theorem r29 (i : S8192x2048.Idx) : val_main_v29 (F := Ideal) i = ((1 : ℝ) : EReal) := by
  rw [val_main_v29_apply]; exact Lift.lit_one

include h in
theorem r30 (i : S8192x2048.Idx) : val_main_v30 (F := Ideal) x0 i = ((1 + Spec.erfR (su (i 0).val (i 1).val * (Real.sqrt 2)⁻¹) : ℝ) : EReal) := by
  rw [val_main_v30_apply, r29, r20 h]; exact (EReal.coe_add _ _).symm

include h in
theorem r31 (i : S8192x2048.Idx) : val_main_v31 (F := Ideal) x0 i = ((Spec.gelu (su (i 0).val (i 1).val) : ℝ) : EReal) := by
  rw [val_main_v31_apply, r16 h, r30 h]; exact (EReal.coe_mul _ _).symm

theorem r32 (i : S8192x2048.Idx) : val_main_v32 (F := Ideal) i = ((1 / 2 : ℝ) : EReal) := by
  rw [val_main_v32_apply]; exact Lift.lit_half

include h in
theorem r33 (i : S8192x2048.Idx) : val_main_v33 (F := Ideal) x0 i = ((1 / 2 * sv (i 0).val (i 1).val : ℝ) : EReal) := by
  rw [val_main_v33_apply, r32, r3 h]; exact (EReal.coe_mul _ _).symm

theorem r34 (i : S_.Idx) : val_main_v34 (F := Ideal) i = ((Real.sqrt 2 : ℝ) : EReal) := by
  rw [val_main_v34_apply]; exact (congrArg Ideal.sqrt Lift.lit_two).trans (Lift.sqrt_real 2 (by norm_num))

theorem r35 (i : S8192x2048.Idx) : val_main_v35 (F := Ideal) i = ((Real.sqrt 2 : ℝ) : EReal) := by
  rw [val_main_v35_apply]; exact r34 _

include h in
theorem r36 (i : S8192x2048.Idx) : val_main_v36 (F := Ideal) x0 i = ((sv (i 0).val (i 1).val * (Real.sqrt 2)⁻¹ : ℝ) : EReal) := by
  rw [val_main_v36_apply, r3 h, r35]; exact (Lift.div_real _ _ sqrt_two_ne).trans (by rw [div_eq_mul_inv])

include h in
theorem r37 (i : S8192x2048.Idx) : val_main_v37 (F := Ideal) x0 i = ((Spec.erfR (sv (i 0).val (i 1).val * (Real.sqrt 2)⁻¹) : ℝ) : EReal) := by
  rw [val_main_v37_apply, r36 h]; exact Lift.erf_real _

theorem r38 (i : S_.Idx) : val_main_v38 (F := Ideal) i = ((Real.pi : ℝ) : EReal) := by
  rw [val_main_v38_apply]; exact (congrArg Ideal.acos Lift.lit_neg_one).trans Lift.acos_neg_one

theorem r39 (i : S_.Idx) : val_main_v39 (F := Ideal) i = ((Real.sqrt Real.pi : ℝ) : EReal) := by
  rw [val_main_v39_apply, r38]; exact Lift.sqrt_real _ Real.pi_pos.le

theorem r40 (i : S_.Idx) : val_main_v40 (F := Ideal) i = ((2 / Real.sqrt Real.pi : ℝ) : EReal) := by
  rw [val_main_v40_apply, r39]; exact (congrArg (fun z => Ideal.div z _) Lift.lit_two).trans (Lift.div_real _ _ sqrt_pi_ne)

include h in
theorem r41 (i : S8192x2048.Idx) : val_main_v41 (F := Ideal) x0 i = (((sv (i 0).val (i 1).val * (Real.sqrt 2)⁻¹) * (sv (i 0).val (i 1).val * (Real.sqrt 2)⁻¹) : ℝ) : EReal) := by
  rw [val_main_v41_apply, r36 h]; exact (EReal.coe_mul _ _).symm

include h in
theorem r42 (i : S8192x2048.Idx) : val_main_v42 (F := Ideal) x0 i = ((-((sv (i 0).val (i 1).val * (Real.sqrt 2)⁻¹) * (sv (i 0).val (i 1).val * (Real.sqrt 2)⁻¹)) : ℝ) : EReal) := by
  rw [val_main_v42_apply, r41 h]; exact (EReal.coe_neg _).symm

include h in
theorem r43 (i : S8192x2048.Idx) : val_main_v43 (F := Ideal) x0 i = ((Real.exp (-((sv (i 0).val (i 1).val * (Real.sqrt 2)⁻¹) * (sv (i 0).val (i 1).val * (Real.sqrt 2)⁻¹))) : ℝ) : EReal) := by
  rw [val_main_v43_apply, r42 h]; exact Ideal.exp_coe _

theorem r44 (i : S8192x2048.Idx) : val_main_v44 (F := Ideal) i = ((2 / Real.sqrt Real.pi : ℝ) : EReal) := by
  rw [val_main_v44_apply]; exact r40 _

include h in
theorem r45 (i : S8192x2048.Idx) : val_main_v45 (F := Ideal) x0 i = ((2 / Real.sqrt Real.pi * Real.exp (-((sv (i 0).val (i 1).val * (Real.sqrt 2)⁻¹) * (sv (i 0).val (i 1).val * (Real.sqrt 2)⁻¹))) : ℝ) : EReal) := by
  rw [val_main_v45_apply, r44, r43 h]; exact (EReal.coe_mul _ _).symm

theorem r46 (i : S8192x2048.Idx) : val_main_v46 (F := Ideal) i = ((1 : ℝ) : EReal) := by
  rw [val_main_v46_apply]; exact Lift.lit_one

include h in
theorem r47 (i : S8192x2048.Idx) : val_main_v47 (F := Ideal) x0 i = ((1 + Spec.erfR (sv (i 0).val (i 1).val * (Real.sqrt 2)⁻¹) : ℝ) : EReal) := by
  rw [val_main_v47_apply, r46, r37 h]; exact (EReal.coe_add _ _).symm

include h in
/-- The gated branch after its gelu. -/
theorem r48 (i : S8192x2048.Idx) : val_main_v48 (F := Ideal) x0 i = ((Spec.zv sv (i 0).val (i 1).val : ℝ) : EReal) := by
  rw [val_main_v48_apply, r33 h, r47 h]; exact (EReal.coe_mul _ _).symm

include h in
theorem r49 (i : S8192.Idx) : val_main_v49 (F := Ideal) x0 i = ((∑ k : Fin 2048, Spec.zv sv (i 0).val k.val : ℝ) : EReal) := by
  rw [val_main_v49_apply]; exact Lift.init_sum _ _ fun k => r48 h _

include h in
theorem r50 (i : S8192x1.Idx) : val_main_v50 (F := Ideal) x0 i = ((∑ k : Fin 2048, Spec.zv sv (i 0).val k.val : ℝ) : EReal) := by
  rw [val_main_v50_apply]; exact r49 h _

theorem r51 (i : S8192x1.Idx) : val_main_v51 (F := Ideal) i = ((2048 : ℝ) : EReal) := by
  rw [val_main_v51_apply]; exact Lift.lit_2048

include h in
theorem r52 (i : S8192x1.Idx) : val_main_v52 (F := Ideal) x0 i = ((Spec.mean (Spec.zv sv (i 0).val) : ℝ) : EReal) := by
  rw [val_main_v52_apply, r50 h, r51]; exact (Lift.div_real _ _ (by norm_num))

include h in
theorem r53 (i : S8192x2048.Idx) : val_main_v53 (F := Ideal) x0 i = ((Spec.mean (Spec.zv sv (i 0).val) : ℝ) : EReal) := by
  rw [val_main_v53_apply]; exact r52 h _

include h in
theorem r54 (i : S8192x2048.Idx) : val_main_v54 (F := Ideal) x0 i = ((Spec.dev (Spec.zv sv (i 0).val) (i 1).val : ℝ) : EReal) := by
  rw [val_main_v54_apply, r48 h, r53 h]; exact (EReal.coe_sub _ _).symm

include h in
theorem r55 (i : S8192x2048.Idx) : val_main_v55 (F := Ideal) x0 i = ((Spec.dev (Spec.zv sv (i 0).val) (i 1).val * Spec.dev (Spec.zv sv (i 0).val) (i 1).val : ℝ) : EReal) := by
  rw [val_main_v55_apply, r54 h]; exact (EReal.coe_mul _ _).symm

theorem r56 (i : S8192x2048.Idx) : val_main_v56 (F := Ideal) i = ((2 : ℝ) : EReal) := by
  rw [val_main_v56_apply]; exact Lift.lit_two

include h in
theorem r57 (i : S8192x2048.Idx) : val_main_v57 (F := Ideal) x0 i = ((2 * Spec.dev (Spec.zv sv (i 0).val) (i 1).val : ℝ) : EReal) := by
  rw [val_main_v57_apply, r56, r54 h]; exact (EReal.coe_mul _ _).symm

include h in
theorem r58 (i : S8192.Idx) : val_main_v58 (F := Ideal) x0 i = ((∑ k : Fin 2048, Spec.dev (Spec.zv sv (i 0).val) k.val * Spec.dev (Spec.zv sv (i 0).val) k.val : ℝ) : EReal) := by
  rw [val_main_v58_apply]; exact Lift.init_sum _ _ fun k => r55 h _

include h in
theorem r59 (i : S8192x1.Idx) : val_main_v59 (F := Ideal) x0 i = ((∑ k : Fin 2048, Spec.dev (Spec.zv sv (i 0).val) k.val * Spec.dev (Spec.zv sv (i 0).val) k.val : ℝ) : EReal) := by
  rw [val_main_v59_apply]; exact r58 h _

theorem r60 (i : S8192x1.Idx) : val_main_v60 (F := Ideal) i = ((2048 : ℝ) : EReal) := by
  rw [val_main_v60_apply]; exact Lift.lit_2048

include h in
theorem r61 (i : S8192x1.Idx) : val_main_v61 (F := Ideal) x0 i = ((Spec.var (Spec.zv sv (i 0).val) : ℝ) : EReal) := by
  rw [val_main_v61_apply, r59 h, r60]; exact (Lift.div_real _ _ (by norm_num))

include h in
theorem r62 (i : S8192x2048.Idx) : val_main_v62 (F := Ideal) x0 i = ((Spec.mean (Spec.zv sv (i 0).val) : ℝ) : EReal) := by
  rw [val_main_v62_apply]; exact r52 h _

include h in
theorem r63 (i : S8192x2048.Idx) : val_main_v63 (F := Ideal) x0 i = ((Spec.dev (Spec.zv sv (i 0).val) (i 1).val : ℝ) : EReal) := by
  rw [val_main_v63_apply, r48 h, r62 h]; exact (EReal.coe_sub _ _).symm

theorem r64 (i : S8192x1.Idx) : val_main_v64 (F := Ideal) i = ((Spec.eps : ℝ) : EReal) := by
  rw [val_main_v64_apply]; exact Lift.lit_eps

include h in
theorem r65 (i : S8192x1.Idx) : val_main_v65 (F := Ideal) x0 i = ((Spec.var (Spec.zv sv (i 0).val) + Spec.eps : ℝ) : EReal) := by
  rw [val_main_v65_apply, r61 h, r64]; exact (EReal.coe_add _ _).symm

include h in
theorem r66 (i : S8192x1.Idx) : val_main_v66 (F := Ideal) x0 i = ((Spec.rstd (Spec.zv sv (i 0).val) : ℝ) : EReal) := by
  rw [val_main_v66_apply, r65 h]; exact Lift.rsqrt_real _ (Spec.var_eps_pos _)

include h in
theorem r67 (i : S8192x1.Idx) : val_main_v67 (F := Ideal) x0 i = ((Spec.rstd (Spec.zv sv (i 0).val) / (Spec.var (Spec.zv sv (i 0).val) + Spec.eps) : ℝ) : EReal) := by
  rw [val_main_v67_apply, r66 h, r65 h]; exact (Lift.div_real _ _ (Spec.var_eps_pos _).ne')

theorem r68 (i : S8192x1.Idx) : val_main_v68 (F := Ideal) i = ((-(1 / 2) : ℝ) : EReal) := by
  rw [val_main_v68_apply]; exact Lift.lit_neg_half

include h in
theorem r69 (i : S8192x1.Idx) : val_main_v69 (F := Ideal) x0 i = ((-(1 / 2) * (Spec.rstd (Spec.zv sv (i 0).val) / (Spec.var (Spec.zv sv (i 0).val) + Spec.eps)) : ℝ) : EReal) := by
  rw [val_main_v69_apply, r68, r67 h]; exact (EReal.coe_mul _ _).symm

include h in
theorem r70 (i : S8192x2048.Idx) : val_main_v70 (F := Ideal) x0 i = ((Spec.rstd (Spec.zv sv (i 0).val) : ℝ) : EReal) := by
  rw [val_main_v70_apply]; exact r66 h _

include h in
/-- The normalised rows. -/
theorem r71 (i : S8192x2048.Idx) : val_main_v71 (F := Ideal) x0 i = ((Spec.vhat (Spec.zv sv (i 0).val) (i 1).val : ℝ) : EReal) := by
  rw [val_main_v71_apply, r63 h, r70 h]; exact (EReal.coe_mul _ _).symm

include h in
theorem r72 (i : S1x2048.Idx) : val_main_v72 (F := Ideal) x3 i = ((lw (i 1).val : ℝ) : EReal) := by
  rw [val_main_v72_apply]; exact h.hw _

include h in
theorem r73 (i : S8192x2048.Idx) : val_main_v73 (F := Ideal) x3 i = ((lw (i 1).val : ℝ) : EReal) := by
  rw [val_main_v73_apply]; exact r72 h _

include h in
theorem r74 (i : S8192x2048.Idx) : val_main_v74 (F := Ideal) x0 x3 i = ((Spec.vhat (Spec.zv sv (i 0).val) (i 1).val * lw (i 1).val : ℝ) : EReal) := by
  rw [val_main_v74_apply, r71 h, r73 h]; exact (EReal.coe_mul _ _).symm

include h in
theorem r75 (i : S1x2048.Idx) : val_main_v75 (F := Ideal) x4 i = ((lb (i 1).val : ℝ) : EReal) := by
  rw [val_main_v75_apply]; exact h.hb _

include h in
theorem r76 (i : S8192x2048.Idx) : val_main_v76 (F := Ideal) x4 i = ((lb (i 1).val : ℝ) : EReal) := by
  rw [val_main_v76_apply]; exact r75 h _

include h in
/-- The rows scaled and shifted. -/
theorem r77 (i : S8192x2048.Idx) : val_main_v77 (F := Ideal) x0 x3 x4 i = ((Spec.vn sv lw lb (i 0).val (i 1).val : ℝ) : EReal) := by
  rw [val_main_v77_apply, r74 h, r76 h]; exact (EReal.coe_add _ _).symm

include h in
theorem r78 (i : S64x128x8x256.Idx) : val_main_v78 (F := Ideal) x0 x3 x4 i = ((Spec.vn sv lw lb (128 * (i 0).val + (i 1).val) (256 * (i 2).val + (i 3).val) : ℝ) : EReal) := by
  rw [val_main_v78_apply, r77 h]
  have h0 : (i 0).val < 64 := (i 0).isLt; have h1 : (i 1).val < 128 := (i 1).isLt
  have h2 : (i 2).val < 8 := (i 2).isLt; have h3 : (i 3).val < 256 := (i 3).isLt
  refine congrArg Real.toEReal (congrArg₂ _ ?_ ?_)
  · show ((((i 0).val * 128 + (i 1).val) * 8 + (i 2).val) * 256 + (i 3).val) / 2048 = _; omega
  · show ((((i 0).val * 128 + (i 1).val) * 8 + (i 2).val) * 256 + (i 3).val) % 2048 = _; omega

include h in
theorem r79 (i : S8x64x256x128.Idx) : val_main_v79 (F := Ideal) x0 x3 x4 x5 i = ((∑ k : Fin 128, Spec.vn sv lw lb (128 * (i 1).val + k.val) (256 * (i 0).val + (i 2).val) * W (i 0).val (i 3).val k.val : ℝ) : EReal) := by
  rw [val_main_v79_apply]; exact Lift.dot_sum _ _ _ _ (fun k => r78 h _) fun k => r14 h _

include h in
theorem r80 (i : S64x128x8x256.Idx) : val_main_v80 (F := Ideal) x0 x3 x4 x5 i = ((∑ k : Fin 128, Spec.vn sv lw lb (128 * (i 0).val + k.val) (256 * (i 2).val + (i 3).val) * W (i 2).val (i 1).val k.val : ℝ) : EReal) := by
  rw [val_main_v80_apply]; exact r79 h _

include h in
theorem r81 (i : S128x8.Idx) : val_main_v81 (F := Ideal) x6 i = ((b (i 1).val (i 0).val : ℝ) : EReal) := by
  rw [val_main_v81_apply]; exact h.hs _

include h in
theorem r82 (i : S1x128x8x1.Idx) : val_main_v82 (F := Ideal) x6 i = ((b (i 2).val (i 1).val : ℝ) : EReal) := by
  rw [val_main_v82_apply]; exact r81 h _

include h in
theorem r83 (i : S64x128x8x256.Idx) : val_main_v83 (F := Ideal) x6 i = ((b (i 2).val (i 1).val : ℝ) : EReal) := by
  rw [val_main_v83_apply]; exact r82 h _

include h in
theorem r84 (i : S64x128x8x256.Idx) : val_main_v84 (F := Ideal) x0 x3 x4 x5 x6 i = ((∑ k : Fin 128, Spec.vn sv lw lb (128 * (i 0).val + k.val) (256 * (i 2).val + (i 3).val) * W (i 2).val (i 1).val k.val + b (i 2).val (i 1).val : ℝ) : EReal) := by
  rw [val_main_v84_apply, r80 h, r83 h]; exact (EReal.coe_add _ _).symm

include h in
/-- The mixed rows. -/
theorem r85 (i : S8192x2048.Idx) : val_main_v85 (F := Ideal) x0 x3 x4 x5 x6 i = ((Spec.mixed sv lw lb W b (i 0).val (i 1).val : ℝ) : EReal) := by
  rw [val_main_v85_apply, r84 h]
  have h0 : (i 0).val < 8192 := (i 0).isLt; have h1 : (i 1).val < 2048 := (i 1).isLt
  have e0 : ((i 0).val * 2048 + (i 1).val) / 262144 = (i 0).val / 128 := by omega
  have e1 : ((i 0).val * 2048 + (i 1).val) / 2048 % 128 = (i 0).val % 128 := by omega
  have e2 : ((i 0).val * 2048 + (i 1).val) / 256 % 8 = (i 1).val / 256 := by omega
  have e3 : ((i 0).val * 2048 + (i 1).val) % 256 = (i 1).val % 256 := by omega
  have e4 : 256 * ((i 1).val / 256) + (i 1).val % 256 = (i 1).val := by omega
  show ((∑ k : Fin 128, Spec.vn sv lw lb (128 * (((i 0).val * 2048 + (i 1).val) / 262144) + k.val) (256 * (((i 0).val * 2048 + (i 1).val) / 256 % 8) + (((i 0).val * 2048 + (i 1).val) % 256)) * W (((i 0).val * 2048 + (i 1).val) / 256 % 8) (((i 0).val * 2048 + (i 1).val) / 2048 % 128) k.val + b (((i 0).val * 2048 + (i 1).val) / 256 % 8) (((i 0).val * 2048 + (i 1).val) / 2048 % 128) : ℝ) : EReal) = _
  rw [e0, e1, e2, e3, e4]
  exact congrArg Real.toEReal (congrArg₂ _ (Finset.sum_congr rfl fun k _ => mul_comm _ _) rfl)

include h in
theorem r87 (i : S8192x2048.Idx) : val_main_v87 (F := Ideal) x1 i = ((dsg (i 0).val (i 1).val : ℝ) : EReal) := by
  rw [val_main_v87_apply]; exact h.hg i

include h in
/-- The cotangent of the mixed rows. -/
theorem r88 (i : S8192x2048.Idx) : val_main_v88 (F := Ideal) x0 x1 i = ((Spec.dmix su dsg (i 0).val (i 1).val : ℝ) : EReal) := by
  rw [val_main_v88_apply, r31 h, r87 h]
  exact (EReal.coe_mul _ _).symm.trans (congrArg Real.toEReal (mul_comm _ _))

include h in
theorem r89 (i : S8192x2048.Idx) : val_main_v89 (F := Ideal) x0 x1 x3 x4 x5 x6 i = ((dsg (i 0).val (i 1).val * Spec.mixed sv lw lb W b (i 0).val (i 1).val : ℝ) : EReal) := by
  rw [val_main_v89_apply, r87 h, r85 h]; exact (EReal.coe_mul _ _).symm

include h in
theorem r90 (i : S64x128x8x256.Idx) : val_main_v90 (F := Ideal) x0 x1 i = ((Spec.dmix su dsg (128 * (i 0).val + (i 1).val) (256 * (i 2).val + (i 3).val) : ℝ) : EReal) := by
  rw [val_main_v90_apply, r88 h]
  have h0 : (i 0).val < 64 := (i 0).isLt; have h1 : (i 1).val < 128 := (i 1).isLt
  have h2 : (i 2).val < 8 := (i 2).isLt; have h3 : (i 3).val < 256 := (i 3).isLt
  refine congrArg Real.toEReal (congrArg₂ _ ?_ ?_)
  · show ((((i 0).val * 128 + (i 1).val) * 8 + (i 2).val) * 256 + (i 3).val) / 2048 = _; omega
  · show ((((i 0).val * 128 + (i 1).val) * 8 + (i 2).val) * 256 + (i 3).val) % 2048 = _; omega

include h in
/-- The mixing bias' gradient, summed over the blocks and the lanes of a channel group. -/
theorem r91 (i : S128x8.Idx) : val_main_v91 (F := Ideal) x0 x1 i = ((Spec.dbs su dsg (i 1).val (i 0).val : ℝ) : EReal) := by
  unfold val_main_v91
  refine (ValueIdx.hostReduceAdd_apply _ _ _ _ i).trans ?_
  unfold Ideal.hostReduceAdd
  rw [Finset.sum_congr rfl fun j _ => r90 h j, Lift.coe_sum]
  refine (congrArg (· + _) Ideal.ofBits_zero_f32).trans ((zero_add _).trans (congrArg Real.toEReal ?_))
  unfold Spec.dbs Spec.tbs
  rw [← Fintype.sum_prod_type']
  refine Finset.sum_nbij' (fun j => ((j 0, j 3) : Fin 64 × Fin 256)) (fun p => ix4 p.1 (i 0) (i 1) p.2) (fun _ _ => Finset.mem_univ _)
    (fun p _ => Finset.mem_filter.2 ⟨Finset.mem_univ _, funext fun a => ?_⟩) (fun j hj => ?_) (fun p _ => rfl) (fun j hj => ?_)
  · match a with
    | ⟨0, _⟩ => rfl
    | ⟨1, _⟩ => rfl
  · have e := (Finset.mem_filter.1 hj).2
    refine (funext fun a => ?_)
    match a with
    | ⟨0, _⟩ => rfl
    | ⟨1, _⟩ => exact (congrFun e 0).symm
    | ⟨2, _⟩ => exact (congrFun e 1).symm
    | ⟨3, _⟩ => rfl
  · have e := (Finset.mem_filter.1 hj).2
    have e0 : (j 1).val = (i 0).val := congrArg Fin.val (congrFun e 0)
    have e1 : (j 2).val = (i 1).val := congrArg Fin.val (congrFun e 1)
    rw [e0, e1]

include h in
theorem r92 (i : S1x128x8x1.Idx) : val_main_v92 (F := Ideal) x0 x1 i = ((Spec.dbs su dsg (i 2).val (i 1).val : ℝ) : EReal) := by
  rw [val_main_v92_apply, r91 h]
  have h0 : (i 0).val < 1 := (i 0).isLt; have h1 : (i 1).val < 128 := (i 1).isLt
  have h2 : (i 2).val < 8 := (i 2).isLt; have h3 : (i 3).val < 1 := (i 3).isLt
  refine congrArg Real.toEReal (congrArg₂ _ ?_ ?_)
  · show ((((i 0).val * 128 + (i 1).val) * 8 + (i 2).val) * 1 + (i 3).val) % 8 = _; omega
  · show ((((i 0).val * 128 + (i 1).val) * 8 + (i 2).val) * 1 + (i 3).val) / 8 = _; omega

include h in
theorem r93 (i : S128x8.Idx) : val_main_v93 (F := Ideal) x0 x1 i = ((Spec.dbs su dsg (i 1).val (i 0).val : ℝ) : EReal) := by
  unfold val_main_v93
  refine (ValueIdx.hostReduceAdd_apply _ _ _ _ i).trans ?_
  unfold Ideal.hostReduceAdd
  refine (congrArg (· + _) Ideal.ofBits_zero_f32).trans ((zero_add _).trans ?_)
  refine (Lift.sum_filter_one (fun j => Gen.reducesTo_S1x128x8x1_S128x8_d0_3.drop j = i) _ (ix4 0 (i 0) (i 1) 0 : S1x128x8x1.Idx) (funext fun a => ?_) fun j e => funext fun a => ?_).trans (r92 h _)
  · match a with
    | ⟨0, _⟩ => rfl
    | ⟨1, _⟩ => rfl
  · match a with
    | ⟨0, _⟩ => exact Subsingleton.elim (α := Fin 1) _ _
    | ⟨1, _⟩ => exact congrFun e 0
    | ⟨2, _⟩ => exact congrFun e 1
    | ⟨3, _⟩ => exact Subsingleton.elim (α := Fin 1) _ _

include h in
theorem r94 (i : S8x128.Idx) : val_main_v94 (F := Ideal) x0 x1 i = ((Spec.dbs su dsg (i 0).val (i 1).val : ℝ) : EReal) := by
  rw [val_main_v94_apply]; exact r93 h _

include h in
theorem r95 (i : S8x64x256x128.Idx) : val_main_v95 (F := Ideal) x0 x1 i = ((Spec.dmix su dsg (128 * (i 1).val + (i 3).val) (256 * (i 0).val + (i 2).val) : ℝ) : EReal) := by
  rw [val_main_v95_apply]; exact r90 h _

include h in
/-- The mixing weights' gradient. -/
theorem r96 (i : S8x128x128.Idx) : val_main_v96 (F := Ideal) x0 x1 x3 x4 i = ((Spec.dws su sv dsg lw lb (i 0).val (i 1).val (i 2).val : ℝ) : EReal) := by
  idx_vars i
  unfold val_main_v96
  generalize hx : val_main_v95 (F := Ideal) x0 x1 = x
  generalize hy : val_main_v78 (F := Ideal) x0 x3 x4 = y
  have ex := fun j => (congrFun hx j).symm.trans (r95 h j)
  have ey := fun j => (congrFun hy j).symm.trans (r78 h j)
  pointwise
  simp only [ex, ey, ← EReal.coe_mul, Lift.coe_sum]
  rfl

include h in
theorem r97 (i : S8x64x256x128.Idx) : val_main_v97 (F := Ideal) x0 x1 x5 i = ((∑ k : Fin 128, Spec.dmix su dsg (128 * (i 1).val + k.val) (256 * (i 0).val + (i 2).val) * W (i 0).val k.val (i 3).val : ℝ) : EReal) := by
  rw [val_main_v97_apply]; exact Lift.dot_sum _ _ _ _ (fun k => r95 h _) fun k => r14 h _

include h in
theorem r98 (i : S64x128x8x256.Idx) : val_main_v98 (F := Ideal) x0 x1 x5 i = ((∑ k : Fin 128, Spec.dmix su dsg (128 * (i 0).val + k.val) (256 * (i 2).val + (i 3).val) * W (i 2).val k.val (i 1).val : ℝ) : EReal) := by
  rw [val_main_v98_apply]; exact r97 h _

include h in
/-- The cotangent of the scaled rows. -/
theorem r99 (i : S8192x2048.Idx) : val_main_v99 (F := Ideal) x0 x1 x5 i = ((Spec.dvn su dsg W (i 0).val (i 1).val : ℝ) : EReal) := by
  rw [val_main_v99_apply, r98 h]
  have h0 : (i 0).val < 8192 := (i 0).isLt; have h1 : (i 1).val < 2048 := (i 1).isLt
  have e0 : ((i 0).val * 2048 + (i 1).val) / 262144 = (i 0).val / 128 := by omega
  have e1 : ((i 0).val * 2048 + (i 1).val) / 2048 % 128 = (i 0).val % 128 := by omega
  have e2 : ((i 0).val * 2048 + (i 1).val) / 256 % 8 = (i 1).val / 256 := by omega
  have e3 : ((i 0).val * 2048 + (i 1).val) % 256 = (i 1).val % 256 := by omega
  have e4 : 256 * ((i 1).val / 256) + (i 1).val % 256 = (i 1).val := by omega
  show ((∑ k : Fin 128, Spec.dmix su dsg (128 * (((i 0).val * 2048 + (i 1).val) / 262144) + k.val) (256 * (((i 0).val * 2048 + (i 1).val) / 256 % 8) + (((i 0).val * 2048 + (i 1).val) % 256)) * W (((i 0).val * 2048 + (i 1).val) / 256 % 8) k.val (((i 0).val * 2048 + (i 1).val) / 2048 % 128) : ℝ) : EReal) = _
  rw [e0, e1, e2, e3, e4]
  exact congrArg Real.toEReal (Finset.sum_congr rfl fun k _ => mul_comm _ _)

include h in
theorem r100 (i : S2048.Idx) : val_main_v100 (F := Ideal) x0 x1 x5 i = ((Spec.dlb su dsg W (i 0).val : ℝ) : EReal) := by
  rw [val_main_v100_apply]; exact Lift.init_sum _ _ fun k => r99 h _

include h in
theorem r101 (i : S1x2048.Idx) : val_main_v101 (F := Ideal) x0 x1 x5 i = ((Spec.dlb su dsg W (i 1).val : ℝ) : EReal) := by
  rw [val_main_v101_apply, r100 h]
  have h0 : (i 0).val < 1 := (i 0).isLt
  refine congrArg Real.toEReal (congrArg _ ?_)
  show (i 0).val * 2048 + (i 1).val = _; omega

include h in
theorem r102 (i : S2048.Idx) : val_main_v102 (F := Ideal) x0 x1 x5 i = ((Spec.dlb su dsg W (i 0).val : ℝ) : EReal) := by
  rw [val_main_v102_apply]; exact (Lift.init_sum _ _ fun k => r101 h _).trans (congrArg Real.toEReal (Fin.sum_univ_one _))

include h in
theorem r103 (i : S8192x2048.Idx) : val_main_v103 (F := Ideal) x0 x1 x5 i = ((Spec.tlw su sv dsg W (i 0).val (i 1).val : ℝ) : EReal) := by
  rw [val_main_v103_apply, r71 h, r99 h]
  exact (EReal.coe_mul _ _).symm.trans (congrArg Real.toEReal (mul_comm _ _))

include h in
theorem r104 (i : S2048.Idx) : val_main_v104 (F := Ideal) x0 x1 x5 i = ((Spec.dlw su sv dsg W (i 0).val : ℝ) : EReal) := by
  rw [val_main_v104_apply]; exact Lift.init_sum _ _ fun k => r103 h _

include h in
theorem r105 (i : S1x2048.Idx) : val_main_v105 (F := Ideal) x0 x1 x5 i = ((Spec.dlw su sv dsg W (i 1).val : ℝ) : EReal) := by
  rw [val_main_v105_apply, r104 h]
  have h0 : (i 0).val < 1 := (i 0).isLt
  refine congrArg Real.toEReal (congrArg _ ?_)
  show (i 0).val * 2048 + (i 1).val = _; omega

include h in
theorem r106 (i : S8192x2048.Idx) : val_main_v106 (F := Ideal) x3 i = ((lw (i 1).val : ℝ) : EReal) := by
  rw [val_main_v106_apply]; exact r72 h _

include h in
theorem r107 (i : S8192x2048.Idx) : val_main_v107 (F := Ideal) x0 x1 x3 x5 i = ((Spec.dvh su dsg lw W (i 0).val (i 1).val : ℝ) : EReal) := by
  rw [val_main_v107_apply, r99 h, r106 h]; exact (EReal.coe_mul _ _).symm

include h in
theorem r108 (i : S2048.Idx) : val_main_v108 (F := Ideal) x0 x1 x5 i = ((Spec.dlw su sv dsg W (i 0).val : ℝ) : EReal) := by
  rw [val_main_v108_apply]; exact (Lift.init_sum _ _ fun k => r105 h _).trans (congrArg Real.toEReal (Fin.sum_univ_one _))

include h in
theorem r109 (i : S8192x2048.Idx) : val_main_v109 (F := Ideal) x0 x1 x3 x5 i = ((Spec.dev (Spec.zv sv (i 0).val) (i 1).val * Spec.dvh su dsg lw W (i 0).val (i 1).val : ℝ) : EReal) := by
  rw [val_main_v109_apply, r63 h, r107 h]; exact (EReal.coe_mul _ _).symm

include h in
theorem r110 (i : S8192.Idx) : val_main_v110 (F := Ideal) x0 x1 x3 x5 i = (((∑ j : Fin 2048, Spec.dev (Spec.zv sv (i 0).val) j.val * Spec.dvh su dsg lw W (i 0).val j.val) : ℝ) : EReal) := by
  rw [val_main_v110_apply]; exact Lift.init_sum _ _ fun k => r109 h _

include h in
theorem r111 (i : S8192x1.Idx) : val_main_v111 (F := Ideal) x0 x1 x3 x5 i = (((∑ j : Fin 2048, Spec.dev (Spec.zv sv (i 0).val) j.val * Spec.dvh su dsg lw W (i 0).val j.val) : ℝ) : EReal) := by
  rw [val_main_v111_apply, r110 h]
  have h1 : (i 1).val < 1 := (i 1).isLt
  have e : ((idx_main_v111 i) 0).val = (i 0).val := by show (i 0).val * 1 + (i 1).val = _; omega
  rw [e]

include h in
theorem r112 (i : S8192x2048.Idx) : val_main_v112 (F := Ideal) x0 i = ((Spec.rstd (Spec.zv sv (i 0).val) : ℝ) : EReal) := by
  rw [val_main_v112_apply]; exact r66 h _

include h in
theorem r113 (i : S8192x2048.Idx) : val_main_v113 (F := Ideal) x0 x1 x3 x5 i = ((Spec.dvh su dsg lw W (i 0).val (i 1).val * Spec.rstd (Spec.zv sv (i 0).val) : ℝ) : EReal) := by
  rw [val_main_v113_apply, r107 h, r112 h]; exact (EReal.coe_mul _ _).symm

include h in
theorem r114 (i : S8192x1.Idx) : val_main_v114 (F := Ideal) x0 x1 x3 x5 i = (((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) : ℝ) : EReal) := by
  rw [val_main_v114_apply, r111 h, r69 h]; exact (EReal.coe_mul _ _).symm

include h in
theorem r115 (i : S8192x2048.Idx) : val_main_v115 (F := Ideal) x0 x1 x3 x5 i = ((-(Spec.dvh su dsg lw W (i 0).val (i 1).val * Spec.rstd (Spec.zv sv (i 0).val)) : ℝ) : EReal) := by
  rw [val_main_v115_apply, r113 h]; exact (EReal.coe_neg _).symm

include h in
theorem r116 (i : S8192.Idx) : val_main_v116 (F := Ideal) x0 x1 x3 x5 i = ((∑ j : Fin 2048, -(Spec.dvh su dsg lw W (i 0).val j.val * Spec.rstd (Spec.zv sv (i 0).val)) : ℝ) : EReal) := by
  rw [val_main_v116_apply]; exact Lift.init_sum _ _ fun k => r115 h _

include h in
theorem r117 (i : S8192x1.Idx) : val_main_v117 (F := Ideal) x0 x1 x3 x5 i = ((∑ j : Fin 2048, -(Spec.dvh su dsg lw W (i 0).val j.val * Spec.rstd (Spec.zv sv (i 0).val)) : ℝ) : EReal) := by
  rw [val_main_v117_apply, r116 h]
  have h1 : (i 1).val < 1 := (i 1).isLt
  have e : ((idx_main_v117 i) 0).val = (i 0).val := by show (i 0).val * 1 + (i 1).val = _; omega
  rw [e]

theorem r118 (i : S8192x1.Idx) : val_main_v118 (F := Ideal) i = ((2048 : ℝ) : EReal) := by
  rw [val_main_v118_apply]; exact Lift.lit_2048

include h in
theorem r119 (i : S8192x1.Idx) : val_main_v119 (F := Ideal) x0 x1 x3 x5 i = (((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 : ℝ) : EReal) := by
  rw [val_main_v119_apply, r114 h, r118]; exact (Lift.div_real _ _ (by norm_num))

include h in
theorem r120 (i : S8192.Idx) : val_main_v120 (F := Ideal) x0 x1 x3 x5 i = (((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 : ℝ) : EReal) := by
  rw [val_main_v120_apply]; exact (Lift.init_sum _ _ fun k => r119 h _).trans (congrArg Real.toEReal (Fin.sum_univ_one _))

include h in
theorem r121 (i : S8192x2048.Idx) : val_main_v121 (F := Ideal) x0 x1 x3 x5 i = (((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 : ℝ) : EReal) := by
  rw [val_main_v121_apply]; exact r120 h _

include h in
theorem r122 (i : S8192x2048.Idx) : val_main_v122 (F := Ideal) x0 x1 x3 x5 i = (((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 * (2 * Spec.dev (Spec.zv sv (i 0).val) (i 1).val) : ℝ) : EReal) := by
  rw [val_main_v122_apply, r121 h, r57 h]; exact (EReal.coe_mul _ _).symm

include h in
theorem r123 (i : S8192x2048.Idx) : val_main_v123 (F := Ideal) x0 x1 x3 x5 i = ((-((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 * (2 * Spec.dev (Spec.zv sv (i 0).val) (i 1).val)) : ℝ) : EReal) := by
  rw [val_main_v123_apply, r122 h]; exact (EReal.coe_neg _).symm

include h in
theorem r124 (i : S8192.Idx) : val_main_v124 (F := Ideal) x0 x1 x3 x5 i = ((∑ j : Fin 2048, -((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 * (2 * Spec.dev (Spec.zv sv (i 0).val) j.val)) : ℝ) : EReal) := by
  rw [val_main_v124_apply]; exact Lift.init_sum _ _ fun k => r123 h _

include h in
theorem r125 (i : S8192x1.Idx) : val_main_v125 (F := Ideal) x0 x1 x3 x5 i = ((∑ j : Fin 2048, -((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 * (2 * Spec.dev (Spec.zv sv (i 0).val) j.val)) : ℝ) : EReal) := by
  rw [val_main_v125_apply, r124 h]
  have h1 : (i 1).val < 1 := (i 1).isLt
  have e : ((idx_main_v125 i) 0).val = (i 0).val := by show (i 0).val * 1 + (i 1).val = _; omega
  rw [e]

include h in
theorem r126 (i : S8192x2048.Idx) : val_main_v126 (F := Ideal) x0 x1 x3 x5 i = ((Spec.dvh su dsg lw W (i 0).val (i 1).val * Spec.rstd (Spec.zv sv (i 0).val) + (∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 * (2 * Spec.dev (Spec.zv sv (i 0).val) (i 1).val) : ℝ) : EReal) := by
  rw [val_main_v126_apply, r113 h, r122 h]; exact (EReal.coe_add _ _).symm

include h in
theorem r127 (i : S8192x1.Idx) : val_main_v127 (F := Ideal) x0 x1 x3 x5 i = ((∑ j : Fin 2048, -(Spec.dvh su dsg lw W (i 0).val j.val * Spec.rstd (Spec.zv sv (i 0).val)) + ∑ j : Fin 2048, -((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 * (2 * Spec.dev (Spec.zv sv (i 0).val) j.val)) : ℝ) : EReal) := by
  rw [val_main_v127_apply, r117 h, r125 h]; exact (EReal.coe_add _ _).symm

theorem r128 (i : S8192x1.Idx) : val_main_v128 (F := Ideal) i = ((2048 : ℝ) : EReal) := by
  rw [val_main_v128_apply]; exact Lift.lit_2048

include h in
theorem r129 (i : S8192x1.Idx) : val_main_v129 (F := Ideal) x0 x1 x3 x5 i = (((∑ j : Fin 2048, -(Spec.dvh su dsg lw W (i 0).val j.val * Spec.rstd (Spec.zv sv (i 0).val)) + ∑ j : Fin 2048, -((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 * (2 * Spec.dev (Spec.zv sv (i 0).val) j.val))) / 2048 : ℝ) : EReal) := by
  rw [val_main_v129_apply, r127 h, r128]; exact (Lift.div_real _ _ (by norm_num))

include h in
theorem r130 (i : S8192.Idx) : val_main_v130 (F := Ideal) x0 x1 x3 x5 i = (((∑ j : Fin 2048, -(Spec.dvh su dsg lw W (i 0).val j.val * Spec.rstd (Spec.zv sv (i 0).val)) + ∑ j : Fin 2048, -((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 * (2 * Spec.dev (Spec.zv sv (i 0).val) j.val))) / 2048 : ℝ) : EReal) := by
  rw [val_main_v130_apply]; exact (Lift.init_sum _ _ fun k => r129 h _).trans (congrArg Real.toEReal (Fin.sum_univ_one _))

include h in
theorem r131 (i : S8192x2048.Idx) : val_main_v131 (F := Ideal) x0 x1 x3 x5 i = (((∑ j : Fin 2048, -(Spec.dvh su dsg lw W (i 0).val j.val * Spec.rstd (Spec.zv sv (i 0).val)) + ∑ j : Fin 2048, -((∑ j : Fin 2048, Spec.dev (Spec.zv sv (i 0).val) j.val * Spec.dvh su dsg lw W (i 0).val j.val) * (-(1 / 2) * (Spec.rstd (Spec.zv sv (i 0).val) / (Spec.var (Spec.zv sv (i 0).val) + Spec.eps))) / 2048 * (2 * Spec.dev (Spec.zv sv (i 0).val) j.val))) / 2048 : ℝ) : EReal) := by
  rw [val_main_v131_apply]; exact r130 h _

include h in
/-- The chain rule through the layer norm is the closed form. -/
theorem r132 (i : S8192x2048.Idx) : val_main_v132 (F := Ideal) x0 x1 x3 x5 i = ((Spec.dzv su sv dsg lw W (i 0).val (i 1).val : ℝ) : EReal) := by
  rw [val_main_v132_apply, r126 h, r131 h]
  exact (EReal.coe_add _ _).symm.trans (congrArg Real.toEReal (Spec.layerNorm_chain _ _ _))

include h in
theorem r133 (i : S8192x2048.Idx) : val_main_v133 (F := Ideal) x0 x1 x3 x5 i = ((1 / 2 * sv (i 0).val (i 1).val * Spec.dzv su sv dsg lw W (i 0).val (i 1).val : ℝ) : EReal) := by
  rw [val_main_v133_apply, r33 h, r132 h]; exact (EReal.coe_mul _ _).symm

include h in
theorem r134 (i : S8192x2048.Idx) : val_main_v134 (F := Ideal) x0 x1 x3 x5 i = ((Spec.dzv su sv dsg lw W (i 0).val (i 1).val * (1 + Spec.erfR (sv (i 0).val (i 1).val * (Real.sqrt 2)⁻¹)) : ℝ) : EReal) := by
  rw [val_main_v134_apply, r132 h, r47 h]; exact (EReal.coe_mul _ _).symm

include h in
theorem r135 (i : S8192x2048.Idx) : val_main_v135 (F := Ideal) x0 x1 x3 x5 i = ((1 / 2 * sv (i 0).val (i 1).val * Spec.dzv su sv dsg lw W (i 0).val (i 1).val * (2 / Real.sqrt Real.pi * Real.exp (-((sv (i 0).val (i 1).val * (Real.sqrt 2)⁻¹) * (sv (i 0).val (i 1).val * (Real.sqrt 2)⁻¹)))) : ℝ) : EReal) := by
  rw [val_main_v135_apply, r133 h, r45 h]; exact (EReal.coe_mul _ _).symm

theorem r136 (i : S8192x2048.Idx) : val_main_v136 (F := Ideal) i = ((Real.sqrt 2 : ℝ) : EReal) := by
  rw [val_main_v136_apply]; exact r34 _

include h in
theorem r137 (i : S8192x2048.Idx) : val_main_v137 (F := Ideal) x0 x1 x3 x5 i = ((1 / 2 * sv (i 0).val (i 1).val * Spec.dzv su sv dsg lw W (i 0).val (i 1).val * (2 / Real.sqrt Real.pi * Real.exp (-((sv (i 0).val (i 1).val * (Real.sqrt 2)⁻¹) * (sv (i 0).val (i 1).val * (Real.sqrt 2)⁻¹)))) * (Real.sqrt 2)⁻¹ : ℝ) : EReal) := by
  rw [val_main_v137_apply, r135 h, r136]; exact (Lift.div_real _ _ sqrt_two_ne).trans (by rw [div_eq_mul_inv])

theorem r138 (i : S8192x2048.Idx) : val_main_v138 (F := Ideal) i = ((1 / 2 : ℝ) : EReal) := by
  rw [val_main_v138_apply]; exact Lift.lit_half

include h in
theorem r139 (i : S8192x2048.Idx) : val_main_v139 (F := Ideal) x0 x1 x3 x5 i = ((1 / 2 * (Spec.dzv su sv dsg lw W (i 0).val (i 1).val * (1 + Spec.erfR (sv (i 0).val (i 1).val * (Real.sqrt 2)⁻¹))) : ℝ) : EReal) := by
  rw [val_main_v139_apply, r138, r134 h]; exact (EReal.coe_mul _ _).symm

include h in
/-- The gated branch's gradient. -/
theorem r140 (i : S8192x2048.Idx) : val_main_v140 (F := Ideal) x0 x1 x3 x5 i = ((Spec.dsv su sv dsg lw W (i 0).val (i 1).val : ℝ) : EReal) := by
  rw [val_main_v140_apply, r137 h, r139 h]
  exact (EReal.coe_add _ _).symm.trans (congrArg Real.toEReal (Spec.gelu_chain _ _))

include h in
theorem r141 (i : S8192x2048.Idx) : val_main_v141 (F := Ideal) x0 x1 x3 x4 x5 x6 i = ((1 / 2 * su (i 0).val (i 1).val * (dsg (i 0).val (i 1).val * Spec.mixed sv lw lb W b (i 0).val (i 1).val) : ℝ) : EReal) := by
  rw [val_main_v141_apply, r16 h, r89 h]; exact (EReal.coe_mul _ _).symm

include h in
theorem r142 (i : S8192x2048.Idx) : val_main_v142 (F := Ideal) x0 x1 x3 x4 x5 x6 i = (((dsg (i 0).val (i 1).val * Spec.mixed sv lw lb W b (i 0).val (i 1).val) * (1 + Spec.erfR (su (i 0).val (i 1).val * (Real.sqrt 2)⁻¹)) : ℝ) : EReal) := by
  rw [val_main_v142_apply, r89 h, r30 h]; exact (EReal.coe_mul _ _).symm

include h in
theorem r143 (i : S8192x2048.Idx) : val_main_v143 (F := Ideal) x0 x1 x3 x4 x5 x6 i = ((1 / 2 * su (i 0).val (i 1).val * (dsg (i 0).val (i 1).val * Spec.mixed sv lw lb W b (i 0).val (i 1).val) * (2 / Real.sqrt Real.pi * Real.exp (-((su (i 0).val (i 1).val * (Real.sqrt 2)⁻¹) * (su (i 0).val (i 1).val * (Real.sqrt 2)⁻¹)))) : ℝ) : EReal) := by
  rw [val_main_v143_apply, r141 h, r28 h]; exact (EReal.coe_mul _ _).symm

theorem r144 (i : S8192x2048.Idx) : val_main_v144 (F := Ideal) i = ((Real.sqrt 2 : ℝ) : EReal) := by
  rw [val_main_v144_apply]; exact r17 _

include h in
theorem r145 (i : S8192x2048.Idx) : val_main_v145 (F := Ideal) x0 x1 x3 x4 x5 x6 i = ((1 / 2 * su (i 0).val (i 1).val * (dsg (i 0).val (i 1).val * Spec.mixed sv lw lb W b (i 0).val (i 1).val) * (2 / Real.sqrt Real.pi * Real.exp (-((su (i 0).val (i 1).val * (Real.sqrt 2)⁻¹) * (su (i 0).val (i 1).val * (Real.sqrt 2)⁻¹)))) * (Real.sqrt 2)⁻¹ : ℝ) : EReal) := by
  rw [val_main_v145_apply, r143 h, r144]; exact (Lift.div_real _ _ sqrt_two_ne).trans (by rw [div_eq_mul_inv])

theorem r146 (i : S8192x2048.Idx) : val_main_v146 (F := Ideal) i = ((1 / 2 : ℝ) : EReal) := by
  rw [val_main_v146_apply]; exact Lift.lit_half

include h in
theorem r147 (i : S8192x2048.Idx) : val_main_v147 (F := Ideal) x0 x1 x3 x4 x5 x6 i = ((1 / 2 * ((dsg (i 0).val (i 1).val * Spec.mixed sv lw lb W b (i 0).val (i 1).val) * (1 + Spec.erfR (su (i 0).val (i 1).val * (Real.sqrt 2)⁻¹))) : ℝ) : EReal) := by
  rw [val_main_v147_apply, r146, r142 h]; exact (EReal.coe_mul _ _).symm

include h in
/-- The gate's gradient. -/
theorem r148 (i : S8192x2048.Idx) : val_main_v148 (F := Ideal) x0 x1 x3 x4 x5 x6 i = ((Spec.dsu su sv dsg lw lb W b (i 0).val (i 1).val : ℝ) : EReal) := by
  rw [val_main_v148_apply, r145 h, r147 h]
  exact (EReal.coe_add _ _).symm.trans (congrArg Real.toEReal (Spec.gelu_chain _ _))

include h in
theorem r153 (i : S1x2048.Idx) : val_main_v153 (F := Ideal) x0 x1 x5 i = ((Spec.dlw su sv dsg W (i 1).val : ℝ) : EReal) := by
  rw [val_main_v153_apply, r108 h]
  have h0 : (i 0).val < 1 := (i 0).isLt
  refine congrArg Real.toEReal (congrArg _ ?_)
  show (i 0).val * 2048 + (i 1).val = _; omega

include h in
theorem r154 (i : S1x2048.Idx) : val_main_v154 (F := Ideal) x0 x1 x5 i = ((Spec.dlb su dsg W (i 1).val : ℝ) : EReal) := by
  rw [val_main_v154_apply, r102 h]
  have h0 : (i 0).val < 1 := (i 0).isLt
  refine congrArg Real.toEReal (congrArg _ ?_)
  show (i 0).val * 2048 + (i 1).val = _; omega

include h in
theorem r155 (i : S8x128x1.Idx) : val_main_v155 (F := Ideal) x0 x1 i = ((Spec.dbs su dsg (i 0).val (i 1).val : ℝ) : EReal) := by
  rw [val_main_v155_apply]; exact r94 h _

include h in
/-- The first result: the two gradients side by side, then the columns passed through. -/
theorem r152 (i : S8192x8192.Idx) : val_main_v152 (F := Ideal) x0 x1 x2 x3 x4 x5 x6 i
    = if (i 1).val < 2048 then ((Spec.dsu su sv dsg lw lb W b (i 0).val (i 1).val : ℝ) : EReal)
      else if (i 1).val < 4096 then ((Spec.dsv su sv dsg lw W (i 0).val ((i 1).val - 2048) : ℝ) : EReal) else x2 i := by
  idx_vars i
  unfold val_main_v152
  generalize hx : val_main_v149 (F := Ideal) x0 x1 x3 x4 x5 x6 = x
  generalize hy : val_main_v150 (F := Ideal) x0 x1 x3 x5 = y
  generalize hz : val_main_v151 (F := Ideal) x2 = z
  have ex := fun j => (congrFun hx j).symm.trans ((val_main_v149_apply ..).trans (r148 h j))
  have ey := fun j => (congrFun hy j).symm.trans ((val_main_v150_apply ..).trans (r140 h j))
  have ez := fun j => (congrFun hz j).symm.trans (val_main_v151_apply x2 j)
  pointwise
  simp only [ex, ey, ez]
  by_cases h1 : i1.val < 2048
  · rw [dif_pos h1, if_pos h1]; rfl
  · rw [dif_neg h1, if_neg h1]
    by_cases h2 : i1.val < 4096
    · rw [dif_pos (by omega), if_pos h2]; rfl
    · rw [dif_neg (by omega), if_neg h2]
      refine congrArg x2 (funext fun a => Fin.ext ?_)
      match a with
      | ⟨0, _⟩ => rfl
      | ⟨1, _⟩ => show 4096 + (i1.val - 2048 - 2048) = i1.val; omega

end Cert.RefValue

end
-- ==== Proof.Shift.lean ====
/-
  The block functions of one grid point are the whole arrays' at the point's rows: the mixing acts inside blocks of 128 rows,
  and a point holds two of them.
-/
module

public import proofs.«01_k».proof.Proof.Spec
public import Idealize.ShloMosaic.Lib.Pipeline.ValueKit.Acc

@[expose] public section

set_option maxRecDepth 16384

noncomputable section

namespace Cert.Spec

/-- The rows of a matrix from `256 * t` on. -/
def sh (t : ℕ) (f : ℕ → ℕ → ℝ) : ℕ → ℕ → ℝ := fun n c => f (256 * t + n) c

variable (t : ℕ) (su sv dsg : ℕ → ℕ → ℝ) (lw lb : ℕ → ℝ) (W : ℕ → ℕ → ℕ → ℝ) (b : ℕ → ℕ → ℝ)

theorem sh_block (n k : ℕ) : 256 * t + (128 * (n / 128) + k) = 128 * ((256 * t + n) / 128) + k := by omega

theorem sh_lane (n : ℕ) : n % 128 = (256 * t + n) % 128 := by omega

theorem sh_zv (n : ℕ) : zv (sh t sv) n = zv sv (256 * t + n) := rfl

theorem sh_mixed (n c : ℕ) : mixed (sh t sv) lw lb W b n c = mixed sv lw lb W b (256 * t + n) c := by
  unfold mixed
  rw [← sh_lane t n]
  refine congrArg (· + _) (Finset.sum_congr rfl fun k _ => ?_)
  rw [← sh_block]
  rfl

theorem sh_dsu (n c : ℕ) : dsu (sh t su) (sh t sv) (sh t dsg) lw lb W b n c = dsu su sv dsg lw lb W b (256 * t + n) c := by
  unfold dsu
  rw [sh_mixed]
  rfl

theorem sh_dvn (n c : ℕ) : dvn (sh t su) (sh t dsg) W n c = dvn su dsg W (256 * t + n) c := by
  unfold dvn
  rw [← sh_lane t n]
  refine Finset.sum_congr rfl fun k _ => ?_
  rw [← sh_block]
  rfl

theorem sh_dvh (n : ℕ) : dvh (sh t su) (sh t dsg) lw W n = dvh su dsg lw W (256 * t + n) := by
  funext c
  unfold dvh
  rw [sh_dvn]

theorem sh_dsv (n c : ℕ) : dsv (sh t su) (sh t sv) (sh t dsg) lw W n c = dsv su sv dsg lw W (256 * t + n) c := by
  unfold dsv dzv
  rw [sh_dvh, sh_zv]
  rfl

theorem sh_tlw (n c : ℕ) : dvn (sh t su) (sh t dsg) W n c * vhat (zv (sh t sv) n) c = tlw su sv dsg W (256 * t + n) c := by
  unfold tlw
  rw [sh_dvn, sh_zv]

theorem sh_row (q i : ℕ) : 256 * t + (128 * q + i) = 128 * (t * 2 + q) + i := by omega

theorem sh_tws (q g i k : ℕ) : tws (sh t su) (sh t sv) (sh t dsg) lw lb q g i k = tws su sv dsg lw lb (t * 2 + q) g i k := by
  unfold tws
  refine Finset.sum_congr rfl fun e _ => ?_
  rw [← sh_row, ← sh_row]
  rfl

theorem sh_tbs (q g i : ℕ) : tbs (sh t su) (sh t dsg) q g i = tbs su dsg (t * 2 + q) g i := by
  unfold tbs
  refine Finset.sum_congr rfl fun e _ => ?_
  rw [← sh_row]
  rfl

/-- The rows of 32 blocks of 256. -/
theorem sum_rows (f : ℕ → ℝ) : ∑ k ∈ Finset.range 32, ∑ r : Fin 256, f (256 * k + r.val) = ∑ n : Fin 8192, f n.val := by
  rw [Finset.sum_range]
  simp only [Nat.mul_comm 256]
  exact Fin.sum_univ_univ_mul_add 32 256 f

/-- The 64 blocks of 128 rows, two of them a point. -/
theorem sum_blocks (f : ℕ → ℝ) : ∑ k ∈ Finset.range 32, (f (k * 2 + 0) + f (k * 2 + 1)) = ∑ q : Fin 64, f q.val := by
  rw [Finset.sum_range]
  exact (Finset.sum_congr rfl fun k _ => (Fin.sum_univ_two fun q : Fin 2 => f (k.val * 2 + q.val)).symm).trans
    (Fin.sum_univ_univ_mul_add 32 2 f)

end Cert.Spec
end
-- ==== Proof.KArr.lean ====
/-
  The kernel's five result arrays over the extended reals: the blocks its points write, put together.
-/
module

public import proofs.«01_k».proof.Proof.Ent
public import proofs.«01_k».proof.Proof.Ref
public import proofs.«01_k».proof.Proof.Shift
public import Idealize.ShloMosaic.Lib.Pipeline.ValueKit.Geometry
public import Idealize.ShloMosaic.Lib.Pipeline.ValueKit.Partial

@[expose] public section

set_option maxRecDepth 16384

noncomputable section

namespace Cert.KArr

open Idealize.ShloMosaic Idealize.ShloMosaic.TcCoe Idealize.SL.Sem
open Cert.KernelIdeal Cert.KernelIdeal.Gen Cert.KPay Cert.KVal Cert.Spec
open Cert.ReferenceIdeal.Read (idx_main_v0 idx_main_v2)

variable {m : (ℓ : Loc nD τ sig) → Buf (Elt Ideal) ℓ} {c : Dev nD} {su sv dsg : ℕ → ℕ → ℝ} {lw lb : ℕ → ℝ}
    {W : ℕ → ℕ → ℕ → ℝ} {b : ℕ → ℕ → ℝ}

/-- The launch's arguments are the coercions of real arrays. -/
abbrev LiftAt (m : (ℓ : Loc nD τ sig) → Buf (Elt Ideal) ℓ) (c : Dev nD) (su sv dsg : ℕ → ℕ → ℝ) (lw lb : ℕ → ℝ)
    (W : ℕ → ℕ → ℕ → ℝ) (b : ℕ → ℕ → ℝ) : Prop :=
  RefValue.Lifted (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))
    su sv dsg lw lb W b

theorem N32 (t : Fin cfg0.N) : t.val < 32 := t.isLt.trans_le (le_of_eq N_0)

/-- Every window's block index at a point. -/
theorem ix : ∀ t : Fin cfg0.N, (win0_0.index t = ![t.val, 3] ∧ win0_1.index t = ![t.val, 4] ∧ win0_2.index t = ![t.val, 0])
    ∧ (win0_3.index t = ![0, 0] ∧ win0_4.index t = ![0, 0] ∧ win0_5.index t = ![0, 0, 0] ∧ win0_6.index t = ![0, 0, 0]
      ∧ win0_7.index t = ![0, 0, 0])
    ∧ (win0_8.index t = ![t.val, 0] ∧ win0_9.index t = ![0, 0] ∧ win0_10.index t = ![0, 0] ∧ win0_11.index t = ![0, 0, 0]
      ∧ win0_12.index t = ![0, 0, 0]) :=
  (by decide +kernel : ∀ t : Fin grid0.N, _)

/-- A point's block of a whole array that every point reads in full. -/
theorem b3 (t : Fin cfg0.N) (i : S1x2048.Idx) : iblk m c 3 t i = V m c main_v14 (ix2 (i 0) (i 1)) := by
  blk_simp [iblk]
  blk_ext [(ix t).2.1.1]

theorem b4 (t : Fin cfg0.N) (i : S1x2048.Idx) : iblk m c 4 t i = V m c main_v15 (ix2 (i 0) (i 1)) := by
  blk_simp [iblk]
  blk_ext [(ix t).2.1.2.1]

theorem b5 (t : Fin cfg0.N) (i : S8x128x128.Idx) : iblk m c 5 t i = V m c main_v10 i := by
  blk_simp [iblk]
  blk_ext [(ix t).2.1.2.2.1]

theorem b6 (t : Fin cfg0.N) (i : S8x128x128.Idx) : iblk m c 6 t i = V m c main_v12 (ix3 (i 0) (i 1) (i 2)) := by
  blk_simp [iblk]
  blk_ext [(ix t).2.1.2.2.2.1]

theorem b7 (t : Fin cfg0.N) (i : S8x128x1.Idx) : iblk m c 7 t i = V m c main_v13 (ix3 (i 0) (i 1) (i 2)) := by
  blk_simp [iblk]
  blk_ext [(ix t).2.1.2.2.2.2]

theorem b0 (h : LiftAt m c su sv dsg lw lb W b) (t : Fin cfg0.N) (i : S256x2048.Idx) :
    iblk m c 0 t i = ((sh t.val su (i 0).val (i 1).val : ℝ) : EReal) := by
  have hi0 : (i 0).val < 256 := (i 0).isLt
  have hi1 : (i 1).val < 2048 := (i 1).isLt
  have ht := N32 t
  refine Eq.trans ?_ (h.hu (ix2 ⟨256 * t.val + (i 0).val, by omega⟩ ⟨(i 1).val, hi1⟩))
  rw [← V_main_arg0 m c]
  blk_simp [iblk]
  blk_ext [(ix t).1.1]

theorem b1 (h : LiftAt m c su sv dsg lw lb W b) (t : Fin cfg0.N) (i : S256x2048.Idx) :
    iblk m c 1 t i = ((sh t.val sv (i 0).val (i 1).val : ℝ) : EReal) := by
  have hi0 : (i 0).val < 256 := (i 0).isLt
  have hi1 : (i 1).val < 2048 := (i 1).isLt
  have ht := N32 t
  refine Eq.trans ?_ (h.hv (ix2 ⟨256 * t.val + (i 0).val, by omega⟩ ⟨(i 1).val, hi1⟩))
  rw [← V_main_arg0 m c]
  blk_simp [iblk]
  blk_ext [(ix t).1.2.1]

theorem b2 (h : LiftAt m c su sv dsg lw lb W b) (t : Fin cfg0.N) (i : S256x2048.Idx) :
    iblk m c 2 t i = ((sh t.val dsg (i 0).val (i 1).val : ℝ) : EReal) := by
  have hi0 : (i 0).val < 256 := (i 0).isLt
  have hi1 : (i 1).val < 2048 := (i 1).isLt
  have ht := N32 t
  refine Eq.trans ?_ (h.hg (ix2 ⟨256 * t.val + (i 0).val, by omega⟩ ⟨(i 1).val, hi1⟩))
  rw [← V_main_arg1 m c]
  blk_simp [iblk]
  blk_ext [(ix t).1.2.2]

/-- The blocks of a point are the arguments' rows from `256 * t` on. -/
theorem blkAt (h : LiftAt m c su sv dsg lw lb W b) (t : Fin cfg0.N) :
    BlkAt m c t (sh t.val su) (sh t.val sv) (sh t.val dsg) lw lb W b where
  hu := b0 h t
  hv := b1 h t
  hg := b2 h t
  hw i := (b3 t i).trans ((Ent.v14 m c (i 0) (i 1)).trans (h.hw _))
  hb i := (b4 t i).trans ((Ent.v15 m c (i 0) (i 1)).trans (h.hb _))
  hW i := (b5 t i).trans ((Ent.v10 m c i).trans (h.hW i))
  hT i := (b6 t i).trans ((Ent.v12 m c (i 0) (i 1) (i 2)).trans (h.hW _))
  hs i := (b7 t i).trans ((Ent.v13 m c (i 0) (i 1) (i 2)).trans (h.hs _))

/-- What the kernel leaves of the projection's cotangent: two branches' gradients, then the columns it was given. -/
def dz (x2 : S8192x8192.Idx → EReal) (su sv dsg : ℕ → ℕ → ℝ) (lw lb : ℕ → ℝ) (W : ℕ → ℕ → ℕ → ℝ) (b : ℕ → ℕ → ℝ)
    (i : S8192x8192.Idx) : EReal :=
  if (i 1).val < 2048 then ((dsu su sv dsg lw lb W b (i 0).val (i 1).val : ℝ) : EReal)
  else if (i 1).val < 4096 then ((dsv su sv dsg lw W (i 0).val ((i 1).val - 2048) : ℝ) : EReal) else x2 i

theorem o8 (h : LiftAt m c su sv dsg lw lb W b) (t : Fin cfg0.N) :
    (Gen.outsAt0 m c t.val t.isLt).1 = gDz (sh t.val su) (sh t.val sv) (sh t.val dsg) lw lb W b := by
  by_cases ht : t.val % 32 = 0
  · exact o8_A t ht (blkAt h t)
  · exact o8_B t ht (blkAt h t)

theorem final8 (h : LiftAt m c su sv dsg lw lb W b) :
    (dats m 0 c).arrAt 8 cfg0.N = dz (m ((c : Thread nD τ).loc main_arg2)) su sv dsg lw lb W b := by
  refine (dats m 0 c).arrAt_eq_of_coversWhere_of_agree 8 _ (fun β => β (1 : Fin 2) < 1) (by decide +kernel) (fun t hf y => ?_)
    (fun j hj => ?_)
  · blk_simp
    rw [after0_8, o8 h t]
    have e0 : (((win0_8.blk t).view.emb y) 0).val = 256 * t.val + (y 0).val := by
      blk_simp [(ix t).2.2.1]
      omega
    have e1 : (((win0_8.blk t).view.emb y) 1).val = (y 1).val := by
      blk_simp [(ix t).2.2.1]
    have b1 : (y 1).val < 4096 := (y 1).isLt
    unfold gDz dz
    rw [e0, e1, sh_dsu, sh_dsv, if_pos b1]
  · blk_simp [Pipeline.Window.cell_apply] at hj
    have h4 : 4096 ≤ (j 1).val := by omega
    refine (congrFun ((A_eq m c 8).trans (Ent.v16 m c)) _).trans ?_
    unfold dz
    exact ((if_neg (show ¬ (j 1).val < 2048 by omega)).trans (if_neg (show ¬ (j 1).val < 4096 by omega))).symm

/-- The gradient of the layer norm's scale after the last point. -/
theorem o9 (h : LiftAt m c su sv dsg lw lb W b) (t : Fin cfg0.N) (ht : t.val = 31) (i : S1x2048.Idx) :
    (Gen.outsAt0 m c t.val t.isLt).2.1 i = ((dlw su sv dsg W (i 1).val : ℝ) : EReal) := by
  rw [Pipeline.eq_sum_of_reset_step_apply_single_of_mod (fun n hn => (Gen.outsAt0 m c n hn).2.1) 32 (fun _ => 0)
    (fun k i => ((∑ r : Fin 256, tlw su sv dsg W (256 * k + r.val) (i 1).val : ℝ) : EReal))
    (fun t ht i => by rw [o9_A t ht (blkAt h t)]; simp only [sh_tlw, zero_add])
    (fun t ht i => by rw [o9_B t ht (blkAt h t)]; simp only [sh_tlw])
    (le_of_eq N_0) t (r := 31) (by rw [ht]) i, zero_add, Lift.coe_sum, sum_rows (fun n => tlw su sv dsg W n (i 1).val)]
  rfl

theorem final9 (h : LiftAt m c su sv dsg lw lb W b) :
    (dats m 0 c).arrAt 9 cfg0.N = fun i : S1x2048.Idx => ((dlw su sv dsg W (i 1).val : ℝ) : EReal) := by
  refine (dats m 0 c).arrAt_eq_of_covers 9 _ (by decide +kernel) fun t hf y => ?_
  have ht : t.val = 31 := (by decide +kernel : ∀ t : Fin grid0.N, win0_9.flush t = true → t.val = 31) t hf
  blk_simp
  rw [after0_9, o9 h t ht]
  have e1 : win0_9.index t 1 = 0 := by rw [(ix t).2.2.2.1]; rfl
  simp only [e1, Nat.zero_mul, Nat.zero_add]

/-- The gradient of the layer norm's shift after the last point. -/
theorem o10 (h : LiftAt m c su sv dsg lw lb W b) (t : Fin cfg0.N) (ht : t.val = 31) (i : S1x2048.Idx) :
    (Gen.outsAt0 m c t.val t.isLt).2.2.1 i = ((dlb su dsg W (i 1).val : ℝ) : EReal) := by
  rw [Pipeline.eq_sum_of_reset_step_apply_single_of_mod (fun n hn => (Gen.outsAt0 m c n hn).2.2.1) 32 (fun _ => 0)
    (fun k i => ((∑ r : Fin 256, dvn su dsg W (256 * k + r.val) (i 1).val : ℝ) : EReal))
    (fun t ht i => by rw [o10_A t ht (blkAt h t)]; simp only [sh_dvn, zero_add])
    (fun t ht i => by rw [o10_B t ht (blkAt h t)]; simp only [sh_dvn])
    (le_of_eq N_0) t (r := 31) (by rw [ht]) i, zero_add, Lift.coe_sum, sum_rows (fun n => dvn su dsg W n (i 1).val)]
  rfl

theorem final10 (h : LiftAt m c su sv dsg lw lb W b) :
    (dats m 0 c).arrAt 10 cfg0.N = fun i : S1x2048.Idx => ((dlb su dsg W (i 1).val : ℝ) : EReal) := by
  refine (dats m 0 c).arrAt_eq_of_covers 10 _ (by decide +kernel) fun t hf y => ?_
  have ht : t.val = 31 := (by decide +kernel : ∀ t : Fin grid0.N, win0_10.flush t = true → t.val = 31) t hf
  blk_simp
  rw [after0_10, o10 h t ht]
  have e1 : win0_10.index t 1 = 0 := by rw [(ix t).2.2.2.2.1]; rfl
  simp only [e1, Nat.zero_mul, Nat.zero_add]

/-- The gradient of the mixing weights after the last point. -/
theorem o11 (h : LiftAt m c su sv dsg lw lb W b) (t : Fin cfg0.N) (ht : t.val = 31) (i : S8x128x128.Idx) :
    (Gen.outsAt0 m c t.val t.isLt).2.2.2.1 i = ((dws su sv dsg lw lb (i 0).val (i 1).val (i 2).val : ℝ) : EReal) := by
  rw [Pipeline.eq_sum_of_reset_step_apply_single_of_mod (fun n hn => (Gen.outsAt0 m c n hn).2.2.2.1) 32 (fun _ => 0)
    (fun k i => ((tws su sv dsg lw lb (k * 2 + 0) (i 0).val (i 1).val (i 2).val + tws su sv dsg lw lb (k * 2 + 1) (i 0).val (i 1).val (i 2).val : ℝ) : EReal))
    (fun t ht i => by rw [o11_A t ht (blkAt h t)]; simp only [sh_tws, zero_add])
    (fun t ht i => by rw [o11_B t ht (blkAt h t)]; simp only [sh_tws])
    (le_of_eq N_0) t (r := 31) (by rw [ht]) i, zero_add, Lift.coe_sum, sum_blocks (fun q => tws su sv dsg lw lb q (i 0).val (i 1).val (i 2).val)]
  rfl

theorem final11 (h : LiftAt m c su sv dsg lw lb W b) :
    (dats m 0 c).arrAt 11 cfg0.N = fun i : S8x128x128.Idx => ((dws su sv dsg lw lb (i 0).val (i 1).val (i 2).val : ℝ) : EReal) := by
  refine (dats m 0 c).arrAt_eq_of_covers 11 _ (by decide +kernel) fun t hf y => ?_
  have ht : t.val = 31 := (by decide +kernel : ∀ t : Fin grid0.N, win0_11.flush t = true → t.val = 31) t hf
  blk_simp
  rw [after0_11, o11 h t ht]
  have e0 : win0_11.index t 0 = 0 := by rw [(ix t).2.2.2.2.2.1]; rfl
  have e1 : win0_11.index t 1 = 0 := by rw [(ix t).2.2.2.2.2.1]; rfl
  have e2 : win0_11.index t 2 = 0 := by rw [(ix t).2.2.2.2.2.1]; rfl
  simp only [e0, e1, e2, Nat.zero_mul, Nat.zero_add]

/-- The gradient of the mixing bias after the last point. -/
theorem o12 (h : LiftAt m c su sv dsg lw lb W b) (t : Fin cfg0.N) (ht : t.val = 31) (i : S8x128x1.Idx) :
    (Gen.outsAt0 m c t.val t.isLt).2.2.2.2 i = ((dbs su dsg (i 0).val (i 1).val : ℝ) : EReal) := by
  rw [Pipeline.eq_sum_of_reset_step_apply_single_of_mod (fun n hn => (Gen.outsAt0 m c n hn).2.2.2.2) 32 (fun _ => 0)
    (fun k i => ((tbs su dsg (k * 2 + 0) (i 0).val (i 1).val + tbs su dsg (k * 2 + 1) (i 0).val (i 1).val : ℝ) : EReal))
    (fun t ht i => by rw [o12_A t ht (blkAt h t)]; simp only [sh_tbs, zero_add])
    (fun t ht i => by rw [o12_B t ht (blkAt h t)]; simp only [sh_tbs])
    (le_of_eq N_0) t (r := 31) (by rw [ht]) i, zero_add, Lift.coe_sum, sum_blocks (fun q => tbs su dsg q (i 0).val (i 1).val)]
  rfl

theorem final12 (h : LiftAt m c su sv dsg lw lb W b) :
    (dats m 0 c).arrAt 12 cfg0.N = fun i : S8x128x1.Idx => ((dbs su dsg (i 0).val (i 1).val : ℝ) : EReal) := by
  refine (dats m 0 c).arrAt_eq_of_covers 12 _ (by decide +kernel) fun t hf y => ?_
  have ht : t.val = 31 := (by decide +kernel : ∀ t : Fin grid0.N, win0_12.flush t = true → t.val = 31) t hf
  blk_simp
  rw [after0_12, o12 h t ht]
  have e0 : win0_12.index t 0 = 0 := by rw [(ix t).2.2.2.2.2.2]; rfl
  have e1 : win0_12.index t 1 = 0 := by rw [(ix t).2.2.2.2.2.2]; rfl
  simp only [e0, e1, Nat.zero_mul, Nat.zero_add]

end Cert.KArr
end
-- ==== Proof.Args.lean ====
/-
  Arguments that are finite everywhere are the coercions of real arrays.
-/
module

public import proofs.«01_k».proof.Defs
public import proofs.«01_k».proof.Proof.KArr
public import Idealize.ShloMosaic.Lib.Pointwise

@[expose] public section

set_option maxRecDepth 16384

noncomputable section

/-- The shapes of the finiteness predicate's operations fit. -/
instance Cert.preFacts : Cert.Pre_finite.Facts where
  slices_S8192x14336_S8192x4096_0_6144 := by decide
  bcast_S_S8192x4096 := by decide
  bcast_S_S8192x2048 := by decide
  bcast_S_S2048 := by decide
  bcast_S_S8x128x128 := by decide
  bcast_S_S8x128 := by decide

namespace Cert.Args

open Idealize.ShloMosaic Idealize.ShloMosaic.TcCoe Idealize.SL.Sem
open Cert.KernelIdeal

/-- A value whose absolute value is below the infinity is a real number. -/
theorem real_of_lt_inf {φ : FTy} (x : Ideal φ) (v : BitVec φ.bits) (hv : Ideal.ofBits φ v = ⊤)
    (h : FloatOps.cmpf (F := Ideal) .olt (FloatOps.hostAbsf x) (FloatOps.ofBits (F := Ideal) φ v) = 1#1) :
    (x : EReal) = ((EReal.toReal x : ℝ) : EReal) := by
  have h' : Ideal.cmp .olt (max (x : EReal) (-(x : EReal))) (Ideal.ofBits φ v) = 1#1 := h
  rw [hv] at h'
  unfold Ideal.cmp at h'
  have hlt : max (x : EReal) (-(x : EReal)) < ⊤ := by
    by_contra hn
    simp [hn] at h'
  rw [max_lt_iff] at hlt
  refine (EReal.coe_toReal hlt.1.ne ?_).symm
  intro hb
  rw [hb] at hlt
  exact absurd hlt.2 (by simp)

/-- The real number at a place of an array, zero outside of it. -/
def rd (s : Shape) (x : s.Idx → EReal) (v : Fin s.rank → ℕ) : ℝ :=
  if h : ∀ a, v a < s.size a then (x fun a => ⟨v a, h a⟩).toReal else 0

theorem rd_val (s : Shape) (x : s.Idx → EReal) (i : s.Idx) (v : Fin s.rank → ℕ) (hv : ∀ a, v a = (i a).val) :
    rd s x v = (x i).toReal := by
  obtain rfl : v = fun a => (i a).val := funext hv
  exact dif_pos fun a => (i a).isLt

theorem top16 : Ideal.ofBits .bf16 0x7F80#16 = ⊤ := by simp [Ideal.ofBits, Ideal.ieee]

theorem top32 : Ideal.ofBits .f32 0x7F800000#32 = ⊤ := by simp [Ideal.ofBits, Ideal.ieee]

variable (m : (ℓ : Loc nD τ sig) → Buf (Elt Ideal) ℓ) (c : Dev nD)

/-- The real arrays of a launch: the two branches, the cotangent, the norm's scale and shift, the masked weights, the bias. -/
def su (n k : ℕ) : ℝ := rd S8192x2048 (fun i => m ((c : Thread nD τ).loc main_arg0) (ReferenceIdeal.Read.idx_main_v0 i)) ![n, k]
def sv (n k : ℕ) : ℝ := rd S8192x2048 (fun i => m ((c : Thread nD τ).loc main_arg0) (ReferenceIdeal.Read.idx_main_v2 i)) ![n, k]
def dsg (n k : ℕ) : ℝ := rd S8192x2048 (m ((c : Thread nD τ).loc main_arg1)) ![n, k]
def lw (k : ℕ) : ℝ := rd S2048 (m ((c : Thread nD τ).loc main_arg3)) ![k]
def lb (k : ℕ) : ℝ := rd S2048 (m ((c : Thread nD τ).loc main_arg4)) ![k]
def W (g i k : ℕ) : ℝ := rd S8x128x128 (ReferenceIdeal.Read.val_main_v14 (F := Ideal) (m ((c : Thread nD τ).loc main_arg5))) ![g, i, k]
def b (g i : ℕ) : ℝ := rd S8x128 (m ((c : Thread nD τ).loc main_arg6)) ![g, i]

theorem su_val (i : S8192x2048.Idx) : su m c (i 0).val (i 1).val
    = EReal.toReal (m ((c : Thread nD τ).loc main_arg0) (ReferenceIdeal.Read.idx_main_v0 i)) :=
  rd_val S8192x2048 _ i _ fun a => by fin_cases a <;> rfl

theorem sv_val (i : S8192x2048.Idx) : sv m c (i 0).val (i 1).val
    = EReal.toReal (m ((c : Thread nD τ).loc main_arg0) (ReferenceIdeal.Read.idx_main_v2 i)) :=
  rd_val S8192x2048 _ i _ fun a => by fin_cases a <;> rfl

theorem dsg_val (i : S8192x2048.Idx) : dsg m c (i 0).val (i 1).val = EReal.toReal (m ((c : Thread nD τ).loc main_arg1) i) :=
  rd_val S8192x2048 _ i _ fun a => by fin_cases a <;> rfl

theorem lw_val (i : S2048.Idx) : lw m c (i 0).val = EReal.toReal (m ((c : Thread nD τ).loc main_arg3) i) :=
  rd_val S2048 _ i _ fun a => by fin_cases a; rfl

theorem lb_val (i : S2048.Idx) : lb m c (i 0).val = EReal.toReal (m ((c : Thread nD τ).loc main_arg4) i) :=
  rd_val S2048 _ i _ fun a => by fin_cases a; rfl

theorem W_val (i : S8x128x128.Idx) : W m c (i 0).val (i 1).val (i 2).val
    = EReal.toReal (ReferenceIdeal.Read.val_main_v14 (F := Ideal) (m ((c : Thread nD τ).loc main_arg5)) i) :=
  rd_val S8x128x128 _ i _ fun a => by fin_cases a <;> rfl

theorem b_val (i : S8x128.Idx) : b m c (i 0).val (i 1).val = EReal.toReal (m ((c : Thread nD τ).loc main_arg6) i) :=
  rd_val S8x128 _ i _ fun a => by fin_cases a <;> rfl

/-- A choice between a real number and zero is real. -/
theorem real_select (p : BitVec 1) (x : EReal) (h : x = ((EReal.toReal x : ℝ) : EReal)) :
    (Scalar.select p x (0 : EReal)) = ((EReal.toReal (Scalar.select p x (0 : EReal)) : ℝ) : EReal) := by
  unfold Scalar.select
  split
  · exact h
  · simp

theorem lift (h : Cert.Pre_KernelIdeal_finite m) :
    KArr.LiftAt m c (su m c) (sv m c) (dsg m c) (lw m c) (lb m c) (W m c) (b m c) := by
  obtain ⟨h0, h1, h3, h4, h5, h6⟩ := h c
  have hs : ∀ y : Pre_finite.S8192x4096.Idx, (extractStridedSlice Pre_finite.S8192x4096 ![0, 6144] (m ((c : Thread nD τ).loc main_arg0))
      Pre_finite.Facts.slices_S8192x14336_S8192x4096_0_6144 y : EReal) = ((EReal.toReal (extractStridedSlice Pre_finite.S8192x4096 ![0, 6144] (m ((c : Thread nD τ).loc main_arg0))
      Pre_finite.Facts.slices_S8192x14336_S8192x4096_0_6144 y) : ℝ) : EReal) :=
    fun y => real_of_lt_inf (φ := .bf16) _ _ top16 (congrFun h0 y)
  refine ⟨fun i => ?_, fun i => ?_, fun i => ?_, fun i => ?_, fun i => ?_, fun i => ?_, fun i => ?_⟩
  · have hi1 : (i 1).val < 2048 := (i 1).isLt
    rw [su_val]
    have e : extractStridedSlice Pre_finite.S8192x4096 ![0, 6144] (m ((c : Thread nD τ).loc main_arg0))
        Pre_finite.Facts.slices_S8192x14336_S8192x4096_0_6144 (ix2 (i 0) ⟨(i 1).val, by omega⟩)
        = m ((c : Thread nD τ).loc main_arg0) (ReferenceIdeal.Read.idx_main_v0 i) := by
      pointwise
      refine congrArg _ (funext fun a => Fin.ext ?_)
      fin_cases a <;> simp
    rw [← e]
    exact hs _
  · have hi1 : (i 1).val < 2048 := (i 1).isLt
    rw [sv_val]
    have e : extractStridedSlice Pre_finite.S8192x4096 ![0, 6144] (m ((c : Thread nD τ).loc main_arg0))
        Pre_finite.Facts.slices_S8192x14336_S8192x4096_0_6144 (ix2 (i 0) ⟨2048 + (i 1).val, by omega⟩)
        = m ((c : Thread nD τ).loc main_arg0) (ReferenceIdeal.Read.idx_main_v2 i) := by
      pointwise
      refine congrArg _ (funext fun a => Fin.ext ?_)
      fin_cases a <;> simp <;> omega
    rw [← e]
    exact hs _
  · rw [dsg_val]
    exact real_of_lt_inf (φ := .bf16) _ _ top16 (congrFun h1 i)
  · rw [lw_val]
    exact real_of_lt_inf (φ := .f32) _ _ top32 (congrFun h3 i)
  · rw [lb_val]
    exact real_of_lt_inf (φ := .f32) _ _ top32 (congrFun h4 i)
  · rw [W_val, ReferenceIdeal.Read.val_main_v14_apply, ReferenceIdeal.Read.val_main_v13_apply]
    have hz : ReferenceIdeal.Read.val_main_cst (F := Ideal) (ReferenceIdeal.Read.idx_main_v13 i) = (0 : EReal) := Lift.lit_zero
    rw [hz]
    exact real_select _ _ (real_of_lt_inf (φ := .f32) _ _ top32 (congrFun h5 i))
  · rw [b_val]
    exact real_of_lt_inf (φ := .f32) _ _ top32 (congrFun h6 i)

end Cert.Args
end
-- ==== Proof.Sgu.lean ====
/-
  The claims about the spatial gating unit's backward call.
-/
module

public import proofs.«01_k».proof.Proof.Args
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

set_option maxRecDepth 16384

noncomputable section

namespace Cert.Sgu

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite := fun m ρ _ => Cert.KernelIdeal.Gen.frame m ρ

theorem ref_run (m : (ℓ : Loc ReferenceIdeal.nD ReferenceIdeal.τ ReferenceIdeal.sig) → Buf (Elt Ideal) ℓ)
    (ρ : Dev ReferenceIdeal.nD → PrngReg) : θ_run (ReferenceIdeal.defs (F := Ideal))
      (onTc (τ := ReferenceIdeal.τ) (ReferenceIdeal.main (F := Ideal))) ⟨m, fun _ => 0, ρ⟩ fun r => (∀ c : Dev ReferenceIdeal.nD,
      r.2.mem ((c : Thread ReferenceIdeal.nD ReferenceIdeal.τ).loc ReferenceIdeal.main_arg0) = m ((c : Thread ReferenceIdeal.nD ReferenceIdeal.τ).loc ReferenceIdeal.main_arg0)
      ∧ r.2.mem ((c : Thread ReferenceIdeal.nD ReferenceIdeal.τ).loc ReferenceIdeal.main_arg1) = m ((c : Thread ReferenceIdeal.nD ReferenceIdeal.τ).loc ReferenceIdeal.main_arg1)
      ∧ r.2.mem ((c : Thread ReferenceIdeal.nD ReferenceIdeal.τ).loc ReferenceIdeal.main_arg2) = m ((c : Thread ReferenceIdeal.nD ReferenceIdeal.τ).loc ReferenceIdeal.main_arg2)
      ∧ r.2.mem ((c : Thread ReferenceIdeal.nD ReferenceIdeal.τ).loc ReferenceIdeal.main_arg3) = m ((c : Thread ReferenceIdeal.nD ReferenceIdeal.τ).loc ReferenceIdeal.main_arg3)
      ∧ r.2.mem ((c : Thread ReferenceIdeal.nD ReferenceIdeal.τ).loc ReferenceIdeal.main_arg4) = m ((c : Thread ReferenceIdeal.nD ReferenceIdeal.τ).loc ReferenceIdeal.main_arg4)
      ∧ r.2.mem ((c : Thread ReferenceIdeal.nD ReferenceIdeal.τ).loc ReferenceIdeal.main_arg5) = m ((c : Thread ReferenceIdeal.nD ReferenceIdeal.τ).loc ReferenceIdeal.main_arg5)
      ∧ r.2.mem ((c : Thread ReferenceIdeal.nD ReferenceIdeal.τ).loc ReferenceIdeal.main_arg6) = m ((c : Thread ReferenceIdeal.nD ReferenceIdeal.τ).loc ReferenceIdeal.main_arg6))
      ∧ r.2.sem = fun _ => 0 :=
  (θ_run ReferenceIdeal.defs _ _).mono (fun r h => ⟨fun c => (h c).2.2.2.2.2, sem_eq_zero_of_no_sems (by decide) r.2⟩)
    (ReferenceIdeal.Value.run (F := Ideal) m ρ)

theorem frame_ri : Cert.quiescent_ReferenceIdeal := fun m ρ _ => ref_run m ρ

theorem frame_ri_pre : Cert.quiescent_ReferenceIdeal_pre_finite := fun m ρ _ => ref_run m ρ

theorem preserves : Cert.preserves_Kernel_KernelIdeal :=
  ⟨IdealRules.named_const.statement Cert.KernelIdeal.κ "inv_sqrt2" .f32 0x3F3504F3#32 (((Real.sqrt 2)⁻¹ : ℝ) : EReal) rfl,
    IdealRules.named_const.statement Cert.KernelIdeal.κ "inv_sqrt_2pi" .f32 0x3ECC422A#32
      (((Real.sqrt (2 * Real.pi))⁻¹ : ℝ) : EReal) rfl⟩

set_option maxHeartbeats 4000000 in
/-- From finite arguments both programs end with the gradients' real numbers, and the columns they were given. -/
theorem algebraic : Cert.algebraic_KernelIdeal_ReferenceIdeal_pre_finite := by
  intro m ρ m' ρ' hpre hagree
  have hL := fun c => Args.lift m c hpre
  refine ⟨fun c => (KernelIdeal.Gen.dats m 0 c).arrAt 8 KernelIdeal.cfg0.N, fun c => (KernelIdeal.Gen.dats m 0 c).arrAt 9 KernelIdeal.cfg0.N,
    fun c => (KernelIdeal.Gen.dats m 0 c).arrAt 10 KernelIdeal.cfg0.N, fun c => (KernelIdeal.Gen.dats m 0 c).arrAt 11 KernelIdeal.cfg0.N,
    fun c => (KernelIdeal.Gen.dats m 0 c).arrAt 12 KernelIdeal.cfg0.N, KernelIdeal.Value.run_blocks m ρ, ?_⟩
  refine (θ_run ReferenceIdeal.defs _ _).mono (fun _ h c => ?_) (ReferenceIdeal.Value.run (F := Ideal) m' ρ')
  obtain ⟨g0, g1, g2, g3, g4, g5, g6⟩ := hagree c
  obtain ⟨h0, h1, h2, h3, h4, h5⟩ := h c
  refine ⟨h0.trans ?_, h1.trans ?_, h2.trans ?_, h3.trans ?_, h4.trans ?_, h5⟩
  · refine (ReferenceIdeal.Read.val_main_v152_eq (StableHlo.launchContents m' c)).trans ?_
    have e : ReferenceIdeal.Read.val_main_v152 (F := Ideal) (m' ((c : Thread ReferenceIdeal.nD ReferenceIdeal.τ).loc ReferenceIdeal.main_arg0)) (m' ((c : Thread ReferenceIdeal.nD ReferenceIdeal.τ).loc ReferenceIdeal.main_arg1)) (m' ((c : Thread ReferenceIdeal.nD ReferenceIdeal.τ).loc ReferenceIdeal.main_arg2)) (m' ((c : Thread ReferenceIdeal.nD ReferenceIdeal.τ).loc ReferenceIdeal.main_arg3)) (m' ((c : Thread ReferenceIdeal.nD ReferenceIdeal.τ).loc ReferenceIdeal.main_arg4)) (m' ((c : Thread ReferenceIdeal.nD ReferenceIdeal.τ).loc ReferenceIdeal.main_arg5)) (m' ((c : Thread ReferenceIdeal.nD ReferenceIdeal.τ).loc ReferenceIdeal.main_arg6))
        = (KernelIdeal.Gen.dats m 0 c).arrAt 8 KernelIdeal.cfg0.N := by
      rw [g0, g1, g2, g3, g4, g5, g6, KArr.final8 (hL c)]
      exact funext fun i => RefValue.r152 (hL c) i
    exact e
  · refine (ReferenceIdeal.Read.val_main_v153_eq (StableHlo.launchContents m' c)).trans ?_
    have e : ReferenceIdeal.Read.val_main_v153 (F := Ideal) (m' ((c : Thread ReferenceIdeal.nD ReferenceIdeal.τ).loc ReferenceIdeal.main_arg0)) (m' ((c : Thread ReferenceIdeal.nD ReferenceIdeal.τ).loc ReferenceIdeal.main_arg1)) (m' ((c : Thread ReferenceIdeal.nD ReferenceIdeal.τ).loc ReferenceIdeal.main_arg5))
        = (KernelIdeal.Gen.dats m 0 c).arrAt 9 KernelIdeal.cfg0.N := by
      rw [g0, g1, g5, KArr.final9 (hL c)]
      exact funext fun i => RefValue.r153 (hL c) i
    exact e
  · refine (ReferenceIdeal.Read.val_main_v154_eq (StableHlo.launchContents m' c)).trans ?_
    have e : ReferenceIdeal.Read.val_main_v154 (F := Ideal) (m' ((c : Thread ReferenceIdeal.nD ReferenceIdeal.τ).loc ReferenceIdeal.main_arg0)) (m' ((c : Thread ReferenceIdeal.nD ReferenceIdeal.τ).loc ReferenceIdeal.main_arg1)) (m' ((c : Thread ReferenceIdeal.nD ReferenceIdeal.τ).loc ReferenceIdeal.main_arg5))
        = (KernelIdeal.Gen.dats m 0 c).arrAt 10 KernelIdeal.cfg0.N := by
      rw [g0, g1, g5, KArr.final10 (hL c)]
      exact funext fun i => RefValue.r154 (hL c) i
    exact e
  · refine (ReferenceIdeal.Read.val_main_v96_eq (StableHlo.launchContents m' c)).trans ?_
    have e : ReferenceIdeal.Read.val_main_v96 (F := Ideal) (m' ((c : Thread ReferenceIdeal.nD ReferenceIdeal.τ).loc ReferenceIdeal.main_arg0)) (m' ((c : Thread ReferenceIdeal.nD ReferenceIdeal.τ).loc ReferenceIdeal.main_arg1)) (m' ((c : Thread ReferenceIdeal.nD ReferenceIdeal.τ).loc ReferenceIdeal.main_arg3)) (m' ((c : Thread ReferenceIdeal.nD ReferenceIdeal.τ).loc ReferenceIdeal.main_arg4))
        = (KernelIdeal.Gen.dats m 0 c).arrAt 11 KernelIdeal.cfg0.N := by
      rw [g0, g1, g3, g4, KArr.final11 (hL c)]
      exact funext fun i => RefValue.r96 (hL c) i
    exact e
  · refine (ReferenceIdeal.Read.val_main_v155_eq (StableHlo.launchContents m' c)).trans ?_
    have e : ReferenceIdeal.Read.val_main_v155 (F := Ideal) (m' ((c : Thread ReferenceIdeal.nD ReferenceIdeal.τ).loc ReferenceIdeal.main_arg0)) (m' ((c : Thread ReferenceIdeal.nD ReferenceIdeal.τ).loc ReferenceIdeal.main_arg1))
        = (KernelIdeal.Gen.dats m 0 c).arrAt 12 KernelIdeal.cfg0.N := by
      rw [g0, g1, KArr.final12 (hL c)]
      exact funext fun i => RefValue.r155 (hL c) i
    exact e

end Cert.Sgu
end
-- ==== Proof.Mat.lean ====
/-
  Matrix products over the extended reals, and their sums taken block by block.
-/
module

public import Idealize.ShloMosaic.Lib.Pipeline.ValueKit.Acc
public import Idealize.ShloMosaic.Lib.Pointwise

@[expose] public section

noncomputable section

namespace Cert.Mat

open Idealize.ShloMosaic

/-- A matrix's entry at two positions given as numbers; zero outside the matrix. -/
def at2 {A B : ℕ} (x : (⟨2, ![A, B]⟩ : Shape).Idx → EReal) (n k : ℕ) : EReal :=
  if h : n < A ∧ k < B then x (ix2 ⟨n, h.1⟩ ⟨k, h.2⟩) else 0

/-- An entry, read at an index whose positions are known. -/
theorem at2_of {A B : ℕ} (x : (⟨2, ![A, B]⟩ : Shape).Idx → EReal) {n k : ℕ} (i : (⟨2, ![A, B]⟩ : Shape).Idx)
    (h0 : (i 0).val = n) (h1 : (i 1).val = k) : x i = at2 x n k := by
  subst h0 h1
  have hb : (i 0).val < A ∧ (i 1).val < B := ⟨(i 0).isLt, (i 1).isLt⟩
  unfold at2
  rw [dif_pos hb]
  exact congrArg x (eq_ix2 i)

/-- The columns of a matrix from position `o` on, `n` of them. -/
def cols {B D : ℕ} (o n : ℕ) (y : (⟨2, ![B, D]⟩ : Shape).Idx → EReal) : (⟨2, ![B, n]⟩ : Shape).Idx → EReal :=
  fun i => at2 y (i 0).val (o + (i 1).val)

theorem at2_cols {B D : ℕ} (o n : ℕ) (y : (⟨2, ![B, D]⟩ : Shape).Idx → EReal) (j : ℕ) {k : ℕ} (hk : k < n) :
    at2 (cols o n y) j k = at2 y j (o + k) := by
  by_cases h : j < B
  · rw [at2, dif_pos ⟨h, hk⟩]
    rfl
  · rw [at2, at2, dif_neg fun e => h e.1, dif_neg fun e => h e.1]

/-- Entry `(i, j)` of the product of a matrix with a transposed one. -/
@[irreducible] def nt {A B C : ℕ} (K : ℕ) (x : (⟨2, ![A, C]⟩ : Shape).Idx → EReal) (y : (⟨2, ![B, C]⟩ : Shape).Idx → EReal) (i j : ℕ) : EReal :=
  ∑ k : Fin K, at2 x i k.val * at2 y j k.val

/-- Entry `(i, j)` of the product of a transposed matrix with another. -/
@[irreducible] def tn {A B C : ℕ} (K : ℕ) (x : (⟨2, ![C, A]⟩ : Shape).Idx → EReal) (y : (⟨2, ![C, B]⟩ : Shape).Idx → EReal) (i j : ℕ) : EReal :=
  ∑ k : Fin K, at2 x k.val i * at2 y k.val j

/-- Entry `(i, j)` of the product of two matrices. -/
@[irreducible] def nn {A B C : ℕ} (K : ℕ) (x : (⟨2, ![A, C]⟩ : Shape).Idx → EReal) (y : (⟨2, ![C, B]⟩ : Shape).Idx → EReal) (i j : ℕ) : EReal :=
  ∑ k : Fin K, at2 x i k.val * at2 y k.val j

theorem nn_of {A B C : ℕ} (x : (⟨2, ![A, C]⟩ : Shape).Idx → EReal) (y : (⟨2, ![C, B]⟩ : Shape).Idx → EReal) (i : Fin A) (j : Fin B) :
    ∑ k : Fin C, x (ix2 i k) * y (ix2 k j) = nn C x y i.val j.val := by
  unfold nn
  exact Finset.sum_congr rfl fun k _ => congrArg₂ (· * ·) (at2_of x _ rfl rfl) (at2_of y _ rfl rfl)

theorem nt_of {A B C : ℕ} (x : (⟨2, ![A, C]⟩ : Shape).Idx → EReal) (y : (⟨2, ![B, C]⟩ : Shape).Idx → EReal) (i : Fin A) (j : Fin B) :
    ∑ k : Fin C, x (ix2 i k) * y (ix2 j k) = nt C x y i.val j.val := by
  unfold nt
  exact Finset.sum_congr rfl fun k _ => congrArg₂ (· * ·) (at2_of x _ rfl rfl) (at2_of y _ rfl rfl)

/-- The factors of each term may stand in the other order. -/
theorem tn_of {A B C : ℕ} (x : (⟨2, ![C, A]⟩ : Shape).Idx → EReal) (y : (⟨2, ![C, B]⟩ : Shape).Idx → EReal) (i : Fin A) (j : Fin B) :
    ∑ k : Fin C, y (ix2 k j) * x (ix2 k i) = tn C x y i.val j.val := by
  unfold tn
  exact Finset.sum_congr rfl fun k _ => (mul_comm _ _).trans (congrArg₂ (· * ·) (at2_of x _ rfl rfl) (at2_of y _ rfl rfl))

/-- A sum over `J` consecutive blocks of `n` positions is the sum over all of them. -/
theorem sum_blocks (J n : ℕ) (g : ℕ → EReal) :
    ∑ s ∈ Finset.range J, ∑ k : Fin n, g (s * n + k.val) = ∑ l : Fin (J * n), g l.val := by
  rw [Finset.sum_range]
  exact Fin.sum_univ_univ_mul_add J n g

/-- An accumulator set to its run's first part and then added to holds the sum of the parts so far. -/
theorem fold {ι : Type} {N : ℕ} (f : (n : ℕ) → n < N → ι → EReal) (J : ℕ) (part : ℕ → ℕ → ι → EReal)
    (h0 : ∀ t : Fin N, t.val % J = 0 → ∀ i, f t.val t.isLt i = part (t.val / J) (t.val % J) i)
    (hs : ∀ t : Fin N, ¬t.val % J = 0 → ∀ i,
      f t.val t.isLt i = f (t.val - 1) (Nat.lt_of_le_of_lt (Nat.sub_le _ _) t.isLt) i + part (t.val / J) (t.val % J) i)
    (t : Fin N) {r : ℕ} (hr : t.val % J = r) (i : ι) :
    f t.val t.isLt i = ∑ k ∈ Finset.range (r + 1), part (t.val / J) k i := by
  subst hr
  have h := Pipeline.eq_sum_of_reset_step_apply_divmod f J (fun _ => 0) part
    (fun t h i => by rw [zero_add]; exact h0 t h i) hs t i
  rw [zero_add] at h
  exact h

/-- One block's part, of `n` positions, of an entry of `nt`, of `tn` and of `nn`. -/
def ntPart {A B C : ℕ} (n : ℕ) (x : (⟨2, ![A, C]⟩ : Shape).Idx → EReal) (y : (⟨2, ![B, C]⟩ : Shape).Idx → EReal) (i j s : ℕ) : EReal :=
  ∑ k : Fin n, at2 x i (s * n + k.val) * at2 y j (s * n + k.val)

def tnPart {A B C : ℕ} (n : ℕ) (x : (⟨2, ![C, A]⟩ : Shape).Idx → EReal) (y : (⟨2, ![C, B]⟩ : Shape).Idx → EReal) (i j s : ℕ) : EReal :=
  ∑ k : Fin n, at2 x (s * n + k.val) i * at2 y (s * n + k.val) j

def nnPart {A B C : ℕ} (n : ℕ) (x : (⟨2, ![A, C]⟩ : Shape).Idx → EReal) (y : (⟨2, ![C, B]⟩ : Shape).Idx → EReal) (i j s : ℕ) : EReal :=
  ∑ k : Fin n, at2 x i (s * n + k.val) * at2 y (s * n + k.val) j

theorem sum_nnPart {A B C : ℕ} (J n : ℕ) (x : (⟨2, ![A, C]⟩ : Shape).Idx → EReal) (y : (⟨2, ![C, B]⟩ : Shape).Idx → EReal) (i j : ℕ)
    {K : ℕ} (hK : J * n = K) : ∑ s ∈ Finset.range J, nnPart n x y i j s = nn K x y i j := by
  subst hK
  unfold nn nnPart
  exact sum_blocks J n fun l => at2 x i l * at2 y l j

theorem sum_ntPart {A B C : ℕ} (J n : ℕ) (x : (⟨2, ![A, C]⟩ : Shape).Idx → EReal) (y : (⟨2, ![B, C]⟩ : Shape).Idx → EReal) (i j : ℕ)
    {K : ℕ} (hK : J * n = K) : ∑ s ∈ Finset.range J, ntPart n x y i j s = nt K x y i j := by
  subst hK
  unfold nt ntPart
  exact sum_blocks J n fun l => at2 x i l * at2 y j l

theorem sum_tnPart {A B C : ℕ} (J n : ℕ) (x : (⟨2, ![C, A]⟩ : Shape).Idx → EReal) (y : (⟨2, ![C, B]⟩ : Shape).Idx → EReal) (i j : ℕ)
    {K : ℕ} (hK : J * n = K) : ∑ s ∈ Finset.range J, tnPart n x y i j s = tn K x y i j := by
  subst hK
  unfold tn tnPart
  exact sum_blocks J n fun l => at2 x l i * at2 y l j

end Cert.Mat
end
-- ==== Proof.Prod2.lean ====
/-
  The input gradient of a square projection: `g wᵀ` for one device's tokens, over the extended reals.
-/
module

public import proofs.«01_k».proof.Defs
public import proofs.«01_k».proof.Proof.Mat
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod2

open Idealize.ShloMosaic Idealize.ShloMosaic.TcCoe Idealize.SL.Sem
open Cert.Kernel2Ideal Cert.Kernel2Ideal.Gen Cert.Mat

variable (m : (ℓ : Loc nD τ sig) → Buf (Elt Ideal) ℓ) (c : Dev nD)

/-- The two arguments, as the launch found them. -/
abbrev a0 : S8192x2048.Idx → EReal := m ((c : Thread nD τ).loc main_arg0)
abbrev a1 : S2048x2048.Idx → EReal := m ((c : Thread nD τ).loc main_arg1)

/-- Each window's block index at a point: the grid is 8 × 2 × 1. -/
theorem ix : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem b0 (t : Fin cfg0.N) (i : S1024x2048.Idx) :
    iblk m c 0 t i = at2 (a0 m c) (t.val / 2 * 1024 + (i 0).val) (i 1).val := by
  unfold a0
  rw [← V_main_arg0 m c]
  blk_simp [iblk]
  exact at2_of _ _ (by blk_simp [(ix t).1]) (by blk_simp [(ix t).1])

theorem b1 (t : Fin cfg0.N) (i : S1024x2048.Idx) :
    iblk m c 1 t i = at2 (a1 m c) (t.val % 2 * 1024 + (i 0).val) (i 1).val := by
  unfold a1
  rw [← V_main_arg1 m c]
  blk_simp [iblk]
  exact at2_of _ _ (by blk_simp [(ix t).2.1]) (by blk_simp [(ix t).2.1])

/-- One point's product. -/
theorem pay1 (x y : S1024x2048.Idx → EReal) (i : S1024x1024.Idx) :
    k0_pay1 (F := Ideal) x y i = ∑ k : Fin 2048, x (ix2 (i 0) k) * y (ix2 (i 1) k) := by
  idx_vars i
  pointwise [k0_pay1]

theorem out (t : Fin cfg0.N) (i : S1024x1024.Idx) :
    out0_2 (F := Ideal) (iblk m c 0 t) (iblk m c 1 t) i
      = nt 2048 (a0 m c) (a1 m c) (t.val / 2 * 1024 + (i 0).val) (t.val % 2 * 1024 + (i 1).val) := by
  have e : out0_2 (F := Ideal) (iblk m c 0 t) (iblk m c 1 t) = k0_pay1 (F := Ideal) (iblk m c 0 t) (iblk m c 1 t) := by
    frame_out
  rw [e]
  unfold nt
  refine (pay1 _ _ i).trans (Finset.sum_congr rfl fun k _ => ?_)
  rw [b0, b1]
  rfl

theorem final : (dats m 0 c).arrAt 2 cfg0.N = fun i => nt 2048 (a0 m c) (a1 m c) (i 0).val (i 1).val := by
  refine (dats m 0 c).arrAt_eq_of_covers 2 _ (by decide +kernel) fun t hf y => ?_
  blk_simp
  rw [after0_2, out m c t]
  refine congrArg₂ (nt 2048 (a0 m c) (a1 m c)) ?_ ?_
  · blk_simp [(ix t).2.2]
  · blk_simp [(ix t).2.2]

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Reference2Ideal.defs _ _).mono (fun r h => ⟨fun c => (h c).2, sem_eq_zero_of_no_sems (by decide) r.2⟩)
    (Reference2Ideal.Value.run (F := Ideal) m ρ)

theorem preserves : Cert.preserves_Kernel2_Kernel2Ideal := trivial

theorem algebraic : Cert.algebraic_Kernel2Ideal_Reference2Ideal := by
  intro m ρ m' ρ' _ hagree
  refine ⟨fun c => (dats m 0 c).arrAt 2 cfg0.N, Kernel2Ideal.Value.run_blocks m ρ, ?_⟩
  refine (θ_run Reference2Ideal.defs _ _).mono (fun _ h c => ?_) (Reference2Ideal.Value.run (F := Ideal) m' ρ')
  obtain ⟨g0, g1⟩ := hagree c
  refine ⟨(h c).1.trans ?_, (h c).2⟩
  rw [g0, g1]
  refine Eq.trans ?_ (final m c).symm
  funext i
  idx_vars i
  pointwise []
  exact nt_of (a0 m c) (a1 m c) i0 i1

end Cert.Prod2
end
-- ==== Proof.Prod3.lean ====
/-
  The weight gradient of a square projection: `xᵀ g` in one device's addend, over the extended reals.
-/
module

public import proofs.«01_k».proof.Defs
public import proofs.«01_k».proof.Proof.Mat
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod3

open Idealize.ShloMosaic Idealize.ShloMosaic.TcCoe Idealize.SL.Sem
open Cert.Kernel3Ideal Cert.Kernel3Ideal.Gen Cert.Mat

variable (m : (ℓ : Loc nD τ sig) → Buf (Elt Ideal) ℓ) (c : Dev nD)

/-- The two arguments, as the launch found them. -/
abbrev a0 : S8192x2048.Idx → EReal := m ((c : Thread nD τ).loc main_arg0)
abbrev a1 : S8192x2048.Idx → EReal := m ((c : Thread nD τ).loc main_arg1)

/-- Each window's block index at a point: the grid is 2 × 2 × 4, the last coordinate running over the tokens. -/
theorem ix : ∀ t : Fin cfg0.N, win0_0.index t = ![t.val % 4, t.val / 4 / 2] ∧ win0_1.index t = ![t.val % 4, t.val / 4 % 2]
    ∧ win0_2.index t = ![t.val / 4 / 2, t.val / 4 % 2] :=
  (by decide +kernel : ∀ t : Fin grid0.N, _)

theorem b0 (t : Fin cfg0.N) (i : S2048x1024.Idx) :
    iblk m c 0 t i = at2 (a0 m c) (t.val % 4 * 2048 + (i 0).val) (t.val / 4 / 2 * 1024 + (i 1).val) := by
  unfold a0
  rw [← V_main_arg0 m c]
  blk_simp [iblk]
  exact at2_of _ _ (by blk_simp [(ix t).1]) (by blk_simp [(ix t).1])

theorem b1 (t : Fin cfg0.N) (i : S2048x1024.Idx) :
    iblk m c 1 t i = at2 (a1 m c) (t.val % 4 * 2048 + (i 0).val) (t.val / 4 % 2 * 1024 + (i 1).val) := by
  unfold a1
  rw [← V_main_arg1 m c]
  blk_simp [iblk]
  exact at2_of _ _ (by blk_simp [(ix t).2.1]) (by blk_simp [(ix t).2.1])

/-- One point's product. -/
theorem pay1 (x y : S2048x1024.Idx → EReal) (i : S1024x1024.Idx) :
    k0_pay1 (F := Ideal) x y i = ∑ k : Fin 2048, x (ix2 k (i 0)) * y (ix2 k (i 1)) := by
  idx_vars i
  pointwise [k0_pay1]

theorem pay2 (x y : S2048x1024.Idx → EReal) (z : S1024x1024.Idx → EReal) (i : S1024x1024.Idx) :
    k0_pay2 (F := Ideal) x y z i = z i + k0_pay1 (F := Ideal) x y i := by
  idx_vars i
  pointwise [k0_pay2]

/-- The part of an entry that one block of tokens contributes. -/
abbrev part (q r : ℕ) (i : S1024x1024.Idx) : EReal :=
  tnPart 2048 (a0 m c) (a1 m c) (q / 2 * 1024 + (i 0).val) (q % 2 * 1024 + (i 1).val) r

theorem pay1_blk (t : Fin cfg0.N) (i : S1024x1024.Idx) :
    k0_pay1 (F := Ideal) (iblk m c 0 t) (iblk m c 1 t) i = part m c (t.val / 4) (t.val % 4) i := by
  refine (pay1 _ _ i).trans (Finset.sum_congr rfl fun k _ => ?_)
  rw [b0, b1]
  rfl

theorem outA (t : Fin cfg0.N) (h : t.val % 4 = 0) :
    outsAt0 m c t.val t.isLt = k0_pay1 (F := Ideal) (iblk m c 0 t) (iblk m c 1 t) := by
  rw [outsAt0_A m c t h (by omega)]
  frame_out

theorem outB (t : Fin cfg0.N) (h : ¬t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

theorem acc (t : Fin cfg0.N) (h : t.val % 4 = 3) (i : S1024x1024.Idx) :
    outsAt0 m c t.val t.isLt i
      = tn 8192 (a0 m c) (a1 m c) (t.val / 4 / 2 * 1024 + (i 0).val) (t.val / 4 % 2 * 1024 + (i 1).val) := by
  refine (fold (fun n h => outsAt0 m c n h) 4 (part m c) (fun t h i => ?_) (fun t h i => ?_) t h i).trans ?_
  · exact (congrFun (outA m c t h) i).trans (pay1_blk m c t i)
  · exact (congrFun (outB m c t h) i).trans ((pay2 _ _ _ i).trans (congrArg _ (pay1_blk m c t i)))
  · exact sum_tnPart 4 2048 _ _ _ _ rfl

theorem final : (dats m 0 c).arrAt 2 cfg0.N = fun i => tn 8192 (a0 m c) (a1 m c) (i 0).val (i 1).val := by
  refine (dats m 0 c).arrAt_eq_of_covers 2 _ (by decide +kernel) fun t hf y => ?_
  have hm := (flush0_2 t).mp hf
  blk_simp
  rw [after0_2, acc m c t hm]
  refine congrArg₂ (tn 8192 (a0 m c) (a1 m c)) ?_ ?_
  · blk_simp [(ix t).2.2]
  · blk_simp [(ix t).2.2]

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Reference3Ideal.defs _ _).mono (fun r h => ⟨fun c => (h c).2, sem_eq_zero_of_no_sems (by decide) r.2⟩)
    (Reference3Ideal.Value.run (F := Ideal) m ρ)

theorem preserves : Cert.preserves_Kernel3_Kernel3Ideal := trivial

theorem algebraic : Cert.algebraic_Kernel3Ideal_Reference3Ideal := by
  intro m ρ m' ρ' _ hagree
  refine ⟨fun c => (dats m 0 c).arrAt 2 cfg0.N, Kernel3Ideal.Value.run_blocks m ρ, ?_⟩
  refine (θ_run Reference3Ideal.defs _ _).mono (fun _ h c => ?_) (Reference3Ideal.Value.run (F := Ideal) m' ρ')
  obtain ⟨g0, g1⟩ := hagree c
  refine ⟨(h c).1.trans ?_, (h c).2⟩
  rw [g0, g1]
  refine Eq.trans ?_ (final m c).symm
  funext i
  idx_vars i
  pointwise []
  exact tn_of (a0 m c) (a1 m c) i0 i1

end Cert.Prod3
end
-- ==== Proof.Prod4.lean ====
/-
  The input gradient of the feed-forward output projection: `g wᵀ` for one device's tokens, over the extended reals.
-/
module

public import proofs.«01_k».proof.Defs
public import proofs.«01_k».proof.Proof.Mat
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod4

open Idealize.ShloMosaic Idealize.ShloMosaic.TcCoe Idealize.SL.Sem
open Cert.Kernel4Ideal Cert.Kernel4Ideal.Gen Cert.Mat

variable (m : (ℓ : Loc nD τ sig) → Buf (Elt Ideal) ℓ) (c : Dev nD)

/-- The two arguments, as the launch found them. -/
abbrev a0 : S8192x2048.Idx → EReal := m ((c : Thread nD τ).loc main_arg0)
abbrev a1 : S5632x2048.Idx → EReal := m ((c : Thread nD τ).loc main_arg1)

/-- Each window's block index at a point: the grid is 8 × 4 × 1. -/
theorem ix : ∀ t : Fin cfg0.N, win0_0.index t = ![t.val / 4, 0] ∧ win0_1.index t = ![t.val % 4, 0]
    ∧ win0_2.index t = ![t.val / 4, t.val % 4] :=
  (by decide +kernel : ∀ t : Fin grid0.N, _)

theorem b0 (t : Fin cfg0.N) (i : S1024x2048.Idx) :
    iblk m c 0 t i = at2 (a0 m c) (t.val / 4 * 1024 + (i 0).val) (i 1).val := by
  unfold a0
  rw [← V_main_arg0 m c]
  blk_simp [iblk]
  exact at2_of _ _ (by blk_simp [(ix t).1]) (by blk_simp [(ix t).1])

theorem b1 (t : Fin cfg0.N) (i : S1408x2048.Idx) :
    iblk m c 1 t i = at2 (a1 m c) (t.val % 4 * 1408 + (i 0).val) (i 1).val := by
  unfold a1
  rw [← V_main_arg1 m c]
  blk_simp [iblk]
  exact at2_of _ _ (by blk_simp [(ix t).2.1]) (by blk_simp [(ix t).2.1])

/-- One point's product. -/
theorem pay1 (x : S1024x2048.Idx → EReal) (y : S1408x2048.Idx → EReal) (i : S1024x1408.Idx) :
    k0_pay1 (F := Ideal) x y i = ∑ k : Fin 2048, x (ix2 (i 0) k) * y (ix2 (i 1) k) := by
  idx_vars i
  pointwise [k0_pay1]

theorem out (t : Fin cfg0.N) (i : S1024x1408.Idx) :
    out0_2 (F := Ideal) (iblk m c 0 t) (iblk m c 1 t) i
      = nt 2048 (a0 m c) (a1 m c) (t.val / 4 * 1024 + (i 0).val) (t.val % 4 * 1408 + (i 1).val) := by
  have e : out0_2 (F := Ideal) (iblk m c 0 t) (iblk m c 1 t) = k0_pay1 (F := Ideal) (iblk m c 0 t) (iblk m c 1 t) := by
    frame_out
  rw [e]
  unfold nt
  refine (pay1 _ _ i).trans (Finset.sum_congr rfl fun k _ => ?_)
  rw [b0, b1]
  rfl

theorem final : (dats m 0 c).arrAt 2 cfg0.N = fun i => nt 2048 (a0 m c) (a1 m c) (i 0).val (i 1).val := by
  refine (dats m 0 c).arrAt_eq_of_covers 2 _ (by decide +kernel) fun t hf y => ?_
  blk_simp
  rw [after0_2, out m c t]
  refine congrArg₂ (nt 2048 (a0 m c) (a1 m c)) ?_ ?_
  · blk_simp [(ix t).2.2]
  · blk_simp [(ix t).2.2]

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Reference4Ideal.defs _ _).mono (fun r h => ⟨fun c => (h c).2, sem_eq_zero_of_no_sems (by decide) r.2⟩)
    (Reference4Ideal.Value.run (F := Ideal) m ρ)

theorem preserves : Cert.preserves_Kernel4_Kernel4Ideal := trivial

theorem algebraic : Cert.algebraic_Kernel4Ideal_Reference4Ideal := by
  intro m ρ m' ρ' _ hagree
  refine ⟨fun c => (dats m 0 c).arrAt 2 cfg0.N, Kernel4Ideal.Value.run_blocks m ρ, ?_⟩
  refine (θ_run Reference4Ideal.defs _ _).mono (fun _ h c => ?_) (Reference4Ideal.Value.run (F := Ideal) m' ρ')
  obtain ⟨g0, g1⟩ := hagree c
  refine ⟨(h c).1.trans ?_, (h c).2⟩
  rw [g0, g1]
  refine Eq.trans ?_ (final m c).symm
  funext i
  idx_vars i
  pointwise []
  exact nt_of (a0 m c) (a1 m c) i0 i1

end Cert.Prod4
end
-- ==== Proof.Prod5.lean ====
/-
  The weight gradient of the feed-forward output projection: `xᵀ g` in one device's addend, over the extended reals.
-/
module

public import proofs.«01_k».proof.Defs
public import proofs.«01_k».proof.Proof.Mat
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod5

open Idealize.ShloMosaic Idealize.ShloMosaic.TcCoe Idealize.SL.Sem
open Cert.Kernel5Ideal Cert.Kernel5Ideal.Gen Cert.Mat

variable (m : (ℓ : Loc nD τ sig) → Buf (Elt Ideal) ℓ) (c : Dev nD)

/-- The two arguments, as the launch found them. -/
abbrev a0 : S8192x5632.Idx → EReal := m ((c : Thread nD τ).loc main_arg0)
abbrev a1 : S8192x2048.Idx → EReal := m ((c : Thread nD τ).loc main_arg1)

/-- Each window's block index at a point: the grid is 4 × 2 × 4, the last coordinate running over the tokens. -/
theorem ix : ∀ t : Fin cfg0.N, win0_0.index t = ![t.val % 4, t.val / 4 / 2] ∧ win0_1.index t = ![t.val % 4, t.val / 4 % 2]
    ∧ win0_2.index t = ![t.val / 4 / 2, t.val / 4 % 2] :=
  (by decide +kernel : ∀ t : Fin grid0.N, _)

theorem b0 (t : Fin cfg0.N) (i : S2048x1408.Idx) :
    iblk m c 0 t i = at2 (a0 m c) (t.val % 4 * 2048 + (i 0).val) (t.val / 4 / 2 * 1408 + (i 1).val) := by
  unfold a0
  rw [← V_main_arg0 m c]
  blk_simp [iblk]
  exact at2_of _ _ (by blk_simp [(ix t).1]) (by blk_simp [(ix t).1])

theorem b1 (t : Fin cfg0.N) (i : S2048x1024.Idx) :
    iblk m c 1 t i = at2 (a1 m c) (t.val % 4 * 2048 + (i 0).val) (t.val / 4 % 2 * 1024 + (i 1).val) := by
  unfold a1
  rw [← V_main_arg1 m c]
  blk_simp [iblk]
  exact at2_of _ _ (by blk_simp [(ix t).2.1]) (by blk_simp [(ix t).2.1])

/-- One point's product. -/
theorem pay1 (x : S2048x1408.Idx → EReal) (y : S2048x1024.Idx → EReal) (i : S1408x1024.Idx) :
    k0_pay1 (F := Ideal) x y i = ∑ k : Fin 2048, x (ix2 k (i 0)) * y (ix2 k (i 1)) := by
  idx_vars i
  pointwise [k0_pay1]

theorem pay2 (x : S2048x1408.Idx → EReal) (y : S2048x1024.Idx → EReal) (z : S1408x1024.Idx → EReal) (i : S1408x1024.Idx) :
    k0_pay2 (F := Ideal) x y z i = z i + k0_pay1 (F := Ideal) x y i := by
  idx_vars i
  pointwise [k0_pay2]

/-- The part of an entry that one block of tokens contributes. -/
abbrev part (q r : ℕ) (i : S1408x1024.Idx) : EReal :=
  tnPart 2048 (a0 m c) (a1 m c) (q / 2 * 1408 + (i 0).val) (q % 2 * 1024 + (i 1).val) r

theorem pay1_blk (t : Fin cfg0.N) (i : S1408x1024.Idx) :
    k0_pay1 (F := Ideal) (iblk m c 0 t) (iblk m c 1 t) i = part m c (t.val / 4) (t.val % 4) i := by
  refine (pay1 _ _ i).trans (Finset.sum_congr rfl fun k _ => ?_)
  rw [b0, b1]
  rfl

theorem outA (t : Fin cfg0.N) (h : t.val % 4 = 0) :
    outsAt0 m c t.val t.isLt = k0_pay1 (F := Ideal) (iblk m c 0 t) (iblk m c 1 t) := by
  rw [outsAt0_A m c t h (by omega)]
  frame_out

theorem outB (t : Fin cfg0.N) (h : ¬t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

theorem acc (t : Fin cfg0.N) (h : t.val % 4 = 3) (i : S1408x1024.Idx) :
    outsAt0 m c t.val t.isLt i
      = tn 8192 (a0 m c) (a1 m c) (t.val / 4 / 2 * 1408 + (i 0).val) (t.val / 4 % 2 * 1024 + (i 1).val) := by
  refine (fold (fun n h => outsAt0 m c n h) 4 (part m c) (fun t h i => ?_) (fun t h i => ?_) t h i).trans ?_
  · exact (congrFun (outA m c t h) i).trans (pay1_blk m c t i)
  · exact (congrFun (outB m c t h) i).trans ((pay2 _ _ _ i).trans (congrArg _ (pay1_blk m c t i)))
  · exact sum_tnPart 4 2048 _ _ _ _ rfl

theorem final : (dats m 0 c).arrAt 2 cfg0.N = fun i => tn 8192 (a0 m c) (a1 m c) (i 0).val (i 1).val := by
  refine (dats m 0 c).arrAt_eq_of_covers 2 _ (by decide +kernel) fun t hf y => ?_
  have hm := (flush0_2 t).mp hf
  blk_simp
  rw [after0_2, acc m c t hm]
  refine congrArg₂ (tn 8192 (a0 m c) (a1 m c)) ?_ ?_
  · blk_simp [(ix t).2.2]
  · blk_simp [(ix t).2.2]

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

theorem preserves : Cert.preserves_Kernel5_Kernel5Ideal := trivial

theorem algebraic : Cert.algebraic_Kernel5Ideal_Reference5Ideal := by
  intro m ρ m' ρ' _ hagree
  refine ⟨fun c => (dats m 0 c).arrAt 2 cfg0.N, Kernel5Ideal.Value.run_blocks m ρ, ?_⟩
  refine (θ_run Reference5Ideal.defs _ _).mono (fun _ h c => ?_) (Reference5Ideal.Value.run (F := Ideal) m' ρ')
  obtain ⟨g0, g1⟩ := hagree c
  refine ⟨(h c).1.trans ?_, (h c).2⟩
  rw [g0, g1]
  refine Eq.trans ?_ (final m c).symm
  funext i
  idx_vars i
  pointwise []
  exact tn_of (a0 m c) (a1 m c) i0 i1

end Cert.Prod5
end
-- ==== Proof.Prod6.lean ====
/-
  The input gradient of the feed-forward input projection: `g wᵀ` for one device's tokens, over the extended reals.
-/
module

public import proofs.«01_k».proof.Defs
public import proofs.«01_k».proof.Proof.Mat
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod6

open Idealize.ShloMosaic Idealize.ShloMosaic.TcCoe Idealize.SL.Sem
open Cert.Kernel6Ideal Cert.Kernel6Ideal.Gen Cert.Mat

variable (m : (ℓ : Loc nD τ sig) → Buf (Elt Ideal) ℓ) (c : Dev nD)

/-- The two arguments, as the launch found them. -/
abbrev a0 : S8192x11264.Idx → EReal := m ((c : Thread nD τ).loc main_arg0)
abbrev a1 : S2048x11264.Idx → EReal := m ((c : Thread nD τ).loc main_arg1)

/-- Each window's block index at a point: the grid is 8 × 2 × 4, the last coordinate running over the columns. -/
theorem ix : ∀ t : Fin cfg0.N, win0_0.index t = ![t.val / 4 / 2, t.val % 4] ∧ win0_1.index t = ![t.val / 4 % 2, t.val % 4]
    ∧ win0_2.index t = ![t.val / 4 / 2, t.val / 4 % 2] :=
  (by decide +kernel : ∀ t : Fin grid0.N, _)

theorem b0 (t : Fin cfg0.N) (i : S1024x2816.Idx) :
    iblk m c 0 t i = at2 (a0 m c) (t.val / 4 / 2 * 1024 + (i 0).val) (t.val % 4 * 2816 + (i 1).val) := by
  unfold a0
  rw [← V_main_arg0 m c]
  blk_simp [iblk]
  exact at2_of _ _ (by blk_simp [(ix t).1]) (by blk_simp [(ix t).1])

theorem b1 (t : Fin cfg0.N) (i : S1024x2816.Idx) :
    iblk m c 1 t i = at2 (a1 m c) (t.val / 4 % 2 * 1024 + (i 0).val) (t.val % 4 * 2816 + (i 1).val) := by
  unfold a1
  rw [← V_main_arg1 m c]
  blk_simp [iblk]
  exact at2_of _ _ (by blk_simp [(ix t).2.1]) (by blk_simp [(ix t).2.1])

/-- One point's product. -/
theorem pay1 (x y : S1024x2816.Idx → EReal) (i : S1024x1024.Idx) :
    k0_pay1 (F := Ideal) x y i = ∑ k : Fin 2816, x (ix2 (i 0) k) * y (ix2 (i 1) k) := by
  idx_vars i
  pointwise [k0_pay1]

theorem pay2 (x y : S1024x2816.Idx → EReal) (i : S1024x1024.Idx) :
    k0_pay2 (F := Ideal) x y i = k0_pay1 (F := Ideal) x y i := by
  idx_vars i
  pointwise [k0_pay2]

theorem pay3 (x y : S1024x2816.Idx → EReal) (z : S1024x1024.Idx → EReal) (i : S1024x1024.Idx) :
    k0_pay3 (F := Ideal) x y z i = z i + k0_pay1 (F := Ideal) x y i := by
  idx_vars i
  pointwise [k0_pay3]

theorem pay4 (z : S1024x1024.Idx → EReal) (i : S1024x1024.Idx) : k0_pay4 (F := Ideal) z i = z i := by
  idx_vars i
  pointwise [k0_pay4]

/-- The part of an entry that one block of columns contributes. -/
abbrev part (q r : ℕ) (i : S1024x1024.Idx) : EReal :=
  ntPart 2816 (a0 m c) (a1 m c) (q / 2 * 1024 + (i 0).val) (q % 2 * 1024 + (i 1).val) r

theorem pay1_blk (t : Fin cfg0.N) (i : S1024x1024.Idx) :
    k0_pay1 (F := Ideal) (iblk m c 0 t) (iblk m c 1 t) i = part m c (t.val / 4) (t.val % 4) i := by
  refine (pay1 _ _ i).trans (Finset.sum_congr rfl fun k _ => ?_)
  rw [b0, b1]
  rfl

/-- The accumulator after a run's first point, and after a later one. -/
theorem accA (t : Fin cfg0.N) (h : t.val % 4 = 0) :
    (outsAt0 m c t.val t.isLt).2 = k0_pay2 (F := Ideal) (iblk m c 0 t) (iblk m c 1 t) := by
  rw [outsAt0_A m c t h (by omega) (by omega)]
  frame_out

theorem accB (t : Fin cfg0.N) (h : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  by_cases h3 : t.val % 4 = 3
  · rw [outsAt0_C m c t h (by omega) h3]
    frame_out
    rw [read_unread_whole]
  · rw [outsAt0_B m c t h (by omega) h3]
    frame_out
    rw [read_unread_whole]

/-- A run's last point writes the accumulator out. -/
theorem outC (t : Fin cfg0.N) (h : t.val % 4 = 3) :
    (outsAt0 m c t.val t.isLt).1 = k0_pay4 (F := Ideal) (outsAt0 m c t.val t.isLt).2 := by
  rw [accB m c t (by omega), outsAt0_C m c t (by omega) (by omega) h]
  frame_out
  rw [read_unread_whole]

theorem acc (t : Fin cfg0.N) (h : t.val % 4 = 3) (i : S1024x1024.Idx) :
    (outsAt0 m c t.val t.isLt).1 i
      = nt 11264 (a0 m c) (a1 m c) (t.val / 4 / 2 * 1024 + (i 0).val) (t.val / 4 % 2 * 1024 + (i 1).val) := by
  rw [outC m c t h, pay4]
  refine (fold (fun n h => (outsAt0 m c n h).2) 4 (part m c) (fun t h i => ?_) (fun t h i => ?_) t h i).trans ?_
  · exact (congrFun (accA m c t h) i).trans ((pay2 _ _ i).trans (pay1_blk m c t i))
  · exact (congrFun (accB m c t h) i).trans ((pay3 _ _ _ i).trans (congrArg _ (pay1_blk m c t i)))
  · exact sum_ntPart 4 2816 _ _ _ _ rfl

theorem final : (dats m 0 c).arrAt 2 cfg0.N = fun i => nt 11264 (a0 m c) (a1 m c) (i 0).val (i 1).val := by
  refine (dats m 0 c).arrAt_eq_of_covers 2 _ (by decide +kernel) fun t hf y => ?_
  have hm := (flush0_2 t).mp hf
  blk_simp
  rw [after0_2, acc m c t hm]
  refine congrArg₂ (nt 11264 (a0 m c) (a1 m c)) ?_ ?_
  · blk_simp [(ix t).2.2]
  · blk_simp [(ix t).2.2]

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Reference6Ideal.defs _ _).mono (fun r h => ⟨fun c => (h c).2, sem_eq_zero_of_no_sems (by decide) r.2⟩)
    (Reference6Ideal.Value.run (F := Ideal) m ρ)

theorem preserves : Cert.preserves_Kernel6_Kernel6Ideal := trivial

theorem algebraic : Cert.algebraic_Kernel6Ideal_Reference6Ideal := by
  intro m ρ m' ρ' _ hagree
  refine ⟨fun c => (dats m 0 c).arrAt 2 cfg0.N, Kernel6Ideal.Value.run_blocks m ρ, ?_⟩
  refine (θ_run Reference6Ideal.defs _ _).mono (fun _ h c => ?_) (Reference6Ideal.Value.run (F := Ideal) m' ρ')
  obtain ⟨g0, g1⟩ := hagree c
  refine ⟨(h c).1.trans ?_, (h c).2⟩
  rw [g0, g1]
  refine Eq.trans ?_ (final m c).symm
  funext i
  idx_vars i
  pointwise []
  exact nt_of (a0 m c) (a1 m c) i0 i1

end Cert.Prod6
end
-- ==== Proof.Prod7.lean ====
/-
  The weight gradient of the feed-forward input projection: `xᵀ g` in one device's addend, over the extended reals.
-/
module

public import proofs.«01_k».proof.Defs
public import proofs.«01_k».proof.Proof.Mat
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod7

open Idealize.ShloMosaic Idealize.ShloMosaic.TcCoe Idealize.SL.Sem
open Cert.Kernel7Ideal Cert.Kernel7Ideal.Gen Cert.Mat

variable (m : (ℓ : Loc nD τ sig) → Buf (Elt Ideal) ℓ) (c : Dev nD)

/-- The two arguments, as the launch found them. -/
abbrev a0 : S8192x2048.Idx → EReal := m ((c : Thread nD τ).loc main_arg0)
abbrev a1 : S8192x11264.Idx → EReal := m ((c : Thread nD τ).loc main_arg1)

/-- Each window's block index at a point: the grid is 2 × 11 × 4, the last coordinate running over the tokens. -/
theorem ix : ∀ t : Fin cfg0.N, win0_0.index t = ![t.val % 4, t.val / 4 / 11] ∧ win0_1.index t = ![t.val % 4, t.val / 4 % 11]
    ∧ win0_2.index t = ![t.val / 4 / 11, t.val / 4 % 11] :=
  (by decide +kernel : ∀ t : Fin grid0.N, _)

theorem b0 (t : Fin cfg0.N) (i : S2048x1024.Idx) :
    iblk m c 0 t i = at2 (a0 m c) (t.val % 4 * 2048 + (i 0).val) (t.val / 4 / 11 * 1024 + (i 1).val) := by
  unfold a0
  rw [← V_main_arg0 m c]
  blk_simp [iblk]
  exact at2_of _ _ (by blk_simp [(ix t).1]) (by blk_simp [(ix t).1])

theorem b1 (t : Fin cfg0.N) (i : S2048x1024.Idx) :
    iblk m c 1 t i = at2 (a1 m c) (t.val % 4 * 2048 + (i 0).val) (t.val / 4 % 11 * 1024 + (i 1).val) := by
  unfold a1
  rw [← V_main_arg1 m c]
  blk_simp [iblk]
  exact at2_of _ _ (by blk_simp [(ix t).2.1]) (by blk_simp [(ix t).2.1])

/-- One point's product. -/
theorem pay1 (x y : S2048x1024.Idx → EReal) (i : S1024x1024.Idx) :
    k0_pay1 (F := Ideal) x y i = ∑ k : Fin 2048, x (ix2 k (i 0)) * y (ix2 k (i 1)) := by
  idx_vars i
  pointwise [k0_pay1]

theorem pay2 (x y : S2048x1024.Idx → EReal) (z : S1024x1024.Idx → EReal) (i : S1024x1024.Idx) :
    k0_pay2 (F := Ideal) x y z i = z i + k0_pay1 (F := Ideal) x y i := by
  idx_vars i
  pointwise [k0_pay2]

/-- The part of an entry that one block of tokens contributes. -/
abbrev part (q r : ℕ) (i : S1024x1024.Idx) : EReal :=
  tnPart 2048 (a0 m c) (a1 m c) (q / 11 * 1024 + (i 0).val) (q % 11 * 1024 + (i 1).val) r

theorem pay1_blk (t : Fin cfg0.N) (i : S1024x1024.Idx) :
    k0_pay1 (F := Ideal) (iblk m c 0 t) (iblk m c 1 t) i = part m c (t.val / 4) (t.val % 4) i := by
  refine (pay1 _ _ i).trans (Finset.sum_congr rfl fun k _ => ?_)
  rw [b0, b1]
  rfl

theorem outA (t : Fin cfg0.N) (h : t.val % 4 = 0) :
    outsAt0 m c t.val t.isLt = k0_pay1 (F := Ideal) (iblk m c 0 t) (iblk m c 1 t) := by
  rw [outsAt0_A m c t h (by omega)]
  frame_out

theorem outB (t : Fin cfg0.N) (h : ¬t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

theorem acc (t : Fin cfg0.N) (h : t.val % 4 = 3) (i : S1024x1024.Idx) :
    outsAt0 m c t.val t.isLt i
      = tn 8192 (a0 m c) (a1 m c) (t.val / 4 / 11 * 1024 + (i 0).val) (t.val / 4 % 11 * 1024 + (i 1).val) := by
  refine (fold (fun n h => outsAt0 m c n h) 4 (part m c) (fun t h i => ?_) (fun t h i => ?_) t h i).trans ?_
  · exact (congrFun (outA m c t h) i).trans (pay1_blk m c t i)
  · exact (congrFun (outB m c t h) i).trans ((pay2 _ _ _ i).trans (congrArg _ (pay1_blk m c t i)))
  · exact sum_tnPart 4 2048 _ _ _ _ rfl

theorem final : (dats m 0 c).arrAt 2 cfg0.N = fun i => tn 8192 (a0 m c) (a1 m c) (i 0).val (i 1).val := by
  refine (dats m 0 c).arrAt_eq_of_covers 2 _ (by decide +kernel) fun t hf y => ?_
  have hm := (flush0_2 t).mp hf
  blk_simp
  rw [after0_2, acc m c t hm]
  refine congrArg₂ (tn 8192 (a0 m c) (a1 m c)) ?_ ?_
  · blk_simp [(ix t).2.2]
  · blk_simp [(ix t).2.2]

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Reference7Ideal.defs _ _).mono (fun r h => ⟨fun c => (h c).2, sem_eq_zero_of_no_sems (by decide) r.2⟩)
    (Reference7Ideal.Value.run (F := Ideal) m ρ)

theorem preserves : Cert.preserves_Kernel7_Kernel7Ideal := trivial

theorem algebraic : Cert.algebraic_Kernel7Ideal_Reference7Ideal := by
  intro m ρ m' ρ' _ hagree
  refine ⟨fun c => (dats m 0 c).arrAt 2 cfg0.N, Kernel7Ideal.Value.run_blocks m ρ, ?_⟩
  refine (θ_run Reference7Ideal.defs _ _).mono (fun _ h c => ?_) (Reference7Ideal.Value.run (F := Ideal) m' ρ')
  obtain ⟨g0, g1⟩ := hagree c
  refine ⟨(h c).1.trans ?_, (h c).2⟩
  rw [g0, g1]
  refine Eq.trans ?_ (final m c).symm
  funext i
  idx_vars i
  pointwise []
  exact tn_of (a0 m c) (a1 m c) i0 i1

end Cert.Prod7
end
-- ==== Proof.Prod8.lean ====
/-
  The input gradient of the retention columns of the input projection: `g wᵀ` over those columns for one device's tokens, over the extended reals.
-/
module

public import proofs.«01_k».proof.Defs
public import proofs.«01_k».proof.Proof.Mat
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod8

open Idealize.ShloMosaic Idealize.ShloMosaic.TcCoe Idealize.SL.Sem
open Cert.Kernel8Ideal Cert.Kernel8Ideal.Gen Cert.Mat

variable (m : (ℓ : Loc nD τ sig) → Buf (Elt Ideal) ℓ) (c : Dev nD)

/-- The two arguments, as the launch found them. -/
abbrev a0 : S8192x6144.Idx → EReal := m ((c : Thread nD τ).loc main_arg0)
abbrev a1 : S2048x14336.Idx → EReal := m ((c : Thread nD τ).loc main_arg1)

/-- The weight's columns that this product reads. -/
abbrev aw : (⟨2, ![2048, 6144]⟩ : Shape).Idx → EReal := cols 0 6144 (a1 m c)

/-- Each window's block index at a point: the grid is 8 × 2 × 2, the last coordinate running over the columns. -/
theorem ix : ∀ t : Fin cfg0.N, win0_0.index t = ![t.val / 2 / 2, t.val % 2] ∧ win0_1.index t = ![t.val / 2 % 2, t.val % 2]
    ∧ win0_2.index t = ![t.val / 2 / 2, t.val / 2 % 2] :=
  (by decide +kernel : ∀ t : Fin grid0.N, _)

theorem b0 (t : Fin cfg0.N) (i : S1024x3072.Idx) :
    iblk m c 0 t i = at2 (a0 m c) (t.val / 2 / 2 * 1024 + (i 0).val) (t.val % 2 * 3072 + (i 1).val) := by
  unfold a0
  rw [← V_main_arg0 m c]
  blk_simp [iblk]
  exact at2_of _ _ (by blk_simp [(ix t).1]) (by blk_simp [(ix t).1])

/-- The second window's blocks do not tile its array, but none that the grid reaches is cut. -/
theorem b1 (t : Fin cfg0.N) (i : S1024x3072.Idx) :
    X0_1 m c t i = at2 (aw m c) (t.val / 2 % 2 * 1024 + (i 0).val) (t.val % 2 * 3072 + (i 1).val) := by
  have hi : (i 1).val < 3072 := (i 1).isLt
  rw [at2_cols _ _ _ _ (by omega), Nat.zero_add]
  unfold X0_1 Pipeline.Window.fill a1
  rw [dif_pos (moved0_1 t i), ← V_main_arg1 m c]
  blk_simp [iblk]
  exact at2_of _ _ (by blk_simp [(ix t).2.1]) (by blk_simp [(ix t).2.1])

/-- One point's product. -/
theorem pay1 (x y : S1024x3072.Idx → EReal) (i : S1024x1024.Idx) :
    k0_pay1 (F := Ideal) x y i = ∑ k : Fin 3072, x (ix2 (i 0) k) * y (ix2 (i 1) k) := by
  idx_vars i
  pointwise [k0_pay1]

theorem pay2 (x y : S1024x3072.Idx → EReal) (z : S1024x1024.Idx → EReal) (i : S1024x1024.Idx) :
    k0_pay2 (F := Ideal) x y z i = z i + k0_pay1 (F := Ideal) x y i := by
  idx_vars i
  pointwise [k0_pay2]

/-- The part of an entry that one block of columns contributes. -/
abbrev part (q r : ℕ) (i : S1024x1024.Idx) : EReal :=
  ntPart 3072 (a0 m c) (aw m c) (q / 2 * 1024 + (i 0).val) (q % 2 * 1024 + (i 1).val) r

theorem pay1_blk (t : Fin cfg0.N) (i : S1024x1024.Idx) :
    k0_pay1 (F := Ideal) (iblk m c 0 t) (X0_1 m c t) i = part m c (t.val / 2) (t.val % 2) i := by
  refine (pay1 _ _ i).trans (Finset.sum_congr rfl fun k _ => ?_)
  rw [b0, b1]
  rfl

theorem outA (t : Fin cfg0.N) (h : t.val % 2 = 0) :
    outsAt0 m c t.val t.isLt = k0_pay1 (F := Ideal) (iblk m c 0 t) (X0_1 m c t) := by
  rw [outsAt0_A m c t h (by omega)]
  frame_out

theorem outB (t : Fin cfg0.N) (h : ¬t.val % 2 = 0) :
    outsAt0 m c t.val t.isLt = k0_pay2 (F := Ideal) (iblk m c 0 t) (X0_1 m c t)
      (outsAt0 m c (t.val - 1) (Nat.lt_of_le_of_lt (Nat.sub_le _ _) t.isLt)) := by
  rw [outsAt0_B m c t h (by omega)]
  frame_out

theorem acc (t : Fin cfg0.N) (h : t.val % 2 = 1) (i : S1024x1024.Idx) :
    outsAt0 m c t.val t.isLt i
      = nt 6144 (a0 m c) (aw m c) (t.val / 2 / 2 * 1024 + (i 0).val) (t.val / 2 % 2 * 1024 + (i 1).val) := by
  refine (fold (fun n h => outsAt0 m c n h) 2 (part m c) (fun t h i => ?_) (fun t h i => ?_) t h i).trans ?_
  · exact (congrFun (outA m c t h) i).trans (pay1_blk m c t i)
  · exact (congrFun (outB m c t h) i).trans ((pay2 _ _ _ i).trans (congrArg _ (pay1_blk m c t i)))
  · exact sum_ntPart 2 3072 _ _ _ _ rfl

theorem final : (dats m 0 c).arrAt 2 cfg0.N = fun i => nt 6144 (a0 m c) (aw m c) (i 0).val (i 1).val := by
  refine (dats m 0 c).arrAt_eq_of_covers 2 _ (by decide +kernel) fun t hf y => ?_
  have hm := (flush0_2 t).mp hf
  blk_simp
  rw [after0_2, acc m c t hm]
  refine congrArg₂ (nt 6144 (a0 m c) (aw m c)) ?_ ?_
  · blk_simp [(ix t).2.2]
  · blk_simp [(ix t).2.2]

theorem frame_p : Cert.quiescent_Kernel8 := fun m ρ _ => Cert.Kernel8.Gen.frame m ρ

theorem frame_pi : Cert.quiescent_Kernel8Ideal := fun m ρ _ => Cert.Kernel8Ideal.Gen.frame m ρ

theorem frame_ri : Cert.quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

theorem preserves : Cert.preserves_Kernel8_Kernel8Ideal := trivial

theorem algebraic : Cert.algebraic_Kernel8Ideal_Reference8Ideal := by
  intro m ρ m' ρ' _ hagree
  refine ⟨fun c => (dats m 0 c).arrAt 2 cfg0.N, Kernel8Ideal.Value.run_blocks m ρ, ?_⟩
  refine (θ_run Reference8Ideal.defs _ _).mono (fun _ h c => ?_) (Reference8Ideal.Value.run (F := Ideal) m' ρ')
  obtain ⟨g0, g1⟩ := hagree c
  refine ⟨(h c).1.trans ?_, (h c).2⟩
  rw [g0, g1]
  refine Eq.trans ?_ (final m c).symm
  funext i
  idx_vars i
  pointwise []
  refine Eq.trans (Finset.sum_congr rfl fun k _ => ?_) (nt_of (a0 m c) (aw m c) i0 i1)
  exact congrArg₂ (· * ·) rfl (at2_of (a1 m c) _ rfl (Nat.zero_add _).symm)

end Cert.Prod8
end
-- ==== Proof.Prod9.lean ====
/-
  The input gradient of the tail columns of the input projection, added to the residual stream's: `dh + g wᵀ` for one device's tokens, over the extended reals.
-/
module

public import proofs.«01_k».proof.Defs
public import proofs.«01_k».proof.Proof.Mat
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod9

open Idealize.ShloMosaic Idealize.ShloMosaic.TcCoe Idealize.SL.Sem
open Cert.Kernel9Ideal Cert.Kernel9Ideal.Gen Cert.Mat

variable (m : (ℓ : Loc nD τ sig) → Buf (Elt Ideal) ℓ) (c : Dev nD)

/-- The three arguments, as the launch found them. -/
abbrev a0 : S8192x8192.Idx → EReal := m ((c : Thread nD τ).loc main_arg0)
abbrev a1 : S2048x14336.Idx → EReal := m ((c : Thread nD τ).loc main_arg1)
abbrev a2 : S8192x2048.Idx → EReal := m ((c : Thread nD τ).loc main_arg2)

/-- The weight's columns that this product reads. -/
abbrev aw : (⟨2, ![2048, 8192]⟩ : Shape).Idx → EReal := cols 6144 8192 (a1 m c)

/-- Each window's block index at a point: the grid is 8 × 2 × 4, the last coordinate running over the columns. -/
theorem ix : ∀ t : Fin cfg0.N, win0_0.index t = ![t.val / 4 / 2, t.val % 4] ∧ win0_1.index t = ![t.val / 4 % 2, 3 + t.val % 4]
    ∧ win0_2.index t = ![t.val / 4 / 2, t.val / 4 % 2] ∧ win0_3.index t = ![t.val / 4 / 2, t.val / 4 % 2] :=
  (by decide +kernel : ∀ t : Fin grid0.N, _)

theorem b0 (t : Fin cfg0.N) (i : S1024x2048.Idx) :
    iblk m c 0 t i = at2 (a0 m c) (t.val / 4 / 2 * 1024 + (i 0).val) (t.val % 4 * 2048 + (i 1).val) := by
  unfold a0
  rw [← V_main_arg0 m c]
  blk_simp [iblk]
  exact at2_of _ _ (by blk_simp [(ix t).1]) (by blk_simp [(ix t).1])

theorem b1 (t : Fin cfg0.N) (i : S1024x2048.Idx) :
    iblk m c 1 t i = at2 (aw m c) (t.val / 4 % 2 * 1024 + (i 0).val) (t.val % 4 * 2048 + (i 1).val) := by
  have hi : (i 1).val < 2048 := (i 1).isLt
  rw [at2_cols _ _ _ _ (by omega)]
  unfold a1
  rw [← V_main_arg1 m c]
  blk_simp [iblk]
  exact at2_of _ _ (by blk_simp [(ix t).2.1]) (by blk_simp [(ix t).2.1]; omega)

theorem b2 (t : Fin cfg0.N) (i : S1024x1024.Idx) :
    iblk m c 2 t i = at2 (a2 m c) (t.val / 4 / 2 * 1024 + (i 0).val) (t.val / 4 % 2 * 1024 + (i 1).val) := by
  unfold a2
  rw [← V_main_arg2 m c]
  blk_simp [iblk]
  exact at2_of _ _ (by blk_simp [(ix t).2.2.1]) (by blk_simp [(ix t).2.2.1])

/-- One point's product. -/
theorem pay1 (x y : S1024x2048.Idx → EReal) (i : S1024x1024.Idx) :
    k0_pay1 (F := Ideal) x y i = ∑ k : Fin 2048, x (ix2 (i 0) k) * y (ix2 (i 1) k) := by
  idx_vars i
  pointwise [k0_pay1]

theorem pay2 (x y : S1024x2048.Idx → EReal) (i : S1024x1024.Idx) :
    k0_pay2 (F := Ideal) x y i = k0_pay1 (F := Ideal) x y i := by
  idx_vars i
  pointwise [k0_pay2]

theorem pay3 (x y : S1024x2048.Idx → EReal) (z : S1024x1024.Idx → EReal) (i : S1024x1024.Idx) :
    k0_pay3 (F := Ideal) x y z i = z i + k0_pay1 (F := Ideal) x y i := by
  idx_vars i
  pointwise [k0_pay3]

theorem pay4 (z r : S1024x1024.Idx → EReal) (i : S1024x1024.Idx) : k0_pay4 (F := Ideal) z r i = z i + r i := by
  idx_vars i
  pointwise [k0_pay4]

/-- The part of an entry that one block of columns contributes. -/
abbrev part (q r : ℕ) (i : S1024x1024.Idx) : EReal :=
  ntPart 2048 (a0 m c) (aw m c) (q / 2 * 1024 + (i 0).val) (q % 2 * 1024 + (i 1).val) r

theorem pay1_blk (t : Fin cfg0.N) (i : S1024x1024.Idx) :
    k0_pay1 (F := Ideal) (iblk m c 0 t) (iblk m c 1 t) i = part m c (t.val / 4) (t.val % 4) i := by
  refine (pay1 _ _ i).trans (Finset.sum_congr rfl fun k _ => ?_)
  rw [b0, b1]
  rfl

/-- The accumulator after a run's first point, and after a later one. -/
theorem accA (t : Fin cfg0.N) (h : t.val % 4 = 0) :
    (outsAt0 m c t.val t.isLt).2 = k0_pay2 (F := Ideal) (iblk m c 0 t) (iblk m c 1 t) := by
  rw [outsAt0_A m c t h (by omega) (by omega)]
  frame_out

theorem accB (t : Fin cfg0.N) (h : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  by_cases h3 : t.val % 4 = 3
  · rw [outsAt0_C m c t h (by omega) h3]
    frame_out
    rw [read_unread_whole]
  · rw [outsAt0_B m c t h (by omega) h3]
    frame_out
    rw [read_unread_whole]

/-- A run's last point writes out the accumulator and the other addend. -/
theorem outC (t : Fin cfg0.N) (h : t.val % 4 = 3) :
    (outsAt0 m c t.val t.isLt).1 = k0_pay4 (F := Ideal) (outsAt0 m c t.val t.isLt).2 (iblk m c 2 t) := by
  rw [accB m c t (by omega), outsAt0_C m c t (by omega) (by omega) h]
  frame_out
  rw [read_unread_whole]

/-- An entry of the result. -/
abbrev res (i j : ℕ) : EReal := at2 (a2 m c) i j + nt 8192 (a0 m c) (aw m c) i j

theorem acc (t : Fin cfg0.N) (h : t.val % 4 = 3) (i : S1024x1024.Idx) :
    (outsAt0 m c t.val t.isLt).1 i = res m c (t.val / 4 / 2 * 1024 + (i 0).val) (t.val / 4 % 2 * 1024 + (i 1).val) := by
  rw [outC m c t h, pay4, b2, add_comm]
  refine congrArg₂ (· + ·) rfl ((fold (fun n h => (outsAt0 m c n h).2) 4 (part m c) (fun t h i => ?_) (fun t h i => ?_) t h i).trans ?_)
  · exact (congrFun (accA m c t h) i).trans ((pay2 _ _ i).trans (pay1_blk m c t i))
  · exact (congrFun (accB m c t h) i).trans ((pay3 _ _ _ i).trans (congrArg _ (pay1_blk m c t i)))
  · exact sum_ntPart 4 2048 _ _ _ _ rfl

theorem final : (dats m 0 c).arrAt 3 cfg0.N = fun i => res m c (i 0).val (i 1).val := by
  refine (dats m 0 c).arrAt_eq_of_covers 3 _ (by decide +kernel) fun t hf y => ?_
  have hm := (flush0_3 t).mp hf
  blk_simp
  rw [after0_3, acc m c t hm]
  refine congrArg₂ (res m c) ?_ ?_
  · blk_simp [(ix t).2.2.2]
  · blk_simp [(ix t).2.2.2]

theorem frame_p : Cert.quiescent_Kernel9 := fun m ρ _ => Cert.Kernel9.Gen.frame m ρ

theorem frame_pi : Cert.quiescent_Kernel9Ideal := fun m ρ _ => Cert.Kernel9Ideal.Gen.frame m ρ

theorem frame_ri : Cert.quiescent_Reference9Ideal := fun m ρ _ =>
  (θ_run Reference9Ideal.defs _ _).mono (fun r h => ⟨fun c => (h c).2, sem_eq_zero_of_no_sems (by decide) r.2⟩)
    (Reference9Ideal.Value.run (F := Ideal) m ρ)

theorem preserves : Cert.preserves_Kernel9_Kernel9Ideal := trivial

theorem algebraic : Cert.algebraic_Kernel9Ideal_Reference9Ideal := by
  intro m ρ m' ρ' _ hagree
  refine ⟨fun c => (dats m 0 c).arrAt 3 cfg0.N, Kernel9Ideal.Value.run_blocks m ρ, ?_⟩
  refine (θ_run Reference9Ideal.defs _ _).mono (fun _ h c => ?_) (Reference9Ideal.Value.run (F := Ideal) m' ρ')
  obtain ⟨g0, g1, g2⟩ := hagree c
  refine ⟨(h c).1.trans ?_, (h c).2⟩
  rw [g0, g1, g2]
  refine Eq.trans ?_ (final m c).symm
  funext i
  idx_vars i
  pointwise []
  refine congrArg₂ (· + ·) (at2_of (a2 m c) _ rfl rfl) (Eq.trans (Finset.sum_congr rfl fun k _ => ?_) (nt_of (a0 m c) (aw m c) i0 i1))
  exact congrArg₂ (· * ·) rfl (at2_of (a1 m c) _ rfl rfl)

end Cert.Prod9
end
-- ==== Proof.Prod10.lean ====
/-
  The weight gradient of the input projection's tail columns: `xᵀ g` in one device's addend, over the extended reals, written into
  those columns of an array whose other columns stay.
-/
module

public import proofs.«01_k».proof.Defs
public import proofs.«01_k».proof.Proof.Mat
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit.Geometry
public import Idealize.ShloMosaic.Lib.Pipeline.ValueKit.Partial
public import Idealize.ShloMosaic.Lib.StableHlo.ReadAt
public import Idealize.ShloMosaic.Lib.Pipeline.ReadBack
public import Idealize.ShloMosaic.Lib.Quiescent

@[expose] public section

set_option maxRecDepth 16384

noncomputable section

namespace Cert.Prod10

open Idealize.ShloMosaic Idealize.ShloMosaic.TcCoe Idealize.SL.Sem
open Cert.Kernel10Ideal Cert.Kernel10Ideal.Gen Cert.Mat

variable (m : (ℓ : Loc nD τ sig) → Buf (Elt Ideal) ℓ) (c : Dev nD)

/-- The three arguments, as the launch found them. -/
abbrev a0 : S8192x2048.Idx → EReal := m ((c : Thread nD τ).loc main_arg0)
abbrev a1 : S8192x8192.Idx → EReal := m ((c : Thread nD τ).loc main_arg1)
abbrev a2 : S2048x14336.Idx → EReal := m ((c : Thread nD τ).loc main_arg2)

/-- Each window's block index at a point: the grid is 2 × 8 × 4, the last coordinate running over the tokens. -/
theorem ix : ∀ t : Fin cfg0.N, win0_0.index t = ![t.val % 4, t.val / 4 / 8] ∧ win0_1.index t = ![t.val % 4, t.val / 4 % 8]
    ∧ win0_2.index t = ![t.val / 4 / 8, 6 + t.val / 4 % 8] :=
  (by decide +kernel : ∀ t : Fin grid0.N, _)

theorem b0 (t : Fin cfg0.N) (i : S2048x1024.Idx) :
    iblk m c 0 t i = at2 (a0 m c) (t.val % 4 * 2048 + (i 0).val) (t.val / 4 / 8 * 1024 + (i 1).val) := by
  unfold a0
  rw [← V_main_arg0 m c]
  blk_simp [iblk]
  exact at2_of _ _ (by blk_simp [(ix t).1]) (by blk_simp [(ix t).1])

theorem b1 (t : Fin cfg0.N) (i : S2048x1024.Idx) :
    iblk m c 1 t i = at2 (a1 m c) (t.val % 4 * 2048 + (i 0).val) (t.val / 4 % 8 * 1024 + (i 1).val) := by
  unfold a1
  rw [← V_main_arg1 m c]
  blk_simp [iblk]
  exact at2_of _ _ (by blk_simp [(ix t).2.1]) (by blk_simp [(ix t).2.1])

/-- One point's product. -/
theorem pay1 (x y : S2048x1024.Idx → EReal) (i : S1024x1024.Idx) :
    k0_pay1 (F := Ideal) x y i = ∑ k : Fin 2048, x (ix2 k (i 0)) * y (ix2 k (i 1)) := by
  idx_vars i
  pointwise [k0_pay1]

theorem pay2 (x y : S2048x1024.Idx → EReal) (z : S1024x1024.Idx → EReal) (i : S1024x1024.Idx) :
    k0_pay2 (F := Ideal) x y z i = z i + k0_pay1 (F := Ideal) x y i := by
  idx_vars i
  pointwise [k0_pay2]

/-- The part of an entry that one block of tokens contributes. -/
abbrev part (q r : ℕ) (i : S1024x1024.Idx) : EReal :=
  tnPart 2048 (a0 m c) (a1 m c) (q / 8 * 1024 + (i 0).val) (q % 8 * 1024 + (i 1).val) r

theorem pay1_blk (t : Fin cfg0.N) (i : S1024x1024.Idx) :
    k0_pay1 (F := Ideal) (iblk m c 0 t) (iblk m c 1 t) i = part m c (t.val / 4) (t.val % 4) i := by
  refine (pay1 _ _ i).trans (Finset.sum_congr rfl fun k _ => ?_)
  rw [b0, b1]
  rfl

theorem outA (t : Fin cfg0.N) (h : t.val % 4 = 0) :
    outsAt0 m c t.val t.isLt = k0_pay1 (F := Ideal) (iblk m c 0 t) (iblk m c 1 t) := by
  rw [outsAt0_A m c t h (by omega)]
  frame_out

theorem outB (t : Fin cfg0.N) (h : ¬t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

theorem acc (t : Fin cfg0.N) (h : t.val % 4 = 3) (i : S1024x1024.Idx) :
    outsAt0 m c t.val t.isLt i
      = tn 8192 (a0 m c) (a1 m c) (t.val / 4 / 8 * 1024 + (i 0).val) (t.val / 4 % 8 * 1024 + (i 1).val) := by
  refine (fold (fun n h => outsAt0 m c n h) 4 (part m c) (fun t h i => ?_) (fun t h i => ?_) t h i).trans ?_
  · exact (congrFun (outA m c t h) i).trans (pay1_blk m c t i)
  · exact (congrFun (outB m c t h) i).trans ((pay2 _ _ _ i).trans (congrArg _ (pay1_blk m c t i)))
  · exact sum_tnPart 4 2048 _ _ _ _ rfl

/-- An entry of the result: the product in the tail columns, the array's own entry before them. -/
def res (i j : ℕ) : EReal := if j < 6144 then at2 (a2 m c) i j else tn 8192 (a0 m c) (a1 m c) i (j - 6144)

theorem entry : V m c main_v0 = m ((c : Thread nD τ).loc main_arg2) := by
  unfold V
  after_reads_simp
  rfl

theorem final : (dats m 0 c).arrAt 2 cfg0.N = fun i => res m c (i 0).val (i 1).val := by
  refine (dats m 0 c).arrAt_eq_of_coversWhere_of_agree 2 _ (fun β => 6 ≤ β (1 : Fin 2)) (by decide +kernel) (fun t hf y => ?_)
    (fun j hj => ?_)
  · have hm := (flush0_2 t).mp hf
    blk_simp
    rw [after0_2, acc m c t hm]
    have e0 : win0_2.index t 0 = t.val / 4 / 8 := congrFun (ix t).2.2 0
    have e1 : win0_2.index t 1 = 6 + t.val / 4 % 8 := congrFun (ix t).2.2 1
    unfold res
    rw [e0, e1, if_neg (by omega)]
    exact congrArg₂ (tn 8192 (a0 m c) (a1 m c)) rfl (by omega)
  · blk_simp [Pipeline.Window.cell_apply] at hj
    have h6 : (j 1).val < 6144 := by omega
    refine (congrFun ((A_eq m c 2).trans (entry m c)) _).trans ?_
    unfold res
    exact (at2_of (a2 m c) _ rfl rfl).trans (if_pos h6).symm

theorem frame_p : Cert.quiescent_Kernel10 := fun m ρ _ => Cert.Kernel10.Gen.frame m ρ

theorem frame_pi : Cert.quiescent_Kernel10Ideal := fun m ρ _ => Cert.Kernel10Ideal.Gen.frame m ρ

theorem frame_ri : Cert.quiescent_Reference10Ideal := fun m ρ _ =>
  (θ_run Reference10Ideal.defs _ _).mono (fun r h => ⟨fun c => (h c).2, sem_eq_zero_of_no_sems (by decide) r.2⟩)
    (Reference10Ideal.Value.run (F := Ideal) m ρ)

theorem preserves : Cert.preserves_Kernel10_Kernel10Ideal := trivial

theorem algebraic : Cert.algebraic_Kernel10Ideal_Reference10Ideal := by
  intro m ρ m' ρ' _ hagree
  refine ⟨fun c => (dats m 0 c).arrAt 2 cfg0.N, Kernel10Ideal.Value.run_blocks m ρ, ?_⟩
  refine (θ_run Reference10Ideal.defs _ _).mono (fun _ h c => ?_) (Reference10Ideal.Value.run (F := Ideal) m' ρ')
  obtain ⟨g0, g1, g2⟩ := hagree c
  refine ⟨(h c).1.trans ?_, (h c).2⟩
  rw [g0, g1, g2]
  refine Eq.trans ?_ (final m c).symm
  funext i
  idx_vars i
  pointwise []
  unfold res
  by_cases h6 : i1.val < 6144
  · rw [dif_pos h6, if_pos h6]
    exact at2_of (a2 m c) _ rfl rfl
  · rw [dif_neg h6, if_neg h6]
    exact tn_of (a0 m c) (a1 m c) i0 ⟨i1.val - 6144, by omega⟩

end Cert.Prod10
end
-- ==== Proof.Gate.lean ====
/-
  The logistic function over the extended reals, and the gradient of the gated product `x * logistic x * y`.
-/
module

public import proofs.«01_k».proof.Proof.Lift
public import Idealize.ShloMosaic.Lib.Pointwise

@[expose] public section

noncomputable section

namespace Cert.Gate

open Idealize.ShloMosaic

/-- The logistic function. -/
def sg (x : EReal) : EReal := Ideal.div 1 (1 + Ideal.exp (-x))

/-- The same with the negation written as a difference from zero. -/
theorem sg_sub (x : EReal) : Ideal.div 1 (1 + Ideal.exp (0 - x)) = sg x := by
  unfold sg
  rw [zero_sub]

theorem sg_real (x : ℝ) : sg (x : EReal) = ((1 / (1 + Real.exp (-x)) : ℝ) : EReal) := by
  have h : (1 : ℝ) + Real.exp (-x) ≠ 0 := (by positivity : (0 : ℝ) < 1 + Real.exp (-x)).ne'
  rw [← Lift.div_real 1 _ h]
  rfl

theorem sg_top : sg ⊤ = 1 := by
  have e : Ideal.exp (-⊤) = 0 := by
    rw [EReal.neg_top]
    rfl
  unfold sg
  rw [e, add_zero, ← EReal.coe_one, Lift.div_real 1 1 one_ne_zero, div_one]

theorem sg_bot : sg ⊥ = 0 := by
  have e : Ideal.exp (-⊥) = ⊤ := by
    rw [EReal.neg_bot]
    rfl
  unfold sg Ideal.div
  rw [e, ← EReal.coe_one, EReal.coe_add_top, if_neg (by simp), EReal.inv_top, mul_zero]

/-- The gradient in the gate's argument `a`, from the incoming gradient `f` and the other factor `c`: the closed form. -/
def dA (a c f : EReal) : EReal := f * c * sg a * (1 + a * (1 - sg a))

/-- The gradient in the other factor. -/
def dC (a f : EReal) : EReal := f * a * sg a

theorem dC_chain (a f : EReal) : a * sg a * f = dC a f := by
  unfold dC
  rw [mul_comm, ← mul_assoc]

/-- The chain rule's two terms add to the closed form when the incoming gradient and the other factor are real, whatever the
    gate's argument. -/
theorem dA_chain (a c f : EReal) (hc : c = ((EReal.toReal c : ℝ) : EReal)) (hf : f = ((EReal.toReal f : ℝ) : EReal)) :
    f * c * sg a + a * (f * c) * (sg a * (1 - sg a)) = dA a c f := by
  unfold dA
  have h0 : (1 : EReal) - 1 = 0 := by rw [← EReal.coe_one, ← EReal.coe_sub, sub_self, EReal.coe_zero]
  rw [hc, hf, ← EReal.coe_mul]
  induction a with
  | bot => rw [sg_bot, mul_zero, zero_mul, zero_mul, mul_zero, add_zero]
  | top => rw [sg_top, h0, mul_zero, mul_zero, mul_zero, add_zero, add_zero, mul_one, mul_one]
  | coe r =>
    rw [sg_real, ← EReal.coe_one]
    simp only [← EReal.coe_mul, ← EReal.coe_sub, ← EReal.coe_add]
    refine congrArg _ ?_
    ring

end Cert.Gate
end
-- ==== Proof.Prod11.lean ====
/-
  The gradient of the channel mixer's gated product, over the extended reals.
-/
module

public import proofs.«01_k».proof.Defs
public import proofs.«01_k».proof.Proof.Mat
public import proofs.«01_k».proof.Proof.Gate
public import proofs.«01_k».proof.Proof.Args
public import proofs.«01_k».proof.Proof.KVal
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

/-- The shapes of the finiteness predicate's operations fit. -/
instance Cert.preFacts11 : Cert.Pre_finite11.Facts where
  bcast_S_S8192x5632 := by decide

namespace Cert.Prod11

open Idealize.ShloMosaic Idealize.ShloMosaic.TcCoe Idealize.SL.Sem
open Cert.Kernel11Ideal Cert.Kernel11Ideal.Gen Cert.Mat Cert.Gate

variable (m : (ℓ : Loc nD τ sig) → Buf (Elt Ideal) ℓ) (c : Dev nD)

/-- The three arguments, as the launch found them: the gate's argument, the other factor, and the incoming gradient. -/
abbrev a0 : S8192x5632.Idx → EReal := m ((c : Thread nD τ).loc main_arg0)
abbrev a1 : S8192x5632.Idx → EReal := m ((c : Thread nD τ).loc main_arg1)
abbrev a2 : S8192x5632.Idx → EReal := m ((c : Thread nD τ).loc main_arg2)

/-- An entry of the result: the gate's gradient in the first 5632 columns, the other factor's in the rest. -/
def res (i j : ℕ) : EReal :=
  if j < 5632 then dA (at2 (a0 m c) i j) (at2 (a1 m c) i j) (at2 (a2 m c) i j)
  else dC (at2 (a0 m c) i (j - 5632)) (at2 (a2 m c) i (j - 5632))

/-- Each window's block index at a point: 32 blocks of 256 rows. -/
theorem ix : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)

theorem b0 (t : Fin cfg0.N) (i : S256x5632.Idx) :
    iblk m c 0 t i = at2 (a0 m c) (t.val * 256 + (i 0).val) (i 1).val := by
  unfold a0
  rw [← V_main_arg0 m c]
  blk_simp [iblk]
  exact at2_of _ _ (by blk_simp [(ix t).1]) (by blk_simp [(ix t).1])

theorem b1 (t : Fin cfg0.N) (i : S256x5632.Idx) :
    iblk m c 1 t i = at2 (a1 m c) (t.val * 256 + (i 0).val) (i 1).val := by
  unfold a1
  rw [← V_main_arg1 m c]
  blk_simp [iblk]
  exact at2_of _ _ (by blk_simp [(ix t).2.1]) (by blk_simp [(ix t).2.1])

theorem b2 (t : Fin cfg0.N) (i : S256x5632.Idx) :
    iblk m c 2 t i = at2 (a2 m c) (t.val * 256 + (i 0).val) (i 1).val := by
  unfold a2
  rw [← V_main_arg2 m c]
  blk_simp [iblk]
  exact at2_of _ _ (by blk_simp [(ix t).2.2.1]) (by blk_simp [(ix t).2.2.1])

theorem pay4 (x y z : S256x5632.Idx → EReal) (i : S256x5632.Idx) :
    k0_pay4 (F := Ideal) x z y i = dA (x i) (y i) (z i) := by
  idx_vars i
  pointwise [k0_pay4, k0_pay3, k0_pay2, k0_pay1]
  rw [sg_sub]
  rfl

theorem pay5 (x z : S256x5632.Idx → EReal) (i : S256x5632.Idx) :
    k0_pay5 (F := Ideal) x z i = dC (x i) (z i) := by
  idx_vars i
  pointwise [k0_pay5, k0_pay3, k0_pay2, k0_pay1]
  rw [sg_sub]
  rfl

theorem ld_all (x : S256x5632.Idx → EReal) : View.ld (Val := Elt Ideal) (e' := EltTy.bf16) x r0_0 = x :=
  funext fun j => View.ld_unit_apply_of (Val := Elt Ideal) (e := EltTy.bf16) x _ _ inb_S256x5632_S256x5632_0_0 j j
    (Fin.forall_fin_two.2 ⟨(Nat.zero_add _).symm, (Nat.zero_add _).symm⟩)

/-- The block a point leaves. -/
abbrev blk (t : ℕ) (i : S256x11264.Idx) : EReal := res m c (t * 256 + (i 0).val) (i 1).val

theorem piece4 (t : Fin cfg0.N) (x : S256x5632.Idx) :
    k0_pay4 (F := Ideal) (iblk m c 0 t) (iblk m c 2 t) (iblk m c 1 t) x = blk m c t.val (r0_1.emb x) := by
  have e0 : ((r0_1.emb x) 0).val = 0 + (x 0).val := ValueKit.rect_emb_unit_val _ _ _ _ _
  have e1 : ((r0_1.emb x) 1).val = 0 + (x 1).val := ValueKit.rect_emb_unit_val _ _ _ _ _
  have h1 : (x 1).val < 5632 := (x 1).isLt
  rw [pay4, b0, b1, b2]
  unfold blk res
  rw [e0, e1, Nat.zero_add, Nat.zero_add, if_pos h1]

theorem piece5 (t : Fin cfg0.N) (x : S256x5632.Idx) :
    k0_pay5 (F := Ideal) (iblk m c 0 t) (iblk m c 2 t) x = blk m c t.val (r0_2.emb x) := by
  have e0 : ((r0_2.emb x) 0).val = 0 + (x 0).val := ValueKit.rect_emb_unit_val _ _ _ _ _
  have e1 : ((r0_2.emb x) 1).val = 5632 + (x 1).val := ValueKit.rect_emb_unit_val _ _ _ _ _
  rw [pay5, b0, b2]
  unfold blk res
  rw [e0, e1, Nat.zero_add, if_neg (by omega), Nat.add_sub_cancel_left]

theorem out (t : Fin cfg0.N) : out0_3 (F := Ideal) (iblk m c 0 t) (iblk m c 1 t) (iblk m c 2 t) = blk m c t.val := by
  unfold out0_3
  rw [ld_all, ld_all, ld_all]
  exact KVal.canon_eq (Val := Elt Ideal) (S := S256x11264) (e := EltTy.bf16) (blk m c t.val) _
    ⟨piece5 m c t, piece4 m c t, trivial⟩ (cover0_3 _ _)

theorem final : (dats m 0 c).arrAt 3 cfg0.N = fun i => res m c (i 0).val (i 1).val := by
  refine (dats m 0 c).arrAt_eq_of_covers 3 _ (by decide +kernel) fun t hf y => ?_
  blk_simp
  rw [after0_3, out m c t]
  refine congrArg₂ (res m c) ?_ ?_
  · blk_simp [(ix t).2.2.2]
  · blk_simp [(ix t).2.2.2]

theorem frame_p : Cert.quiescent_Kernel11 := fun m ρ _ => Cert.Kernel11.Gen.frame m ρ

theorem frame_pi : Cert.quiescent_Kernel11Ideal := fun m ρ _ => Cert.Kernel11Ideal.Gen.frame m ρ

theorem frame_ri : Cert.quiescent_Reference11Ideal := fun m ρ _ =>
  (θ_run Reference11Ideal.defs _ _).mono (fun r h => ⟨fun c => (h c).2, sem_eq_zero_of_no_sems (by decide) r.2⟩)
    (Reference11Ideal.Value.run (F := Ideal) m ρ)

theorem frame_pi_pre : Cert.quiescent_Kernel11Ideal_pre_finite11 := fun m ρ _ => Cert.Kernel11Ideal.Gen.frame m ρ

theorem frame_ri_pre : Cert.quiescent_Reference11Ideal_pre_finite11 := fun m ρ _ => frame_ri m ρ trivial

theorem preserves : Cert.preserves_Kernel11_Kernel11Ideal := trivial

theorem algebraic : Cert.algebraic_Kernel11Ideal_Reference11Ideal_pre_finite11 := by
  intro m ρ m' ρ' hpre hagree
  refine ⟨fun c => (dats m 0 c).arrAt 3 cfg0.N, Kernel11Ideal.Value.run_blocks m ρ, ?_⟩
  refine (θ_run Reference11Ideal.defs _ _).mono (fun _ h c => ?_) (Reference11Ideal.Value.run (F := Ideal) m' ρ')
  obtain ⟨g0, g1, g2⟩ := hagree c
  obtain ⟨h1, h2⟩ := hpre c
  have r1 : ∀ i, a1 m c i = ((EReal.toReal (a1 m c i) : ℝ) : EReal) :=
    fun i => Args.real_of_lt_inf (φ := .bf16) _ _ Args.top16 (congrFun h1 i)
  have r2 : ∀ i, a2 m c i = ((EReal.toReal (a2 m c i) : ℝ) : EReal) :=
    fun i => Args.real_of_lt_inf (φ := .bf16) _ _ Args.top16 (congrFun h2 i)
  refine ⟨(h c).1.trans ?_, (h c).2⟩
  rw [g0, g1, g2]
  refine Eq.trans ?_ (final m c).symm
  funext i
  idx_vars i
  pointwise []
  unfold res
  by_cases h6 : i1.val < 5632
  · rw [dif_pos h6, if_pos h6]
    refine (dA_chain (a0 m c _) _ _ (r1 _) (r2 _)).trans ?_
    rw [at2_of (a0 m c) _ rfl rfl, at2_of (a1 m c) _ rfl rfl, at2_of (a2 m c) _ rfl rfl]
    rfl
  · rw [dif_neg h6, if_neg h6]
    refine (dC_chain (a0 m c _) _).trans ?_
    exact congrArg₂ dC (at2_of (a0 m c) _ rfl rfl) (at2_of (a2 m c) _ rfl rfl)

end Cert.Prod11
end
-- ==== Proof.Prod12.lean ====
/-
  The gradient of the merge of the two mixers' gated outputs, over the extended reals.
-/
module

public import proofs.«01_k».proof.Defs
public import proofs.«01_k».proof.Proof.Mat
public import proofs.«01_k».proof.Proof.Gate
public import proofs.«01_k».proof.Proof.KVal
public import proofs.«01_k».proof.Proof.Gen.Kernel12.Frame
public import proofs.«01_k».proof.Proof.Gen.Kernel12Ideal.Frame
public import proofs.«01_k».proof.Proof.Gen.Reference12Ideal.Run
public import Idealize.ShloMosaic.Lib.Pipeline.ValueKit.Geometry
public import Idealize.ShloMosaic.Lib.Pipeline.ReadBack
public import Idealize.ShloMosaic.Lib.Pipeline.ValueKit.Partial
public import Idealize.ShloMosaic.Lib.Quiescent

@[expose] public section

set_option maxRecDepth 16384

noncomputable section

namespace Cert.Prod12

open Idealize.ShloMosaic Idealize.ShloMosaic.TcCoe Idealize.SL.Sem
open Cert.Kernel12Ideal Cert.Kernel12Ideal.Gen Cert.Mat Cert.Gate

variable (m : (ℓ : Loc nD τ sig) → Buf (Elt Ideal) ℓ) (c : Dev nD)

/-- The four arguments, as the launch found them: the incoming gradient, the two mixers' outputs, and the input projection,
    whose columns from 10240 and from 12288 on are the two gates. -/
abbrev a0 : S8192x2048.Idx → EReal := m ((c : Thread nD τ).loc main_arg0)
abbrev a1 : S8192x2048.Idx → EReal := m ((c : Thread nD τ).loc main_arg1)
abbrev a2 : S8192x2048.Idx → EReal := m ((c : Thread nD τ).loc main_arg2)
abbrev a3 : S8192x14336.Idx → EReal := m ((c : Thread nD τ).loc main_arg3)

/-- The gradient in a mixer's output, from the incoming gradient `f` and the gate `g`. -/
def dO (f g : EReal) : EReal := f * sg g

/-- The gradient in a gate `g` of the output `o`. -/
def dG (f o g : EReal) : EReal := f * o * sg g * (1 - sg g)

/-- An entry of the gates' gradient: the first gate's in the first 2048 columns, the second's in the rest. -/
def res (i j : ℕ) : EReal :=
  if j < 2048 then dG (at2 (a0 m c) i j) (at2 (a1 m c) i j) (at2 (a3 m c) i (10240 + j))
  else dG (at2 (a0 m c) i (j - 2048)) (at2 (a2 m c) i (j - 2048)) (at2 (a3 m c) i (12288 + (j - 2048)))

/-! Each window's block index at a point: 32 blocks of 256 rows. -/

theorem wx0 : ∀ t : Fin cfg0.N, win0_0.index t = ![t.val, 0] := (by decide +kernel : ∀ t : Fin grid0.N, _)
theorem wx1 : ∀ t : Fin cfg0.N, win0_1.index t = ![t.val, 0] := (by decide +kernel : ∀ t : Fin grid0.N, _)
theorem wx2 : ∀ t : Fin cfg0.N, win0_2.index t = ![t.val, 0] := (by decide +kernel : ∀ t : Fin grid0.N, _)
theorem wx3 : ∀ t : Fin cfg0.N, win0_3.index t = ![t.val, 5] := (by decide +kernel : ∀ t : Fin grid0.N, _)
theorem wx4 : ∀ t : Fin cfg0.N, win0_4.index t = ![t.val, 6] := (by decide +kernel : ∀ t : Fin grid0.N, _)
theorem wx5 : ∀ t : Fin cfg0.N, win0_5.index t = ![t.val, 0] := (by decide +kernel : ∀ t : Fin grid0.N, _)
theorem wx6 : ∀ t : Fin cfg0.N, win0_6.index t = ![t.val, 0] := (by decide +kernel : ∀ t : Fin grid0.N, _)
theorem wx7 : ∀ t : Fin cfg0.N, win0_7.index t = ![t.val, 1] := (by decide +kernel : ∀ t : Fin grid0.N, _)

theorem b0 (t : Fin cfg0.N) (i : S256x2048.Idx) :
    iblk m c 0 t i = at2 (a0 m c) (t.val * 256 + (i 0).val) ((i 1).val) := by
  unfold a0
  rw [← V_main_arg0 m c]
  blk_simp [iblk]
  exact at2_of _ _ (by blk_simp [wx0 t]) (by blk_simp [wx0 t])

theorem b1 (t : Fin cfg0.N) (i : S256x2048.Idx) :
    iblk m c 1 t i = at2 (a1 m c) (t.val * 256 + (i 0).val) ((i 1).val) := by
  unfold a1
  rw [← V_main_arg1 m c]
  blk_simp [iblk]
  exact at2_of _ _ (by blk_simp [wx1 t]) (by blk_simp [wx1 t])

theorem b2 (t : Fin cfg0.N) (i : S256x2048.Idx) :
    iblk m c 2 t i = at2 (a2 m c) (t.val * 256 + (i 0).val) ((i 1).val) := by
  unfold a2
  rw [← V_main_arg2 m c]
  blk_simp [iblk]
  exact at2_of _ _ (by blk_simp [wx2 t]) (by blk_simp [wx2 t])

theorem b3 (t : Fin cfg0.N) (i : S256x2048.Idx) :
    iblk m c 3 t i = at2 (a3 m c) (t.val * 256 + (i 0).val) (10240 + (i 1).val) := by
  unfold a3
  rw [← V_main_arg3 m c]
  blk_simp [iblk]
  exact at2_of _ _ (by blk_simp [wx3 t]) (by blk_simp [wx3 t])

theorem b4 (t : Fin cfg0.N) (i : S256x2048.Idx) :
    iblk m c 4 t i = at2 (a3 m c) (t.val * 256 + (i 0).val) (12288 + (i 1).val) := by
  unfold a3
  rw [← V_main_arg3 m c]
  blk_simp [iblk]
  exact at2_of _ _ (by blk_simp [wx4 t]) (by blk_simp [wx4 t])

theorem pay5 (x g : S256x2048.Idx → EReal) (i : S256x2048.Idx) : k0_pay5 (F := Ideal) x g i = dO (x i) (g i) := by
  idx_vars i
  pointwise [k0_pay5, k0_pay3, k0_pay2]
  rw [sg_sub]
  rfl

theorem pay6 (x g : S256x2048.Idx → EReal) (i : S256x2048.Idx) : k0_pay6 (F := Ideal) x g i = dO (x i) (g i) := by
  idx_vars i
  pointwise [k0_pay6, k0_pay4, k0_pay2]
  rw [sg_sub]
  rfl

theorem pay7 (x g o : S256x2048.Idx → EReal) (i : S256x2048.Idx) :
    k0_pay7 (F := Ideal) x g o i = dG (x i) (o i) (g i) := by
  idx_vars i
  pointwise [k0_pay7, k0_pay3, k0_pay2]
  rw [sg_sub]
  rfl

theorem pay1 (x g o : S256x2048.Idx → EReal) (i : S256x2048.Idx) :
    k0_pay1 (F := Ideal) (k0_pay2 (F := Ideal) x) (k0_pay4 (F := Ideal) g) o i = dG (x i) (o i) (g i) := by
  idx_vars i
  pointwise [k0_pay1, k0_pay4, k0_pay2]
  rw [sg_sub]
  rfl

theorem ld_all (x : S256x2048.Idx → EReal) : View.ld (Val := Elt Ideal) (e' := EltTy.bf16) x r0_0 = x :=
  funext fun j => View.ld_unit_apply_of (Val := Elt Ideal) (e := EltTy.bf16) x _ _ inb_S256x2048_S256x2048_0_0 j j
    (Fin.forall_fin_two.2 ⟨(Nat.zero_add _).symm, (Nat.zero_add _).symm⟩)

/-- The block of the gates' gradient that a point leaves. -/
abbrev blk (t : ℕ) (i : S256x4096.Idx) : EReal := res m c (t * 256 + (i 0).val) (i 1).val

theorem piece7 (t : Fin cfg0.N) (x : S256x2048.Idx) :
    k0_pay7 (F := Ideal) (iblk m c 0 t) (iblk m c 3 t) (iblk m c 1 t) x = blk m c t.val (r0_1.emb x) := by
  have e0 : ((r0_1.emb x) 0).val = 0 + (x 0).val := ValueKit.rect_emb_unit_val _ _ _ _ _
  have e1 : ((r0_1.emb x) 1).val = 0 + (x 1).val := ValueKit.rect_emb_unit_val _ _ _ _ _
  have h1 : (x 1).val < 2048 := (x 1).isLt
  rw [pay7, b0, b1, b3]
  unfold blk res
  rw [e0, e1, Nat.zero_add, Nat.zero_add, if_pos h1]

theorem piece1 (t : Fin cfg0.N) (x : S256x2048.Idx) :
    k0_pay1 (F := Ideal) (k0_pay2 (F := Ideal) (iblk m c 0 t)) (k0_pay4 (F := Ideal) (iblk m c 4 t)) (iblk m c 2 t) x
      = blk m c t.val (r0_2.emb x) := by
  have e0 : ((r0_2.emb x) 0).val = 0 + (x 0).val := ValueKit.rect_emb_unit_val _ _ _ _ _
  have e1 : ((r0_2.emb x) 1).val = 2048 + (x 1).val := ValueKit.rect_emb_unit_val _ _ _ _ _
  rw [pay1, b0, b2, b4]
  unfold blk res
  rw [e0, e1, Nat.zero_add, if_neg (by omega), Nat.add_sub_cancel_left]

theorem canon_whole (p : S256x2048.Idx → EReal) :
    View.canon (Val := Elt Ideal) (e := EltTy.bf16) [⟨r0_0, p⟩] = p :=
  KVal.canon_eq (Val := Elt Ideal) (S := S256x2048) (e := EltTy.bf16) p _
    ⟨fun x => congrArg p (funext (Fin.forall_fin_two.2
      ⟨Fin.ext (((ValueKit.rect_emb_unit_val _ _ _ _ _ : ((r0_0.emb x) 0).val = 0 + (x 0).val).trans (Nat.zero_add _)).symm),
       Fin.ext (((ValueKit.rect_emb_unit_val _ _ _ _ _ : ((r0_0.emb x) 1).val = 0 + (x 1).val).trans (Nat.zero_add _)).symm)⟩)),
     trivial⟩ (cover0_5 (F := Ideal) p)

theorem out5 (t : Fin cfg0.N) :
    out0_5 (F := Ideal) (iblk m c 0 t) (iblk m c 1 t) (iblk m c 2 t) (iblk m c 3 t) (iblk m c 4 t)
      = k0_pay5 (F := Ideal) (iblk m c 0 t) (iblk m c 3 t) := by
  unfold out0_5
  rw [ld_all, ld_all]
  exact canon_whole _

theorem out6 (t : Fin cfg0.N) :
    out0_6 (F := Ideal) (iblk m c 0 t) (iblk m c 1 t) (iblk m c 2 t) (iblk m c 3 t) (iblk m c 4 t)
      = k0_pay6 (F := Ideal) (iblk m c 0 t) (iblk m c 4 t) := by
  unfold out0_6
  rw [ld_all, ld_all]
  exact canon_whole _

theorem out7 (t : Fin cfg0.N) :
    out0_7 (F := Ideal) (iblk m c 0 t) (iblk m c 1 t) (iblk m c 2 t) (iblk m c 3 t) (iblk m c 4 t) = blk m c t.val := by
  unfold out0_7
  rw [ld_all, ld_all, ld_all, ld_all, ld_all]
  exact KVal.canon_eq (Val := Elt Ideal) (S := S256x4096) (e := EltTy.bf16) (blk m c t.val) _
    ⟨piece1 m c t, piece7 m c t, trivial⟩ (cover0_7 _ _)

theorem final5 : (dats m 0 c).arrAt 5 cfg0.N = fun i =>
    dO (at2 (a0 m c) (i 0).val (i 1).val) (at2 (a3 m c) (i 0).val (10240 + (i 1).val)) := by
  refine (dats m 0 c).arrAt_eq_of_covers 5 _ (by decide +kernel) fun t hf y => ?_
  blk_simp
  rw [after0_5, out5 m c t, pay5, b0, b3]
  have e0 : win0_5.index t 0 = t.val := congrFun (wx5 t) 0
  have e1 : win0_5.index t 1 = 0 := congrFun (wx5 t) 1
  rw [e0, e1, Nat.zero_mul, Nat.zero_add]

theorem final6 : (dats m 0 c).arrAt 6 cfg0.N = fun i =>
    dO (at2 (a0 m c) (i 0).val (i 1).val) (at2 (a3 m c) (i 0).val (12288 + (i 1).val)) := by
  refine (dats m 0 c).arrAt_eq_of_covers 6 _ (by decide +kernel) fun t hf y => ?_
  blk_simp
  rw [after0_6, out6 m c t, pay6, b0, b4]
  have e0 : win0_6.index t 0 = t.val := congrFun (wx6 t) 0
  have e1 : win0_6.index t 1 = 0 := congrFun (wx6 t) 1
  rw [e0, e1, Nat.zero_mul, Nat.zero_add]

/-- The third array the call writes: the gates' gradient in the last 4096 columns, and what it held before in the others. -/
theorem final7 : (dats m 0 c).arrAt 7 cfg0.N = fun i =>
    if 4096 ≤ (i 1).val then res m c (i 0).val ((i 1).val - 4096) else (dats m 0 c).A 7 i := by
  refine (dats m 0 c).arrAt_eq_of_coversWhere_of_agree 7 _ (fun β => β (1 : Fin 2) = 1) (by decide +kernel) (fun t hf y => ?_)
    (fun j hj => ?_)
  · blk_simp
    rw [after0_7, out7 m c t]
    have e0 : win0_7.index t 0 = t.val := congrFun (wx7 t) 0
    have e1 : win0_7.index t 1 = 1 := congrFun (wx7 t) 1
    rw [e0, e1, if_pos (by omega), Nat.one_mul, Nat.add_sub_cancel_left]
  · blk_simp [Pipeline.Window.cell_apply] at hj
    have b1 : (j 1).val < 8192 := (j 1).isLt
    have h6 : ¬ 4096 ≤ (j 1).val := by omega
    exact (if_neg h6).symm

/-- The arrays' contents seen at an array that only one window has. -/
theorem withArrays_alone {gr W : ℕ} (win : Fin W → Pipeline.WinSpec sig gr) (V : Valuation τ sig (Elt Ideal))
    (A : (w : Fin W) → Buf (Elt Ideal) ((win w).arr.view.loc (c.tc : Thread nD τ))) (w : Fin W)
    (hu : ∀ w', Pipeline.arrRef win w' = Pipeline.arrRef win w → w' = w) :
    Pipeline.withArrays win c V A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  have e : h.choose = w := hu _ (Proc.devRef_injective _ h.choose_spec)
  rw [dif_pos h]
  exact eq_of_heq ((cast_heq _ _).trans (congr_arg_heq A e))

/-- The columns that the program keeps are those the call writes. -/
theorem post (r : PUnit × MemSt nD τ sig (Elt Ideal))
    (h : Pipeline.FramePost cfgs (dats m) 0 (Pipeline.afterTail₀ cfgs (dats m) 0 (V0 m) [hostOps1]) r) :
    r.2.mem ((c : Thread nD τ).loc main_v1) = fun i : S8192x4096.Idx => res m c (i 0).val (i 1).val := by
  refine ((h c).2 main_v1 (by decide)).trans ?_
  unfold Pipeline.afterTail₀
  simp only [hostOps1, List.flatten_cons, List.flatten_nil, List.append_nil, StableHlo.after_cons, StableHlo.after_nil]
  rw [StableHlo.unary_result]
  have e := (withArrays_alone c (cfgs 0).spec (V0 m c) (fun w => (dats m 0 c).arrAt w (cfgs 0).N) 7 (by decide)).trans (final7 m c)
  refine (congrArg (fun X : S8192x8192.Idx → EReal =>
    extractStridedSlice S8192x4096 ![0, 4096] X slices_S8192x8192_S8192x4096_0_4096) e).trans ?_
  funext i
  idx_vars i
  pointwise []

theorem frame_p : Cert.quiescent_Kernel12 := fun m ρ _ => Cert.Kernel12.Gen.frame m ρ

theorem frame_pi : Cert.quiescent_Kernel12Ideal := fun m ρ _ => Cert.Kernel12Ideal.Gen.frame m ρ

theorem frame_ri : Cert.quiescent_Reference12Ideal := fun m ρ _ =>
  (θ_run Reference12Ideal.defs _ _).mono (fun r h => ⟨fun c => (h c).2.2.2, sem_eq_zero_of_no_sems (by decide) r.2⟩)
    (Reference12Ideal.Value.run (F := Ideal) m ρ)

theorem preserves : Cert.preserves_Kernel12_Kernel12Ideal := trivial

theorem algebraic : Cert.algebraic_Kernel12Ideal_Reference12Ideal := by
  intro m ρ m' ρ' _ hagree
  refine ⟨fun c => (dats m 0 c).arrAt 5 cfg0.N, fun c => (dats m 0 c).arrAt 6 cfg0.N,
    fun c i => res m c (i 0).val (i 1).val,
    (θ_run Kernel12Ideal.defs _ _).mono (fun r h c => ⟨(h.1 c).1 5, (h.1 c).1 6, post m c r h.1, h.2 c⟩)
      (θ_run_and (run_main m ρ) (unchanged m ρ)), ?_⟩
  refine (θ_run Reference12Ideal.defs _ _).mono (fun _ h c => ?_) (Reference12Ideal.Value.run (F := Ideal) m' ρ')
  obtain ⟨g0, g1, g2, g3⟩ := hagree c
  refine ⟨(h c).1.trans ?_, (h c).2.1.trans ?_, (h c).2.2.1.trans ?_, (h c).2.2.2⟩
  · rw [g0, g3]
    refine Eq.trans ?_ (final5 m c).symm
    funext i
    idx_vars i
    pointwise []
    refine (mul_comm (sg (a3 m c _)) (a0 m c _)).trans ?_
    exact congrArg₂ dO (at2_of (a0 m c) _ rfl rfl) (at2_of (a3 m c) _ rfl rfl)
  · rw [g0, g3]
    refine Eq.trans ?_ (final6 m c).symm
    funext i
    idx_vars i
    pointwise []
    refine (mul_comm (sg (a3 m c _)) (a0 m c _)).trans ?_
    exact congrArg₂ dO (at2_of (a0 m c) _ rfl rfl) (at2_of (a3 m c) _ rfl rfl)
  · rw [g0, g1, g2, g3]
    funext i
    idx_vars i
    pointwise []
    unfold res
    by_cases h6 : i1.val < 2048
    · rw [dif_pos h6, if_pos h6]
      refine (mul_assoc (a0 m c _ * a1 m c _) (sg (a3 m c _)) (1 - sg (a3 m c _))).symm.trans ?_
      rw [at2_of (a0 m c) _ rfl rfl, at2_of (a1 m c) _ rfl rfl, at2_of (a3 m c) _ rfl rfl]
      rfl
    · rw [dif_neg h6, if_neg h6]
      refine (mul_assoc (a0 m c _ * a2 m c _) (sg (a3 m c _)) (1 - sg (a3 m c _))).symm.trans ?_
      rw [at2_of (a0 m c) _ rfl rfl, at2_of (a2 m c) _ rfl rfl, at2_of (a3 m c) _ rfl rfl]
      rfl

end Cert.Prod12
end
-- ==== Proof.Prod13.lean ====
/-
  The channel mixer's first projection with the gated product computed in its epilogue, over the extended reals.
-/
module

public import proofs.«01_k».proof.Defs
public import proofs.«01_k».proof.Proof.Mat
public import proofs.«01_k».proof.Proof.Gate
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod13

open Idealize.ShloMosaic Idealize.ShloMosaic.TcCoe Idealize.SL.Sem
open Cert.Kernel13Ideal Cert.Kernel13Ideal.Gen Cert.Mat Cert.Gate

variable (m : (ℓ : Loc nD τ sig) → Buf (Elt Ideal) ℓ) (c : Dev nD)

/-- The two arguments, as the launch found them: the input, and the weight whose two halves of columns are the two branches. -/
abbrev a0 : S8192x2048.Idx → EReal := m ((c : Thread nD τ).loc main_arg0)
abbrev a1 : S2048x11264.Idx → EReal := m ((c : Thread nD τ).loc main_arg1)

/-- An entry of the product over all columns: the first branch's are the first 5632. -/
abbrev pr (i j : ℕ) : EReal := nn 2048 (a0 m c) (a1 m c) i j

/-- An entry of the gated result. -/
abbrev gated (i j : ℕ) : EReal := pr m c i j * sg (pr m c i j) * pr m c i (5632 + j)

/-- Each window's block index at a point: the grid is 8 × 11. -/
theorem ix : ∀ t : Fin cfg0.N, win0_0.index t = ![t.val / 11, 0] ∧ win0_1.index t = ![0, t.val % 11]
    ∧ win0_2.index t = ![0, 11 + t.val % 11] ∧ win0_3.index t = ![t.val / 11, t.val % 11]
    ∧ win0_4.index t = ![t.val / 11, t.val % 11] ∧ win0_5.index t = ![t.val / 11, t.val % 11] :=
  (by decide +kernel : ∀ t : Fin grid0.N, _)

theorem b0 (t : Fin cfg0.N) (i : S1024x2048.Idx) :
    iblk m c 0 t i = at2 (a0 m c) (t.val / 11 * 1024 + (i 0).val) (i 1).val := by
  unfold a0
  rw [← V_main_arg0 m c]
  blk_simp [iblk]
  exact at2_of _ _ (by blk_simp [(ix t).1]) (by blk_simp [(ix t).1])

theorem b1 (t : Fin cfg0.N) (i : S2048x512.Idx) :
    iblk m c 1 t i = at2 (a1 m c) (i 0).val (t.val % 11 * 512 + (i 1).val) := by
  unfold a1
  rw [← V_main_arg1 m c]
  blk_simp [iblk]
  exact at2_of _ _ (by blk_simp [(ix t).2.1]) (by blk_simp [(ix t).2.1])

theorem b2 (t : Fin cfg0.N) (i : S2048x512.Idx) :
    iblk m c 2 t i = at2 (a1 m c) (i 0).val (5632 + (t.val % 11 * 512 + (i 1).val)) := by
  unfold a1
  rw [← V_main_arg1 m c]
  blk_simp [iblk]
  exact at2_of _ _ (by blk_simp [(ix t).2.2.1]) (by blk_simp [(ix t).2.2.1]; omega)

/-- One point's two products. -/
theorem pay1 (x : S1024x2048.Idx → EReal) (y : S2048x512.Idx → EReal) (i : S1024x512.Idx) :
    k0_pay1 (F := Ideal) x y i = ∑ k : Fin 2048, x (ix2 (i 0) k) * y (ix2 k (i 1)) := by
  idx_vars i
  pointwise [k0_pay1]

theorem pay2 (x : S1024x2048.Idx → EReal) (y : S2048x512.Idx → EReal) (i : S1024x512.Idx) :
    k0_pay2 (F := Ideal) x y i = ∑ k : Fin 2048, x (ix2 (i 0) k) * y (ix2 k (i 1)) := by
  idx_vars i
  pointwise [k0_pay2]

theorem pay5 (x : S1024x2048.Idx → EReal) (y z : S2048x512.Idx → EReal) (i : S1024x512.Idx) :
    k0_pay5 (F := Ideal) x y z i
      = k0_pay1 (F := Ideal) x y i * sg (k0_pay1 (F := Ideal) x y i) * k0_pay2 (F := Ideal) x z i := by
  idx_vars i
  pointwise [k0_pay5]
  rw [sg_sub]

theorem pr1 (t : Fin cfg0.N) (i : S1024x512.Idx) :
    k0_pay1 (F := Ideal) (iblk m c 0 t) (iblk m c 1 t) i
      = pr m c (t.val / 11 * 1024 + (i 0).val) (t.val % 11 * 512 + (i 1).val) := by
  rw [pay1]
  unfold pr nn
  refine Finset.sum_congr rfl fun k _ => ?_
  rw [b0, b1]
  rfl

theorem pr2 (t : Fin cfg0.N) (i : S1024x512.Idx) :
    k0_pay2 (F := Ideal) (iblk m c 0 t) (iblk m c 2 t) i
      = pr m c (t.val / 11 * 1024 + (i 0).val) (5632 + (t.val % 11 * 512 + (i 1).val)) := by
  rw [pay2]
  unfold pr nn
  refine Finset.sum_congr rfl fun k _ => ?_
  rw [b0, b2]
  rfl

theorem out3 (t : Fin cfg0.N) (i : S1024x512.Idx) :
    out0_3 (F := Ideal) (iblk m c 0 t) (iblk m c 1 t) (iblk m c 2 t) i
      = pr m c (t.val / 11 * 1024 + (i 0).val) (t.val % 11 * 512 + (i 1).val) := by
  have e : out0_3 (F := Ideal) (iblk m c 0 t) (iblk m c 1 t) (iblk m c 2 t)
      = k0_pay3 (F := Ideal) (iblk m c 0 t) (iblk m c 1 t) := by
    frame_out
  rw [e]
  exact pr1 m c t i

theorem out4 (t : Fin cfg0.N) (i : S1024x512.Idx) :
    out0_4 (F := Ideal) (iblk m c 0 t) (iblk m c 1 t) (iblk m c 2 t) i
      = pr m c (t.val / 11 * 1024 + (i 0).val) (5632 + (t.val % 11 * 512 + (i 1).val)) := by
  have e : out0_4 (F := Ideal) (iblk m c 0 t) (iblk m c 1 t) (iblk m c 2 t)
      = k0_pay4 (F := Ideal) (iblk m c 0 t) (iblk m c 2 t) := by
    frame_out
  rw [e]
  exact pr2 m c t i

theorem out5 (t : Fin cfg0.N) (i : S1024x512.Idx) :
    out0_5 (F := Ideal) (iblk m c 0 t) (iblk m c 1 t) (iblk m c 2 t) i
      = gated m c (t.val / 11 * 1024 + (i 0).val) (t.val % 11 * 512 + (i 1).val) := by
  have e : out0_5 (F := Ideal) (iblk m c 0 t) (iblk m c 1 t) (iblk m c 2 t)
      = k0_pay5 (F := Ideal) (iblk m c 0 t) (iblk m c 1 t) (iblk m c 2 t) := by
    frame_out
  rw [e, pay5, pr1, pr2]

theorem final3 : (dats m 0 c).arrAt 3 cfg0.N = fun i => pr m c (i 0).val (i 1).val := by
  refine (dats m 0 c).arrAt_eq_of_covers 3 _ (by decide +kernel) fun t hf y => ?_
  blk_simp
  rw [after0_3, out3 m c t]
  refine congrArg₂ (pr m c) ?_ ?_
  · blk_simp [(ix t).2.2.2.1]
  · blk_simp [(ix t).2.2.2.1]

theorem final4 : (dats m 0 c).arrAt 4 cfg0.N = fun i => pr m c (i 0).val (5632 + (i 1).val) := by
  refine (dats m 0 c).arrAt_eq_of_covers 4 _ (by decide +kernel) fun t hf y => ?_
  blk_simp
  rw [after0_4, out4 m c t]
  refine congrArg₂ (pr m c) ?_ (congrArg₂ (· + ·) rfl ?_)
  · blk_simp [(ix t).2.2.2.2.1]
  · blk_simp [(ix t).2.2.2.2.1]

theorem final5 : (dats m 0 c).arrAt 5 cfg0.N = fun i => gated m c (i 0).val (i 1).val := by
  refine (dats m 0 c).arrAt_eq_of_covers 5 _ (by decide +kernel) fun t hf y => ?_
  blk_simp
  rw [after0_5, out5 m c t]
  refine congrArg₂ (gated m c) ?_ ?_
  · blk_simp [(ix t).2.2.2.2.2]
  · blk_simp [(ix t).2.2.2.2.2]

theorem frame_p : Cert.quiescent_Kernel13 := fun m ρ _ => Cert.Kernel13.Gen.frame m ρ

theorem frame_pi : Cert.quiescent_Kernel13Ideal := fun m ρ _ => Cert.Kernel13Ideal.Gen.frame m ρ

theorem frame_ri : Cert.quiescent_Reference13Ideal := fun m ρ _ =>
  (θ_run Reference13Ideal.defs _ _).mono (fun r h => ⟨fun c => (h c).2.2.2, sem_eq_zero_of_no_sems (by decide) r.2⟩)
    (Reference13Ideal.Value.run (F := Ideal) m ρ)

theorem preserves : Cert.preserves_Kernel13_Kernel13Ideal := trivial

theorem algebraic : Cert.algebraic_Kernel13Ideal_Reference13Ideal := by
  intro m ρ m' ρ' _ hagree
  refine ⟨fun c => (dats m 0 c).arrAt 3 cfg0.N, fun c => (dats m 0 c).arrAt 4 cfg0.N, fun c => (dats m 0 c).arrAt 5 cfg0.N,
    Kernel13Ideal.Value.run_blocks m ρ, ?_⟩
  refine (θ_run Reference13Ideal.defs _ _).mono (fun _ h c => ?_) (Reference13Ideal.Value.run (F := Ideal) m' ρ')
  obtain ⟨g0, g1⟩ := hagree c
  refine ⟨(h c).1.trans ?_, (h c).2.1.trans ?_, (h c).2.2.1.trans ?_, (h c).2.2.2⟩
  · rw [g0, g1]
    refine Eq.trans ?_ (final3 m c).symm
    funext i
    idx_vars i
    pointwise []
    exact nn_of (a0 m c) (a1 m c) _ _
  · rw [g0, g1]
    refine Eq.trans ?_ (final4 m c).symm
    funext i
    idx_vars i
    pointwise []
    exact nn_of (a0 m c) (a1 m c) _ _
  · rw [g0, g1]
    refine Eq.trans ?_ (final5 m c).symm
    funext i
    idx_vars i
    pointwise []
    have e1 := nn_of (a0 m c) (a1 m c) i0 ⟨i1.val, by omega⟩
    have e2 := nn_of (a0 m c) (a1 m c) i0 ⟨5632 + i1.val, by omega⟩
    exact congrArg₂ (· * ·) (congrArg₂ (· * ·) e1 (congrArg sg e1)) e2

end Cert.Prod13
end
-- ==== Proof.Prod14.lean ====
/-
  The gating unit's projection with the branches' merge computed in its epilogue, over the extended reals.
-/
module

public import proofs.«01_k».proof.Defs
public import proofs.«01_k».proof.Proof.Mat
public import proofs.«01_k».proof.Proof.Gate
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod14

open Idealize.ShloMosaic Idealize.ShloMosaic.TcCoe Idealize.SL.Sem
open Cert.Kernel14Ideal Cert.Kernel14Ideal.Gen Cert.Mat Cert.Gate

variable (m : (ℓ : Loc nD τ sig) → Buf (Elt Ideal) ℓ) (c : Dev nD)

/-- The four arguments, as the launch found them. -/
abbrev a0 : S8192x2048.Idx → EReal := m ((c : Thread nD τ).loc main_arg0)
abbrev a1 : S2048x2048.Idx → EReal := m ((c : Thread nD τ).loc main_arg1)
abbrev a2 : S8192x2048.Idx → EReal := m ((c : Thread nD τ).loc main_arg2)
abbrev a3 : S8192x14336.Idx → EReal := m ((c : Thread nD τ).loc main_arg3)

/-- An entry of the product. -/
abbrev pr (i j : ℕ) : EReal := nn 2048 (a0 m c) (a1 m c) i j

/-- An entry of the two branches' gated sum. -/
abbrev merged (i j : ℕ) : EReal :=
  sg (at2 (a3 m c) i (10240 + j)) * at2 (a2 m c) i j + sg (at2 (a3 m c) i (12288 + j)) * pr m c i j

/-- Each window's block index at a point: the grid is 8 × 2. -/
theorem ix : ∀ t : Fin cfg0.N, win0_0.index t = ![t.val / 2, 0] ∧ win0_1.index t = ![0, t.val % 2]
    ∧ win0_2.index t = ![t.val / 2, t.val % 2] ∧ win0_3.index t = ![t.val / 2, 10 + t.val % 2]
    ∧ win0_4.index t = ![t.val / 2, 12 + t.val % 2] ∧ win0_5.index t = ![t.val / 2, t.val % 2]
    ∧ win0_6.index t = ![t.val / 2, t.val % 2] :=
  (by decide +kernel : ∀ t : Fin grid0.N, _)

theorem b0 (t : Fin cfg0.N) (i : S1024x2048.Idx) :
    iblk m c 0 t i = at2 (a0 m c) (t.val / 2 * 1024 + (i 0).val) ((i 1).val) := by
  unfold a0
  rw [← V_main_arg0 m c]
  blk_simp [iblk]
  exact at2_of _ _ (by blk_simp [(ix t).1]) (by blk_simp [(ix t).1])

theorem b1 (t : Fin cfg0.N) (i : S2048x1024.Idx) :
    iblk m c 1 t i = at2 (a1 m c) ((i 0).val) (t.val % 2 * 1024 + (i 1).val) := by
  unfold a1
  rw [← V_main_arg1 m c]
  blk_simp [iblk]
  exact at2_of _ _ (by blk_simp [(ix t).2.1]) (by blk_simp [(ix t).2.1])

theorem b2 (t : Fin cfg0.N) (i : S1024x1024.Idx) :
    iblk m c 2 t i = at2 (a2 m c) (t.val / 2 * 1024 + (i 0).val) (t.val % 2 * 1024 + (i 1).val) := by
  unfold a2
  rw [← V_main_arg2 m c]
  blk_simp [iblk]
  exact at2_of _ _ (by blk_simp [(ix t).2.2.1]) (by blk_simp [(ix t).2.2.1])

theorem b3 (t : Fin cfg0.N) (i : S1024x1024.Idx) :
    iblk m c 3 t i = at2 (a3 m c) (t.val / 2 * 1024 + (i 0).val) (10240 + (t.val % 2 * 1024 + (i 1).val)) := by
  unfold a3
  rw [← V_main_arg3 m c]
  blk_simp [iblk]
  exact at2_of _ _ (by blk_simp [(ix t).2.2.2.1]) (by blk_simp [(ix t).2.2.2.1]; omega)

theorem b4 (t : Fin cfg0.N) (i : S1024x1024.Idx) :
    iblk m c 4 t i = at2 (a3 m c) (t.val / 2 * 1024 + (i 0).val) (12288 + (t.val % 2 * 1024 + (i 1).val)) := by
  unfold a3
  rw [← V_main_arg3 m c]
  blk_simp [iblk]
  exact at2_of _ _ (by blk_simp [(ix t).2.2.2.2.1]) (by blk_simp [(ix t).2.2.2.2.1]; omega)

/-- One point's product. -/
theorem pay1 (x : S1024x2048.Idx → EReal) (y : S2048x1024.Idx → EReal) (i : S1024x1024.Idx) :
    k0_pay1 (F := Ideal) x y i = ∑ k : Fin 2048, x (ix2 (i 0) k) * y (ix2 k (i 1)) := by
  idx_vars i
  pointwise [k0_pay1]

theorem pay3 (x : S1024x2048.Idx → EReal) (y : S2048x1024.Idx → EReal) (u v w : S1024x1024.Idx → EReal) (i : S1024x1024.Idx) :
    k0_pay3 (F := Ideal) x y u v w i = sg (u i) * v i + sg (w i) * k0_pay1 (F := Ideal) x y i := by
  idx_vars i
  pointwise [k0_pay3]
  rw [sg_sub, sg_sub]

theorem pr1 (t : Fin cfg0.N) (i : S1024x1024.Idx) :
    k0_pay1 (F := Ideal) (iblk m c 0 t) (iblk m c 1 t) i
      = pr m c (t.val / 2 * 1024 + (i 0).val) (t.val % 2 * 1024 + (i 1).val) := by
  rw [pay1]
  unfold pr nn
  refine Finset.sum_congr rfl fun k _ => ?_
  rw [b0, b1]
  rfl

theorem out5 (t : Fin cfg0.N) (i : S1024x1024.Idx) :
    out0_5 (F := Ideal) (iblk m c 0 t) (iblk m c 1 t) (iblk m c 2 t) (iblk m c 3 t) (iblk m c 4 t) i
      = pr m c (t.val / 2 * 1024 + (i 0).val) (t.val % 2 * 1024 + (i 1).val) := by
  have e : out0_5 (F := Ideal) (iblk m c 0 t) (iblk m c 1 t) (iblk m c 2 t) (iblk m c 3 t) (iblk m c 4 t)
      = k0_pay2 (F := Ideal) (iblk m c 0 t) (iblk m c 1 t) := by
    frame_out
  rw [e]
  exact pr1 m c t i

theorem out6 (t : Fin cfg0.N) (i : S1024x1024.Idx) :
    out0_6 (F := Ideal) (iblk m c 0 t) (iblk m c 1 t) (iblk m c 2 t) (iblk m c 3 t) (iblk m c 4 t) i
      = merged m c (t.val / 2 * 1024 + (i 0).val) (t.val % 2 * 1024 + (i 1).val) := by
  have e : out0_6 (F := Ideal) (iblk m c 0 t) (iblk m c 1 t) (iblk m c 2 t) (iblk m c 3 t) (iblk m c 4 t)
      = k0_pay3 (F := Ideal) (iblk m c 0 t) (iblk m c 1 t) (iblk m c 3 t) (iblk m c 2 t) (iblk m c 4 t) := by
    frame_out
  rw [e, pay3, pr1, b2, b3, b4]

theorem final5 : (dats m 0 c).arrAt 5 cfg0.N = fun i => pr m c (i 0).val (i 1).val := by
  refine (dats m 0 c).arrAt_eq_of_covers 5 _ (by decide +kernel) fun t hf y => ?_
  blk_simp
  rw [after0_5, out5 m c t]
  refine congrArg₂ (pr m c) ?_ ?_
  · blk_simp [(ix t).2.2.2.2.2.1]
  · blk_simp [(ix t).2.2.2.2.2.1]

theorem final6 : (dats m 0 c).arrAt 6 cfg0.N = fun i => merged m c (i 0).val (i 1).val := by
  refine (dats m 0 c).arrAt_eq_of_covers 6 _ (by decide +kernel) fun t hf y => ?_
  blk_simp
  rw [after0_6, out6 m c t]
  refine congrArg₂ (merged m c) ?_ ?_
  · blk_simp [(ix t).2.2.2.2.2.2]
  · blk_simp [(ix t).2.2.2.2.2.2]

theorem frame_p : Cert.quiescent_Kernel14 := fun m ρ _ => Cert.Kernel14.Gen.frame m ρ

theorem frame_pi : Cert.quiescent_Kernel14Ideal := fun m ρ _ => Cert.Kernel14Ideal.Gen.frame m ρ

theorem frame_ri : Cert.quiescent_Reference14Ideal := fun m ρ _ =>
  (θ_run Reference14Ideal.defs _ _).mono (fun r h => ⟨fun c => (h c).2.2, sem_eq_zero_of_no_sems (by decide) r.2⟩)
    (Reference14Ideal.Value.run (F := Ideal) m ρ)

theorem preserves : Cert.preserves_Kernel14_Kernel14Ideal := trivial

theorem algebraic : Cert.algebraic_Kernel14Ideal_Reference14Ideal := by
  intro m ρ m' ρ' _ hagree
  refine ⟨fun c => (dats m 0 c).arrAt 5 cfg0.N, fun c => (dats m 0 c).arrAt 6 cfg0.N, Kernel14Ideal.Value.run_blocks m ρ, ?_⟩
  refine (θ_run Reference14Ideal.defs _ _).mono (fun _ h c => ?_) (Reference14Ideal.Value.run (F := Ideal) m' ρ')
  obtain ⟨g0, g1, g2, g3⟩ := hagree c
  refine ⟨(h c).1.trans ?_, (h c).2.1.trans ?_, (h c).2.2⟩
  · rw [g0, g1]
    refine Eq.trans ?_ (final5 m c).symm
    funext i
    idx_vars i
    pointwise []
    exact nn_of (a0 m c) (a1 m c) i0 i1
  · rw [g0, g1, g2, g3]
    refine Eq.trans ?_ (final6 m c).symm
    funext i
    idx_vars i
    pointwise []
    exact congrArg₂ (· + ·) (congrArg₂ (· * ·) (congrArg sg (at2_of (a3 m c) _ rfl rfl)) (at2_of (a2 m c) _ rfl rfl))
      (congrArg₂ (· * ·) (congrArg sg (at2_of (a3 m c) _ rfl rfl)) (nn_of (a0 m c) (a1 m c) i0 i1))

end Cert.Prod14
end
-- ==== Proof.Prod15.lean ====
/-
  The output projection's product added to the residual stream, over the extended reals.
-/
module

public import proofs.«01_k».proof.Defs
public import proofs.«01_k».proof.Proof.Mat
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod15

open Idealize.ShloMosaic Idealize.ShloMosaic.TcCoe Idealize.SL.Sem
open Cert.Kernel15Ideal Cert.Kernel15Ideal.Gen Cert.Mat

variable (m : (ℓ : Loc nD τ sig) → Buf (Elt Ideal) ℓ) (c : Dev nD)

/-- The three arguments, as the launch found them. -/
abbrev a0 : S8192x2048.Idx → EReal := m ((c : Thread nD τ).loc main_arg0)
abbrev a1 : S2048x2048.Idx → EReal := m ((c : Thread nD τ).loc main_arg1)
abbrev a2 : S8192x2048.Idx → EReal := m ((c : Thread nD τ).loc main_arg2)

/-- An entry of the result. -/
abbrev res (i j : ℕ) : EReal := at2 (a2 m c) i j + nn 2048 (a0 m c) (a1 m c) i j

/-- Each window's block index at a point: the grid is 8 × 2 × 1. -/
theorem ix : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

theorem b0 (t : Fin cfg0.N) (i : S1024x2048.Idx) :
    iblk m c 0 t i = at2 (a0 m c) (t.val / 2 * 1024 + (i 0).val) (i 1).val := by
  unfold a0
  rw [← V_main_arg0 m c]
  blk_simp [iblk]
  exact at2_of _ _ (by blk_simp [(ix t).1]) (by blk_simp [(ix t).1])

theorem b1 (t : Fin cfg0.N) (i : S2048x1024.Idx) :
    iblk m c 1 t i = at2 (a1 m c) (i 0).val (t.val % 2 * 1024 + (i 1).val) := by
  unfold a1
  rw [← V_main_arg1 m c]
  blk_simp [iblk]
  exact at2_of _ _ (by blk_simp [(ix t).2.1]) (by blk_simp [(ix t).2.1])

theorem b2 (t : Fin cfg0.N) (i : S1024x1024.Idx) :
    iblk m c 2 t i = at2 (a2 m c) (t.val / 2 * 1024 + (i 0).val) (t.val % 2 * 1024 + (i 1).val) := by
  unfold a2
  rw [← V_main_arg2 m c]
  blk_simp [iblk]
  exact at2_of _ _ (by blk_simp [(ix t).2.2.1]) (by blk_simp [(ix t).2.2.1])

/-- One point's product, with the block to add. -/
theorem pay1 (x : S1024x2048.Idx → EReal) (y : S2048x1024.Idx → EReal) (z : S1024x1024.Idx → EReal) (i : S1024x1024.Idx) :
    k0_pay1 (F := Ideal) x y z i = (∑ k : Fin 2048, x (ix2 (i 0) k) * y (ix2 k (i 1))) + z i := by
  idx_vars i
  pointwise [k0_pay1]

theorem out (t : Fin cfg0.N) (i : S1024x1024.Idx) :
    out0_3 (F := Ideal) (iblk m c 0 t) (iblk m c 1 t) (iblk m c 2 t) i
      = res m c (t.val / 2 * 1024 + (i 0).val) (t.val % 2 * 1024 + (i 1).val) := by
  have e : out0_3 (F := Ideal) (iblk m c 0 t) (iblk m c 1 t) (iblk m c 2 t)
      = k0_pay1 (F := Ideal) (iblk m c 0 t) (iblk m c 1 t) (iblk m c 2 t) := by
    frame_out
  rw [e, pay1, b2, add_comm]
  refine congrArg₂ (· + ·) rfl ?_
  unfold nn
  refine Finset.sum_congr rfl fun k _ => ?_
  rw [b0, b1]
  rfl

theorem final : (dats m 0 c).arrAt 3 cfg0.N = fun i => res m c (i 0).val (i 1).val := by
  refine (dats m 0 c).arrAt_eq_of_covers 3 _ (by decide +kernel) fun t hf y => ?_
  blk_simp
  rw [after0_3, out m c t]
  refine congrArg₂ (res m c) ?_ ?_
  · blk_simp [(ix t).2.2.2]
  · blk_simp [(ix t).2.2.2]

theorem frame_p : Cert.quiescent_Kernel15 := fun m ρ _ => Cert.Kernel15.Gen.frame m ρ

theorem frame_pi : Cert.quiescent_Kernel15Ideal := fun m ρ _ => Cert.Kernel15Ideal.Gen.frame m ρ

theorem frame_ri : Cert.quiescent_Reference15Ideal := fun m ρ _ =>
  (θ_run Reference15Ideal.defs _ _).mono (fun r h => ⟨fun c => (h c).2, sem_eq_zero_of_no_sems (by decide) r.2⟩)
    (Reference15Ideal.Value.run (F := Ideal) m ρ)

theorem preserves : Cert.preserves_Kernel15_Kernel15Ideal := trivial

theorem algebraic : Cert.algebraic_Kernel15Ideal_Reference15Ideal := by
  intro m ρ m' ρ' _ hagree
  refine ⟨fun c => (dats m 0 c).arrAt 3 cfg0.N, Kernel15Ideal.Value.run_blocks m ρ, ?_⟩
  refine (θ_run Reference15Ideal.defs _ _).mono (fun _ h c => ?_) (Reference15Ideal.Value.run (F := Ideal) m' ρ')
  obtain ⟨g0, g1, g2⟩ := hagree c
  refine ⟨(h c).1.trans ?_, (h c).2⟩
  rw [g0, g1, g2]
  refine Eq.trans ?_ (final m c).symm
  funext i
  idx_vars i
  pointwise []
  exact congrArg₂ (· + ·) (at2_of (a2 m c) _ rfl rfl) (nn_of (a0 m c) (a1 m c) i0 i1)

end Cert.Prod15
end
-- ==== Proof.Prod16.lean ====
/-
  The product of the channel mixer's second projection added to the residual stream, over the extended reals.
-/
module

public import proofs.«01_k».proof.Defs
public import proofs.«01_k».proof.Proof.Mat
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod16

open Idealize.ShloMosaic Idealize.ShloMosaic.TcCoe Idealize.SL.Sem
open Cert.Kernel16Ideal Cert.Kernel16Ideal.Gen Cert.Mat

variable (m : (ℓ : Loc nD τ sig) → Buf (Elt Ideal) ℓ) (c : Dev nD)

/-- The three arguments, as the launch found them. -/
abbrev a0 : S8192x5632.Idx → EReal := m ((c : Thread nD τ).loc main_arg0)
abbrev a1 : S5632x2048.Idx → EReal := m ((c : Thread nD τ).loc main_arg1)
abbrev a2 : S8192x2048.Idx → EReal := m ((c : Thread nD τ).loc main_arg2)

/-- An entry of the result. -/
abbrev res (i j : ℕ) : EReal := at2 (a2 m c) i j + nn 5632 (a0 m c) (a1 m c) i j

/-- Each window's block index at a point: the grid is 8 × 2 × 2, the last coordinate running over the hidden channels. -/
theorem ix : ∀ t : Fin cfg0.N, win0_0.index t = ![t.val / 2 / 2, t.val % 2] ∧ win0_1.index t = ![t.val % 2, t.val / 2 % 2]
    ∧ win0_2.index t = ![t.val / 2 / 2, t.val / 2 % 2] ∧ win0_3.index t = ![t.val / 2 / 2, t.val / 2 % 2] :=
  (by decide +kernel : ∀ t : Fin grid0.N, _)

theorem b0 (t : Fin cfg0.N) (i : S1024x2816.Idx) :
    iblk m c 0 t i = at2 (a0 m c) (t.val / 2 / 2 * 1024 + (i 0).val) (t.val % 2 * 2816 + (i 1).val) := by
  unfold a0
  rw [← V_main_arg0 m c]
  blk_simp [iblk]
  exact at2_of _ _ (by blk_simp [(ix t).1]) (by blk_simp [(ix t).1])

theorem b1 (t : Fin cfg0.N) (i : S2816x1024.Idx) :
    iblk m c 1 t i = at2 (a1 m c) (t.val % 2 * 2816 + (i 0).val) (t.val / 2 % 2 * 1024 + (i 1).val) := by
  unfold a1
  rw [← V_main_arg1 m c]
  blk_simp [iblk]
  exact at2_of _ _ (by blk_simp [(ix t).2.1]) (by blk_simp [(ix t).2.1])

theorem b2 (t : Fin cfg0.N) (i : S1024x1024.Idx) :
    iblk m c 2 t i = at2 (a2 m c) (t.val / 2 / 2 * 1024 + (i 0).val) (t.val / 2 % 2 * 1024 + (i 1).val) := by
  unfold a2
  rw [← V_main_arg2 m c]
  blk_simp [iblk]
  exact at2_of _ _ (by blk_simp [(ix t).2.2.1]) (by blk_simp [(ix t).2.2.1])

/-- One point's product. -/
theorem pay1 (x : S1024x2816.Idx → EReal) (y : S2816x1024.Idx → EReal) (i : S1024x1024.Idx) :
    k0_pay1 (F := Ideal) x y i = ∑ k : Fin 2816, x (ix2 (i 0) k) * y (ix2 k (i 1)) := by
  idx_vars i
  pointwise [k0_pay1]

theorem pay2 (x : S1024x2816.Idx → EReal) (y : S2816x1024.Idx → EReal) (z : S1024x1024.Idx → EReal) (i : S1024x1024.Idx) :
    k0_pay2 (F := Ideal) x y z i = k0_pay1 (F := Ideal) x y i + z i := by
  idx_vars i
  pointwise [k0_pay2]

theorem pay3 (x : S1024x2816.Idx → EReal) (y : S2816x1024.Idx → EReal) (z : S1024x1024.Idx → EReal) (i : S1024x1024.Idx) :
    k0_pay3 (F := Ideal) x y z i = z i + k0_pay1 (F := Ideal) x y i := by
  idx_vars i
  pointwise [k0_pay3]

/-- The part of an entry that one block of hidden channels contributes. -/
abbrev part (q r : ℕ) (i : S1024x1024.Idx) : EReal :=
  nnPart 2816 (a0 m c) (a1 m c) (q / 2 * 1024 + (i 0).val) (q % 2 * 1024 + (i 1).val) r

theorem pay1_blk (t : Fin cfg0.N) (i : S1024x1024.Idx) :
    k0_pay1 (F := Ideal) (iblk m c 0 t) (iblk m c 1 t) i = part m c (t.val / 2) (t.val % 2) i := by
  refine (pay1 _ _ i).trans (Finset.sum_congr rfl fun k _ => ?_)
  rw [b0, b1]
  rfl

/-- A run's first point sets the output block to its product and the block to add. -/
theorem outA (t : Fin cfg0.N) (h : t.val % 2 = 0) (i : S1024x1024.Idx) :
    outsAt0 m c t.val t.isLt i = part m c (t.val / 2) 0 i
      + at2 (a2 m c) (t.val / 2 / 2 * 1024 + (i 0).val) (t.val / 2 % 2 * 1024 + (i 1).val) := by
  have e : outsAt0 m c t.val t.isLt = k0_pay2 (F := Ideal) (iblk m c 0 t) (iblk m c 1 t) (iblk m c 2 t) := by
    rw [outsAt0_A m c t h (by omega)]
    frame_out
  rw [e, pay2, pay1_blk, b2, h]

/-- The second point adds its product. -/
theorem outB (t : Fin cfg0.N) (h : t.val % 2 = 1) (i : S1024x1024.Idx) :
    outsAt0 m c t.val t.isLt i = outsAt0 m c (t.val - 1) (Nat.lt_of_le_of_lt (Nat.sub_le _ _) t.isLt) i
      + part m c (t.val / 2) 1 i := by
  have e : outsAt0 m c t.val t.isLt = k0_pay3 (F := Ideal) (iblk m c 0 t) (iblk m c 1 t)
      (outsAt0 m c (t.val - 1) (Nat.lt_of_le_of_lt (Nat.sub_le _ _) t.isLt)) := by
    rw [outsAt0_B m c t (by omega) h]
    frame_out
  rw [e, pay3, pay1_blk, h]

theorem acc (t : Fin cfg0.N) (h : t.val % 2 = 1) (i : S1024x1024.Idx) :
    outsAt0 m c t.val t.isLt i = res m c (t.val / 2 / 2 * 1024 + (i 0).val) (t.val / 2 % 2 * 1024 + (i 1).val) := by
  have p := outA m c ⟨t.val - 1, Nat.lt_of_le_of_lt (Nat.sub_le _ _) t.isLt⟩ (by show (t.val - 1) % 2 = 0; omega) i
  dsimp only at p
  rw [show (t.val - 1) / 2 = t.val / 2 by omega] at p
  rw [outB m c t h, p, add_comm (part m c _ 0 i), add_assoc]
  refine congrArg₂ (· + ·) rfl ?_
  refine Eq.trans ?_ (sum_nnPart 2 2816 _ _ _ _ rfl)
  rw [Finset.sum_range_succ, Finset.sum_range_one]

theorem final : (dats m 0 c).arrAt 3 cfg0.N = fun i => res m c (i 0).val (i 1).val := by
  refine (dats m 0 c).arrAt_eq_of_covers 3 _ (by decide +kernel) fun t hf y => ?_
  have hm := (flush0_3 t).mp hf
  blk_simp
  rw [after0_3, acc m c t hm]
  refine congrArg₂ (res m c) ?_ ?_
  · blk_simp [(ix t).2.2.2]
  · blk_simp [(ix t).2.2.2]

theorem frame_p : Cert.quiescent_Kernel16 := fun m ρ _ => Cert.Kernel16.Gen.frame m ρ

theorem frame_pi : Cert.quiescent_Kernel16Ideal := fun m ρ _ => Cert.Kernel16Ideal.Gen.frame m ρ

theorem frame_ri : Cert.quiescent_Reference16Ideal := fun m ρ _ =>
  (θ_run Reference16Ideal.defs _ _).mono (fun r h => ⟨fun c => (h c).2, sem_eq_zero_of_no_sems (by decide) r.2⟩)
    (Reference16Ideal.Value.run (F := Ideal) m ρ)

theorem preserves : Cert.preserves_Kernel16_Kernel16Ideal := trivial

theorem algebraic : Cert.algebraic_Kernel16Ideal_Reference16Ideal := by
  intro m ρ m' ρ' _ hagree
  refine ⟨fun c => (dats m 0 c).arrAt 3 cfg0.N, Kernel16Ideal.Value.run_blocks m ρ, ?_⟩
  refine (θ_run Reference16Ideal.defs _ _).mono (fun _ h c => ?_) (Reference16Ideal.Value.run (F := Ideal) m' ρ')
  obtain ⟨g0, g1, g2⟩ := hagree c
  refine ⟨(h c).1.trans ?_, (h c).2⟩
  rw [g0, g1, g2]
  refine Eq.trans ?_ (final m c).symm
  funext i
  idx_vars i
  pointwise []
  exact congrArg₂ (· + ·) (at2_of (a2 m c) _ rfl rfl) (nn_of (a0 m c) (a1 m c) i0 i1)

end Cert.Prod16
end
-- ==== Proof.Prod17.lean ====
/-
  The product of the combined input projection, over the extended reals.
-/
module

public import proofs.«01_k».proof.Defs
public import proofs.«01_k».proof.Proof.Mat
public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod17

open Idealize.ShloMosaic Idealize.ShloMosaic.TcCoe Idealize.SL.Sem
open Cert.Kernel17Ideal Cert.Kernel17Ideal.Gen Cert.Mat

variable (m : (ℓ : Loc nD τ sig) → Buf (Elt Ideal) ℓ) (c : Dev nD)

/-- The two arguments, as the launch found them. -/
abbrev a0 : S8192x2048.Idx → EReal := m ((c : Thread nD τ).loc main_arg0)
abbrev a1 : S2048x14336.Idx → EReal := m ((c : Thread nD τ).loc main_arg1)

/-- Each window's block index at a point: the grid is 8 × 14 × 1. -/
theorem ix : ∀ t : Fin cfg0.N, win0_0.index t = ![t.val / 14, 0] ∧ win0_1.index t = ![0, t.val % 14]
    ∧ win0_2.index t = ![t.val / 14, t.val % 14] :=
  (by decide +kernel : ∀ t : Fin grid0.N, _)

theorem b0 (t : Fin cfg0.N) (i : S1024x2048.Idx) :
    iblk m c 0 t i = at2 (a0 m c) (t.val / 14 * 1024 + (i 0).val) (i 1).val := by
  unfold a0
  rw [← V_main_arg0 m c]
  blk_simp [iblk]
  exact at2_of _ _ (by blk_simp [(ix t).1]) (by blk_simp [(ix t).1])

theorem b1 (t : Fin cfg0.N) (i : S2048x1024.Idx) :
    iblk m c 1 t i = at2 (a1 m c) (i 0).val (t.val % 14 * 1024 + (i 1).val) := by
  unfold a1
  rw [← V_main_arg1 m c]
  blk_simp [iblk]
  exact at2_of _ _ (by blk_simp [(ix t).2.1]) (by blk_simp [(ix t).2.1])

/-- One point's product. -/
theorem pay1 (x : S1024x2048.Idx → EReal) (y : S2048x1024.Idx → EReal) (i : S1024x1024.Idx) :
    k0_pay1 (F := Ideal) x y i = ∑ k : Fin 2048, x (ix2 (i 0) k) * y (ix2 k (i 1)) := by
  idx_vars i
  pointwise [k0_pay1]

theorem out (t : Fin cfg0.N) (i : S1024x1024.Idx) :
    out0_2 (F := Ideal) (iblk m c 0 t) (iblk m c 1 t) i
      = nn 2048 (a0 m c) (a1 m c) (t.val / 14 * 1024 + (i 0).val) (t.val % 14 * 1024 + (i 1).val) := by
  have e : out0_2 (F := Ideal) (iblk m c 0 t) (iblk m c 1 t) = k0_pay1 (F := Ideal) (iblk m c 0 t) (iblk m c 1 t) := by
    frame_out
  rw [e]
  unfold nn
  refine (pay1 _ _ i).trans (Finset.sum_congr rfl fun k _ => ?_)
  rw [b0, b1]
  rfl

theorem final : (dats m 0 c).arrAt 2 cfg0.N = fun i => nn 2048 (a0 m c) (a1 m c) (i 0).val (i 1).val := by
  refine (dats m 0 c).arrAt_eq_of_covers 2 _ (by decide +kernel) fun t hf y => ?_
  blk_simp
  rw [after0_2, out m c t]
  refine congrArg₂ (nn 2048 (a0 m c) (a1 m c)) ?_ ?_
  · blk_simp [(ix t).2.2]
  · blk_simp [(ix t).2.2]

theorem frame_p : Cert.quiescent_Kernel17 := fun m ρ _ => Cert.Kernel17.Gen.frame m ρ

theorem frame_pi : Cert.quiescent_Kernel17Ideal := fun m ρ _ => Cert.Kernel17Ideal.Gen.frame m ρ

theorem frame_ri : Cert.quiescent_Reference17Ideal := fun m ρ _ =>
  (θ_run Reference17Ideal.defs _ _).mono (fun r h => ⟨fun c => (h c).2, sem_eq_zero_of_no_sems (by decide) r.2⟩)
    (Reference17Ideal.Value.run (F := Ideal) m ρ)

theorem preserves : Cert.preserves_Kernel17_Kernel17Ideal := trivial

theorem algebraic : Cert.algebraic_Kernel17Ideal_Reference17Ideal := by
  intro m ρ m' ρ' _ hagree
  refine ⟨fun c => (dats m 0 c).arrAt 2 cfg0.N, Kernel17Ideal.Value.run_blocks m ρ, ?_⟩
  refine (θ_run Reference17Ideal.defs _ _).mono (fun _ h c => ?_) (Reference17Ideal.Value.run (F := Ideal) m' ρ')
  obtain ⟨g0, g1⟩ := hagree c
  refine ⟨(h c).1.trans ?_, (h c).2⟩
  rw [g0, g1]
  refine Eq.trans ?_ (final m c).symm
  funext i
  idx_vars i
  pointwise []
  exact nn_of (a0 m c) (a1 m c) i0 i1

end Cert.Prod17
end
-- ==== Proof.Prod18.lean ====
/-
  The product of the retention's output projection, over the extended reals.
-/
module

public import proofs.«01_k».proof.Defs
public import proofs.«01_k».proof.Proof.Mat
public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ValueKit.Geometry
public import Idealize.ShloMosaic.Lib.Pipeline.ReadBack
public import Idealize.ShloMosaic.Lib.Quiescent

@[expose] public section

set_option maxRecDepth 16384

noncomputable section

namespace Cert.Prod18

open Idealize.ShloMosaic Idealize.ShloMosaic.TcCoe Idealize.SL.Sem
open Cert.Kernel18Ideal Cert.Kernel18Ideal.Gen Cert.Mat

variable (m : (ℓ : Loc nD τ sig) → Buf (Elt Ideal) ℓ) (c : Dev nD)

/-- The two arguments, as the launch found them. -/
abbrev a0 : S8192x2048.Idx → EReal := m ((c : Thread nD τ).loc main_arg0)
abbrev a1 : S2048x2048.Idx → EReal := m ((c : Thread nD τ).loc main_arg1)

/-- Each window's block index at a point: the grid is 8 × 2 × 1. -/
theorem ix : ∀ t : Fin cfg0.N, win0_0.index t = ![t.val / 2, 0] ∧ win0_1.index t = ![0, t.val % 2]
    ∧ win0_2.index t = ![t.val / 2, t.val % 2] :=
  (by decide +kernel : ∀ t : Fin grid0.N, _)

theorem b0 (t : Fin cfg0.N) (i : S1024x2048.Idx) :
    iblk m c 0 t i = at2 (a0 m c) (t.val / 2 * 1024 + (i 0).val) (i 1).val := by
  unfold a0
  rw [← V_main_arg0 m c]
  blk_simp [iblk]
  exact at2_of _ _ (by blk_simp [(ix t).1]) (by blk_simp [(ix t).1])

theorem b1 (t : Fin cfg0.N) (i : S2048x1024.Idx) :
    iblk m c 1 t i = at2 (a1 m c) (i 0).val (t.val % 2 * 1024 + (i 1).val) := by
  unfold a1
  rw [← V_main_arg1 m c]
  blk_simp [iblk]
  exact at2_of _ _ (by blk_simp [(ix t).2.1]) (by blk_simp [(ix t).2.1])

/-- One point's product. -/
theorem pay1 (x : S1024x2048.Idx → EReal) (y : S2048x1024.Idx → EReal) (i : S1024x1024.Idx) :
    k0_pay1 (F := Ideal) x y i = ∑ k : Fin 2048, x (ix2 (i 0) k) * y (ix2 k (i 1)) := by
  idx_vars i
  pointwise [k0_pay1]

theorem out (t : Fin cfg0.N) (i : S1024x1024.Idx) :
    out0_2 (F := Ideal) (iblk m c 0 t) (iblk m c 1 t) i
      = nn 2048 (a0 m c) (a1 m c) (t.val / 2 * 1024 + (i 0).val) (t.val % 2 * 1024 + (i 1).val) := by
  have e : out0_2 (F := Ideal) (iblk m c 0 t) (iblk m c 1 t) = k0_pay1 (F := Ideal) (iblk m c 0 t) (iblk m c 1 t) := by
    frame_out
  rw [e]
  unfold nn
  refine (pay1 _ _ i).trans (Finset.sum_congr rfl fun k _ => ?_)
  rw [b0, b1]
  rfl

theorem final : (dats m 0 c).arrAt 2 cfg0.N = fun i => nn 2048 (a0 m c) (a1 m c) (i 0).val (i 1).val := by
  refine (dats m 0 c).arrAt_eq_of_covers 2 _ (by decide +kernel) fun t hf y => ?_
  blk_simp
  rw [after0_2, out m c t]
  refine congrArg₂ (nn 2048 (a0 m c) (a1 m c)) ?_ ?_
  · blk_simp [(ix t).2.2]
  · blk_simp [(ix t).2.2]

theorem frame_p : Cert.quiescent_Kernel18 := fun m ρ _ => Cert.Kernel18.Gen.frame m ρ

theorem frame_pi : Cert.quiescent_Kernel18Ideal := fun m ρ _ => Cert.Kernel18Ideal.Gen.frame m ρ

theorem frame_ri : Cert.quiescent_Reference18Ideal := fun m ρ _ =>
  (θ_run Reference18Ideal.defs _ _).mono (fun r h => ⟨fun c => (h c).2, sem_eq_zero_of_no_sems (by decide) r.2⟩)
    (Reference18Ideal.Value.run (F := Ideal) m ρ)

theorem preserves : Cert.preserves_Kernel18_Kernel18Ideal := trivial

theorem algebraic : Cert.algebraic_Kernel18Ideal_Reference18Ideal := by
  intro m ρ m' ρ' _ hagree
  refine ⟨fun c => (dats m 0 c).arrAt 2 cfg0.N, Kernel18Ideal.Value.run_blocks m ρ, ?_⟩
  refine (θ_run Reference18Ideal.defs _ _).mono (fun _ h c => ?_) (Reference18Ideal.Value.run (F := Ideal) m' ρ')
  obtain ⟨g0, g1⟩ := hagree c
  refine ⟨(h c).1.trans ?_, (h c).2⟩
  rw [g0, g1]
  refine Eq.trans ?_ (final m c).symm
  funext i
  idx_vars i
  pointwise []
  exact nn_of (a0 m c) (a1 m c) i0 i1

end Cert.Prod18
end
-- ==== Proof.Prod19.lean ====
/-
  The product of the combined input projection's weight gradient in the retention's columns, over the extended reals.
-/
module

public import proofs.«01_k».proof.Defs
public import proofs.«01_k».proof.Proof.Mat
public import proofs.«01_k».proof.Proof.Gen.Kernel19.Frame
public import proofs.«01_k».proof.Proof.Gen.Kernel19Ideal.Frame
public import proofs.«01_k».proof.Proof.Gen.Reference19Ideal.Run
public import Idealize.ShloMosaic.Lib.Pipeline.ValueKit.Geometry
public import Idealize.ShloMosaic.Lib.Pipeline.ReadBack
public import Idealize.ShloMosaic.Lib.Pipeline.ValueKit.Partial
public import Idealize.ShloMosaic.Lib.Quiescent

@[expose] public section

set_option maxRecDepth 16384

noncomputable section

namespace Cert.Prod19

open Idealize.ShloMosaic Idealize.ShloMosaic.TcCoe Idealize.SL.Sem
open Cert.Kernel19Ideal Cert.Kernel19Ideal.Gen Cert.Mat

variable (m : (ℓ : Loc nD τ sig) → Buf (Elt Ideal) ℓ) (c : Dev nD)

/-- The two arguments, as the launch found them. -/
abbrev a0 : S8192x2048.Idx → EReal := m ((c : Thread nD τ).loc main_arg0)
abbrev a1 : S8192x6144.Idx → EReal := m ((c : Thread nD τ).loc main_arg1)

/-- Each window's block index at a point: the grid is 2 × 6 × 4, the last coordinate running over the tokens. -/
theorem ix : ∀ t : Fin cfg0.N, win0_0.index t = ![t.val % 4, t.val / 4 / 6] ∧ win0_1.index t = ![t.val % 4, t.val / 4 % 6]
    ∧ win0_2.index t = ![t.val / 4 / 6, t.val / 4 % 6] :=
  (by decide +kernel : ∀ t : Fin grid0.N, _)

theorem b0 (t : Fin cfg0.N) (i : S2048x1024.Idx) :
    iblk m c 0 t i = at2 (a0 m c) (t.val % 4 * 2048 + (i 0).val) (t.val / 4 / 6 * 1024 + (i 1).val) := by
  unfold a0
  rw [← V_main_arg0 m c]
  blk_simp [iblk]
  exact at2_of _ _ (by blk_simp [(ix t).1]) (by blk_simp [(ix t).1])

theorem b1 (t : Fin cfg0.N) (i : S2048x1024.Idx) :
    iblk m c 1 t i = at2 (a1 m c) (t.val % 4 * 2048 + (i 0).val) (t.val / 4 % 6 * 1024 + (i 1).val) := by
  unfold a1
  rw [← V_main_arg1 m c]
  blk_simp [iblk]
  exact at2_of _ _ (by blk_simp [(ix t).2.1]) (by blk_simp [(ix t).2.1])

/-- One point's product. -/
theorem pay1 (x y : S2048x1024.Idx → EReal) (i : S1024x1024.Idx) :
    k0_pay1 (F := Ideal) x y i = ∑ k : Fin 2048, x (ix2 k (i 0)) * y (ix2 k (i 1)) := by
  idx_vars i
  pointwise [k0_pay1]

theorem pay2 (x y : S2048x1024.Idx → EReal) (z : S1024x1024.Idx → EReal) (i : S1024x1024.Idx) :
    k0_pay2 (F := Ideal) x y z i = z i + k0_pay1 (F := Ideal) x y i := by
  idx_vars i
  pointwise [k0_pay2]

/-- The part of an entry that one block of tokens contributes. -/
abbrev part (q r : ℕ) (i : S1024x1024.Idx) : EReal :=
  tnPart 2048 (a0 m c) (a1 m c) (q / 6 * 1024 + (i 0).val) (q % 6 * 1024 + (i 1).val) r

theorem pay1_blk (t : Fin cfg0.N) (i : S1024x1024.Idx) :
    k0_pay1 (F := Ideal) (iblk m c 0 t) (iblk m c 1 t) i = part m c (t.val / 4) (t.val % 4) i := by
  refine (pay1 _ _ i).trans (Finset.sum_congr rfl fun k _ => ?_)
  rw [b0, b1]
  rfl

theorem outA (t : Fin cfg0.N) (h : t.val % 4 = 0) :
    outsAt0 m c t.val t.isLt = k0_pay1 (F := Ideal) (iblk m c 0 t) (iblk m c 1 t) := by
  rw [outsAt0_A m c t h (by omega)]
  frame_out

theorem outB (t : Fin cfg0.N) (h : ¬t.val % 4 = 0) :
    outsAt0 m c t.val t.isLt = k0_pay2 (F := Ideal) (iblk m c 0 t) (iblk m c 1 t)
      (outsAt0 m c (t.val - 1) (Nat.lt_of_le_of_lt (Nat.sub_le _ _) t.isLt)) := by
  rw [outsAt0_B m c t h (by omega)]
  frame_out

theorem acc (t : Fin cfg0.N) (h : t.val % 4 = 3) (i : S1024x1024.Idx) :
    outsAt0 m c t.val t.isLt i
      = tn 8192 (a0 m c) (a1 m c) (t.val / 4 / 6 * 1024 + (i 0).val) (t.val / 4 % 6 * 1024 + (i 1).val) := by
  refine (fold (fun n h => outsAt0 m c n h) 4 (part m c) (fun t h i => ?_) (fun t h i => ?_) t h i).trans ?_
  · exact (congrFun (outA m c t h) i).trans (pay1_blk m c t i)
  · exact (congrFun (outB m c t h) i).trans ((pay2 _ _ _ i).trans (congrArg _ (pay1_blk m c t i)))
  · exact sum_tnPart 4 2048 _ _ _ _ rfl

/-- The array the call writes: the product in the first 6144 columns, and what it held before in the others. -/
theorem final : (dats m 0 c).arrAt 2 cfg0.N = fun i =>
    if (i 1).val < 6144 then tn 8192 (a0 m c) (a1 m c) (i 0).val (i 1).val else (dats m 0 c).A 2 i := by
  refine (dats m 0 c).arrAt_eq_of_coversWhere_of_agree 2 _ (fun β => β (1 : Fin 2) < 6) (by decide +kernel) (fun t hf y => ?_)
    (fun j hj => ?_)
  · have hm := (flush0_2 t).mp hf
    blk_simp
    rw [after0_2, acc m c t hm]
    have e0 : win0_2.index t 0 = t.val / 4 / 6 := congrFun (ix t).2.2 0
    have e1 : win0_2.index t 1 = t.val / 4 % 6 := congrFun (ix t).2.2 1
    have b1 : (y 1).val < 1024 := (y 1).isLt
    rw [e0, e1, if_pos (by omega)]
  · blk_simp [Pipeline.Window.cell_apply] at hj
    have h6 : ¬ (j 1).val < 6144 := by omega
    exact (if_neg h6).symm

/-- The columns that the program keeps are those the call writes. -/
theorem post (r : PUnit × MemSt nD τ sig (Elt Ideal))
    (h : Pipeline.FramePost cfgs (dats m) 0 (Pipeline.afterTail₀ cfgs (dats m) 0 (V0 m) [hostOps1]) r) :
    r.2.mem ((c : Thread nD τ).loc main_v1) = fun i : S2048x6144.Idx => tn 8192 (a0 m c) (a1 m c) (i 0).val (i 1).val := by
  refine ((h c).2 main_v1 (by decide)).trans ?_
  unfold Pipeline.afterTail₀
  simp only [hostOps1, List.flatten_cons, List.flatten_nil, List.append_nil, StableHlo.after_cons, StableHlo.after_nil]
  rw [StableHlo.unary_result]
  have e := (Pipeline.withArrays_arr (cfgs 0).spec (by decide : Function.Injective (Pipeline.arrRef (cfgs 0).spec)) c (V0 m c)
    (fun w => (dats m 0 c).arrAt w (cfgs 0).N) 2).trans (final m c)
  refine (congrArg (fun X : S2048x14336.Idx → EReal => extractStridedSlice S2048x6144 ![0, 0] X slices_S2048x14336_S2048x6144_0_0) e).trans ?_
  funext i
  idx_vars i
  pointwise []

theorem frame_p : Cert.quiescent_Kernel19 := fun m ρ _ => Cert.Kernel19.Gen.frame m ρ

theorem frame_pi : Cert.quiescent_Kernel19Ideal := fun m ρ _ => Cert.Kernel19Ideal.Gen.frame m ρ

theorem frame_ri : Cert.quiescent_Reference19Ideal := fun m ρ _ =>
  (θ_run Reference19Ideal.defs _ _).mono (fun r h => ⟨fun c => (h c).2, sem_eq_zero_of_no_sems (by decide) r.2⟩)
    (Reference19Ideal.Value.run (F := Ideal) m ρ)

theorem preserves : Cert.preserves_Kernel19_Kernel19Ideal := trivial

theorem algebraic : Cert.algebraic_Kernel19Ideal_Reference19Ideal := by
  intro m ρ m' ρ' _ hagree
  refine ⟨fun c i => tn 8192 (a0 m c) (a1 m c) (i 0).val (i 1).val,
    (θ_run Kernel19Ideal.defs _ _).mono (fun r h c => ⟨post m c r h.1, h.2 c⟩)
      (θ_run_and (run_main m ρ) (unchanged m ρ)), ?_⟩
  refine (θ_run Reference19Ideal.defs _ _).mono (fun _ h c => ?_) (Reference19Ideal.Value.run (F := Ideal) m' ρ')
  obtain ⟨g0, g1⟩ := hagree c
  refine ⟨(h c).1.trans ?_, (h c).2⟩
  rw [g0, g1]
  funext i
  idx_vars i
  pointwise []
  exact tn_of (a0 m c) (a1 m c) i0 i1

end Cert.Prod19
end
-- ==== Proof.Rms.lean ====
/-
  The gradient of a row's root mean square norm: the closed form and the chain rule's terms, over the extended reals.
-/
module

public import proofs.«01_k».proof.Proof.Lift

@[expose] public section

noncomputable section

namespace Cert.Rms

open Idealize.ShloMosaic

/-- A row's mean square, with the norm's constant added. -/
def ms (x : Fin 2048 → EReal) : EReal :=
  Ideal.div (∑ k, x k * x k) (Ideal.ofBits .f32 0x45000000#32) + Ideal.ofBits .f32 0x358637BD#32

/-- The norm's factor. -/
def iv (x : Fin 2048 → EReal) : EReal := Ideal.rsqrt (ms x)

/-- The gradient in the row `x` at an entry, from the gradient `g` in the normed row: the closed form. -/
def dx (x g : Fin 2048 → EReal) (j : Fin 2048) : EReal :=
  iv x * (g j - x j * iv x * Ideal.div (∑ k, g k * (x k * iv x)) (Ideal.ofBits .f32 0x45000000#32))

/-- The chain rule's gradient in the mean square's terms. -/
def rv (x g : Fin 2048 → EReal) : EReal :=
  Ideal.div ((∑ k, x k * g k) * (Ideal.ofBits .f32 0xBF000000#32 * Ideal.div (iv x) (ms x))) (Ideal.ofBits .f32 0x45000000#32)

/-! At a row of reals the mean square is a positive real; at another it is infinite, and the norm's factor is zero. -/

/-- The mean square of a real row. -/
def u (a : Fin 2048 → ℝ) : ℝ := (∑ k, a k * a k) / 2048 + Spec.eps

theorem u_pos (a : Fin 2048 → ℝ) : 0 < u a := by
  have h : 0 ≤ ∑ k, a k * a k := Finset.sum_nonneg fun k _ => mul_self_nonneg _
  have e : 0 < Spec.eps := by unfold Spec.eps; norm_num
  unfold u
  positivity

theorem ms_real {x : Fin 2048 → EReal} {a : Fin 2048 → ℝ} (hx : ∀ k, x k = ((a k : ℝ) : EReal)) :
    ms x = ((u a : ℝ) : EReal) := by
  unfold ms u
  rw [Lift.dot_sum x x a a hx hx, Lift.lit_2048, Lift.lit_eps, Lift.div_real _ _ (by norm_num), ← EReal.coe_add]

theorem sq_nonneg (y : EReal) : 0 ≤ y * y := by
  induction y with
  | bot => simp
  | top => simp
  | coe r => rw [← EReal.coe_mul]; exact EReal.coe_nonneg.2 (mul_self_nonneg r)

theorem ms_top {x : Fin 2048 → EReal} (k : Fin 2048) (h : x k = ⊤ ∨ x k = ⊥) : ms x = ⊤ := by
  have hk : x k * x k = ⊤ := by
    rcases h with h | h <;> rw [h] <;> simp
  have hs : ∑ k, x k * x k = ⊤ := top_le_iff.1 (hk.symm.le.trans
    (Finset.single_le_sum (f := fun k => x k * x k) (fun k _ => sq_nonneg (x k)) (Finset.mem_univ k)))
  unfold ms
  rw [hs, Lift.lit_2048, Lift.lit_eps, Ideal.div_coe (by norm_num), EReal.top_mul_coe_of_pos (by norm_num), EReal.top_add_coe]

/-- Multiplication by a real that is not negative distributes over a sum. -/
theorem sum_mul_coe {f : Fin 2048 → EReal} {r : ℝ} (hr : 0 ≤ r) : (∑ k, f k) * (r : EReal) = ∑ k, f k * (r : EReal) := by
  have h : ∀ s : Finset (Fin 2048), (∑ k ∈ s, f k) * (r : EReal) = ∑ k ∈ s, f k * (r : EReal) := fun s => by
    induction s using Finset.induction_on with
    | empty => simp
    | insert k s hk ih =>
      rw [Finset.sum_insert hk, Finset.sum_insert hk,
        EReal.right_distrib_of_nonneg_of_ne_top (EReal.coe_nonneg.2 hr) (EReal.coe_ne_top r), ih]
  exact h Finset.univ

/-- Equal reals' multiples of an extended real add. -/
theorem mul_double (T : EReal) (p : ℝ) : T * (p : EReal) + T * (p : EReal) = T * ((p + p : ℝ) : EReal) := by
  rcases le_total 0 p with h | h
  · rw [EReal.coe_add, mul_comm T, mul_comm T, EReal.right_distrib_of_nonneg (EReal.coe_nonneg.2 h) (EReal.coe_nonneg.2 h)]
  · have h' : 0 ≤ -p := neg_nonneg.2 h
    have e : ∀ q : ℝ, T * (q : EReal) = -T * ((-q : ℝ) : EReal) := fun q => by rw [EReal.coe_neg, neg_mul_neg]
    rw [e p, e (p + p), neg_add, EReal.coe_add, mul_comm (-T), mul_comm (-T),
      EReal.right_distrib_of_nonneg (EReal.coe_nonneg.2 h') (EReal.coe_nonneg.2 h')]

/-- The chain rule's terms add to the closed form at a real row, for any gradient. -/
theorem dx_chain_real {x g : Fin 2048 → EReal} {a : Fin 2048 → ℝ} (hx : ∀ k, x k = ((a k : ℝ) : EReal)) (j : Fin 2048) :
    g j * iv x + x j * rv x g + rv x g * x j = dx x g j := by
  have hu := u_pos a
  have hs : 0 < Real.sqrt (u a) := Real.sqrt_pos.2 hu
  have e : u a = Real.sqrt (u a) * Real.sqrt (u a) := (Real.mul_self_sqrt hu.le).symm
  have hi : iv x = (((Real.sqrt (u a))⁻¹ : ℝ) : EReal) := by
    unfold iv
    rw [ms_real hx, Lift.rsqrt_real _ hu]
  have hr : 0 ≤ (Real.sqrt (u a))⁻¹ := (inv_pos.2 hs).le
  have es : ∑ k, g k * (x k * iv x) = (∑ k, x k * g k) * iv x := by
    rw [hi, sum_mul_coe hr]
    exact Finset.sum_congr rfl fun k _ => by rw [mul_comm (x k) (g k), mul_assoc]
  unfold dx rv
  rw [es, hi, ms_real hx, Lift.lit_neg_half, Lift.lit_2048, Lift.div_real _ _ hu.ne', Ideal.div_coe (by norm_num),
    Ideal.div_coe (by norm_num), hx j]
  generalize ∑ k, x k * g k = T
  have eL : ∀ p q r : ℝ, (p : EReal) * (T * (q : EReal) * (r : EReal)) = T * ((p * q * r : ℝ) : EReal) := fun p q r => by
    rw [EReal.coe_mul, EReal.coe_mul]
    ac_rfl
  rw [← EReal.coe_mul, ← EReal.coe_mul, mul_comm (T * _ * _) ((a j : ℝ) : EReal), eL, eL, add_assoc, mul_double, sub_eq_add_neg,
    EReal.left_distrib_of_nonneg_of_ne_top (EReal.coe_nonneg.2 hr) (EReal.coe_ne_top _), mul_comm (g j), ← mul_neg,
    ← EReal.coe_neg, mul_comm _ (T * _), mul_assoc T, ← EReal.coe_mul]
  refine congrArg (fun p : ℝ => _ + T * (p : EReal)) ?_
  generalize Real.sqrt (u a) = s at hs e
  rw [e]
  have := hs.ne'
  field_simp
  ring

/-- The chain rule's terms add to the closed form. -/
theorem dx_chain (x g : Fin 2048 → EReal) (j : Fin 2048) : g j * iv x + x j * rv x g + rv x g * x j = dx x g j := by
  by_cases h : ∃ k, x k = ⊤ ∨ x k = ⊥
  · obtain ⟨k, h⟩ := h
    have hm := ms_top k h
    have hi : iv x = 0 := by
      unfold iv
      rw [hm]
      rfl
    have hr : rv x g = 0 := by
      unfold rv
      rw [hi, hm, Lift.lit_2048, Ideal.div_coe (by norm_num)]
      simp [Ideal.div]
    unfold dx
    rw [hi, hr]
    simp
  · exact dx_chain_real (a := fun k => (x k).toReal)
      (fun k => (EReal.coe_toReal (fun e => h ⟨k, Or.inl e⟩) (fun e => h ⟨k, Or.inr e⟩)).symm) j

end Cert.Rms
end
-- ==== Proof.Prod20.lean ====
/-
  The gradient of the root mean square norm, over the extended reals.
-/
module

public import proofs.«01_k».proof.Defs
public import proofs.«01_k».proof.Proof.Mat
public import proofs.«01_k».proof.Proof.Rms
public import proofs.«01_k».proof.Proof.Gen.Kernel20.Frame
public import proofs.«01_k».proof.Proof.Gen.Kernel20Ideal.Value
public import proofs.«01_k».proof.Proof.Gen.Reference20Ideal.Run
public import Idealize.ShloMosaic.Lib.Pipeline.ValueKit.Geometry
public import Idealize.ShloMosaic.Lib.Pipeline.ReadBack
public import Idealize.ShloMosaic.Lib.Quiescent
public import Idealize.ShloMosaic.Lib.StableHlo.ReadAt

@[expose] public section

set_option maxRecDepth 16384

noncomputable section

namespace Cert.Prod20

open Idealize.ShloMosaic Idealize.ShloMosaic.TcCoe Idealize.SL.Sem
open Cert.Kernel20Ideal Cert.Kernel20Ideal.Gen Cert.Mat Cert.Rms

variable (m : (ℓ : Loc nD τ sig) → Buf (Elt Ideal) ℓ) (c : Dev nD)

/-- The four arguments, as the launch found them: the rows, the norm's scale, the gradient in the scaled normed rows, and
    the gradient that passes by the norm. -/
abbrev a0 : S8192x2048.Idx → EReal := m ((c : Thread nD τ).loc main_arg0)
abbrev a1 : S2048.Idx → EReal := m ((c : Thread nD τ).loc main_arg1)
abbrev a2 : S8192x2048.Idx → EReal := m ((c : Thread nD τ).loc main_arg2)
abbrev a3 : S8192x2048.Idx → EReal := m ((c : Thread nD τ).loc main_arg3)

/-- A row, and the gradient in the normed row. -/
def rowX (i : ℕ) (k : Fin 2048) : EReal := at2 (a0 m c) i k.val
def rowG (i : ℕ) (k : Fin 2048) : EReal := at2 (a2 m c) i k.val * a1 m c (ix1 k)

/-- An entry of the gradient in the rows. -/
def res (i : ℕ) (j : Fin 2048) : EReal := at2 (a3 m c) i j.val + dx (rowX m c i) (rowG m c i) j

/-- A row's term of the gradient in the scale. -/
def term (j i : ℕ) : EReal := at2 (a2 m c) i j * (at2 (a0 m c) i j * iv (rowX m c i))

/-! Each window's block index at a point: 32 blocks of 256 rows. -/

theorem wx0 : ∀ t : Fin cfg0.N, win0_0.index t = ![t.val, 0] := (by decide +kernel : ∀ t : Fin grid0.N, _)
theorem wx1 : ∀ t : Fin cfg0.N, win0_1.index t = ![0, 0] := (by decide +kernel : ∀ t : Fin grid0.N, _)
theorem wx2 : ∀ t : Fin cfg0.N, win0_2.index t = ![t.val, 0] := (by decide +kernel : ∀ t : Fin grid0.N, _)
theorem wx3 : ∀ t : Fin cfg0.N, win0_3.index t = ![t.val, 0] := (by decide +kernel : ∀ t : Fin grid0.N, _)
theorem wx4 : ∀ t : Fin cfg0.N, win0_4.index t = ![t.val, 0] := (by decide +kernel : ∀ t : Fin grid0.N, _)
theorem wx5 : ∀ t : Fin cfg0.N, win0_5.index t = ![t.val, 0] := (by decide +kernel : ∀ t : Fin grid0.N, _)
theorem wx6 : ∀ t : Fin cfg0.N, win0_6.index t = ![0, 0] := (by decide +kernel : ∀ t : Fin grid0.N, _)

theorem b0 (t : Fin cfg0.N) (i : S256x2048.Idx) :
    iblk m c 0 t i = at2 (a0 m c) (t.val * 256 + (i 0).val) (i 1).val := by
  unfold a0
  rw [← V_main_arg0 m c]
  blk_simp [iblk]
  exact at2_of _ _ (by blk_simp [wx0 t]) (by blk_simp [wx0 t])

theorem b2 (t : Fin cfg0.N) (i : S256x2048.Idx) :
    iblk m c 2 t i = at2 (a2 m c) (t.val * 256 + (i 0).val) (i 1).val := by
  unfold a2
  rw [← V_main_arg2 m c]
  blk_simp [iblk]
  exact at2_of _ _ (by blk_simp [wx2 t]) (by blk_simp [wx2 t])

theorem b3 (t : Fin cfg0.N) (i : S256x2048.Idx) :
    iblk m c 3 t i = at2 (a3 m c) (t.val * 256 + (i 0).val) (i 1).val := by
  unfold a3
  rw [← V_main_arg3 m c]
  blk_simp [iblk]
  exact at2_of _ _ (by blk_simp [wx3 t]) (by blk_simp [wx3 t])

set_option maxHeartbeats 4000000 in
theorem entry (a : Fin 1) (j : Fin 2048) : V m c main_v0 (ix2 a j) = a1 m c (ix1 j) := by
  unfold V
  after_reads_at

theorem b1 (t : Fin cfg0.N) (i : S1x2048.Idx) : iblk m c 1 t i = a1 m c (ix1 (i 1)) := by
  refine Eq.trans ?_ (entry m c (i 0) (i 1))
  blk_simp [iblk]
  blk_ext [wx1 t]

/-! The kernel's payloads, at blocks in general. -/

section Pay

variable (x z : S256x2048.Idx → EReal) (y : S256x2048.Idx → EReal) (w : S1x2048.Idx → EReal)

theorem pay2 (i : S256x1.Idx) : k0_pay2 (F := Ideal) x i = iv fun k => x (ix2 (i 0) k) := by
  idx_vars i
  pointwise [k0_pay2]
  rfl

theorem pay3 (i : S256x2048.Idx) : k0_pay3 (F := Ideal) x i = x i * iv fun k => x (ix2 (i 0) k) := by
  idx_vars i
  pointwise [k0_pay3]
  rw [pay2]
  rfl

theorem pay5 (i : S256x2048.Idx) : k0_pay5 (F := Ideal) x y w z i
    = z i + dx (fun k => x (ix2 (i 0) k)) (fun k => y (ix2 (i 0) k) * w (ix2 0 k)) (i 1) := by
  idx_vars i
  pointwise [k0_pay5, k0_pay4]
  simp only [pay2, pay3]
  rfl

theorem pay6 (i : S256x2048.Idx) : k0_pay6 (F := Ideal) x y w z i = k0_pay5 (F := Ideal) x y w z i := by
  idx_vars i
  pointwise [k0_pay6]

theorem pay1 (p : S1x2048.Idx → EReal) (i : S1x2048.Idx) :
    k0_pay1 (F := Ideal) (k0_pay3 (F := Ideal) x) (k0_pay4 (F := Ideal) y) p i
      = p i + ∑ r : Fin 256, y (ix2 r (i 1)) * (x (ix2 r (i 1)) * iv fun k => x (ix2 r k)) := by
  idx_vars i
  pointwise [k0_pay1, k0_pay4]
  simp only [pay3]
  rfl

theorem pay7 (i : S1x2048.Idx) : k0_pay7 (F := Ideal) i = 0 := by
  idx_vars i
  pointwise [k0_pay7]

end Pay

theorem row_blk (t : Fin cfg0.N) (r : Fin 256) : (fun k => iblk m c 0 t (ix2 r k)) = rowX m c (t.val * 256 + r.val) :=
  funext fun k => b0 m c t (ix2 r k)

/-- Two of the blocks, with their entries' type. -/
abbrev blk1 (t : Fin cfg0.N) : S1x2048.Idx → EReal := iblk m c 1 t
abbrev blk2 (t : Fin cfg0.N) : S256x2048.Idx → EReal := iblk m c 2 t

theorem rowG_blk (t : Fin cfg0.N) (r : Fin 256) :
    (fun k => blk2 m c t (ix2 r k) * blk1 m c t (ix2 0 k)) = rowG m c (t.val * 256 + r.val) :=
  funext fun k => congrArg₂ (fun p q : EReal => p * q) (b2 m c t (ix2 r k)) (b1 m c t (ix2 0 k))

theorem blk5 (t : Fin cfg0.N) (i : S256x2048.Idx) :
    k0_pay5 (F := Ideal) (iblk m c 0 t) (iblk m c 2 t) (iblk m c 1 t) (iblk m c 3 t) i
      = res m c (t.val * 256 + (i 0).val) (i 1) := by
  refine (pay5 _ _ _ _ i).trans ?_
  exact congrArg₂ (fun p q : EReal => p + q) (b3 m c t i)
    (congrArg₂ (fun X G => dx X G (i 1)) (row_blk m c t (i 0)) (rowG_blk m c t (i 0)))

theorem o4 (t : Fin cfg0.N) : (outsAt0 m c t.val t.isLt).1
    = k0_pay5 (F := Ideal) (iblk m c 0 t) (iblk m c 2 t) (iblk m c 1 t) (iblk m c 3 t) := by
  by_cases h : t.val % 32 = 0
  · rw [outsAt0_A m c t h]
    frame_out
  · rw [outsAt0_B m c t h]
    frame_out

theorem o5 (t : Fin cfg0.N) : (outsAt0 m c t.val t.isLt).2.1
    = k0_pay6 (F := Ideal) (iblk m c 0 t) (iblk m c 2 t) (iblk m c 1 t) (iblk m c 3 t) := by
  by_cases h : t.val % 32 = 0
  · rw [outsAt0_A m c t h]
    frame_out
  · rw [outsAt0_B m c t h]
    frame_out

theorem o6A (t : Fin cfg0.N) (h : t.val % 32 = 0) : (outsAt0 m c t.val t.isLt).2.2
    = k0_pay1 (F := Ideal) (k0_pay3 (F := Ideal) (iblk m c 0 t)) (k0_pay4 (F := Ideal) (iblk m c 2 t)) (k0_pay7 (F := Ideal)) := by
  rw [outsAt0_A m c t h]
  frame_out

theorem o6B (t : Fin cfg0.N) (h : ¬t.val % 32 = 0) : (outsAt0 m c t.val t.isLt).2.2
    = k0_pay1 (F := Ideal) (k0_pay3 (F := Ideal) (iblk m c 0 t)) (k0_pay4 (F := Ideal) (iblk m c 2 t))
      (outsAt0 m c (t.val - 1) (Nat.lt_of_le_of_lt (Nat.sub_le _ _) t.isLt)).2.2 := by
  rw [outsAt0_B m c t h]
  frame_out

/-- The part of the scale's gradient that one block of rows contributes. -/
def part (s : ℕ) (i : S1x2048.Idx) : EReal := ∑ r : Fin 256, term m c (i 1).val (s * 256 + r.val)

theorem pay1_blk (t : Fin cfg0.N) (p : S1x2048.Idx → EReal) (i : S1x2048.Idx) :
    k0_pay1 (F := Ideal) (k0_pay3 (F := Ideal) (iblk m c 0 t)) (k0_pay4 (F := Ideal) (iblk m c 2 t)) p i
      = p i + part m c (t.val % 32) i := by
  have ht : t.val % 32 = t.val := Nat.mod_eq_of_lt (t.isLt.trans_le (le_of_eq N_0))
  rw [ht]
  refine (pay1 _ _ p i).trans (congrArg _ (Finset.sum_congr rfl fun r _ => ?_))
  rw [row_blk, b0, b2]
  rfl

theorem acc (t : Fin cfg0.N) (h : t.val % 32 = 31) (i : S1x2048.Idx) :
    (outsAt0 m c t.val t.isLt).2.2 i = ∑ r : Fin 8192, term m c (i 1).val r.val := by
  refine (fold (fun n h => (outsAt0 m c n h).2.2) 32 (fun _ s i => part m c s i) (fun t h i => ?_) (fun t h i => ?_) t h i).trans ?_
  · refine (congrFun (o6A m c t h) i).trans ((pay1_blk m c t _ i).trans ?_)
    rw [pay7, zero_add]
  · exact (congrFun (o6B m c t h) i).trans (pay1_blk m c t _ i)
  · exact sum_blocks 32 256 (term m c (i 1).val)

theorem final4 : (dats m 0 c).arrAt 4 cfg0.N = fun i => res m c (i 0).val (i 1) := by
  refine (dats m 0 c).arrAt_eq_of_covers 4 _ (by decide +kernel) fun t hf y => ?_
  blk_simp
  rw [after0_4, o4, blk5]
  refine congrArg₂ (res m c) ?_ (Fin.ext ?_)
  · blk_simp [wx4 t]
  · blk_simp [wx4 t]

theorem final5 : (dats m 0 c).arrAt 5 cfg0.N = fun i => res m c (i 0).val (i 1) := by
  refine (dats m 0 c).arrAt_eq_of_covers 5 _ (by decide +kernel) fun t hf y => ?_
  blk_simp
  rw [after0_5, o5, pay6, blk5]
  refine congrArg₂ (res m c) ?_ (Fin.ext ?_)
  · blk_simp [wx5 t]
  · blk_simp [wx5 t]

theorem final6 : (dats m 0 c).arrAt 6 cfg0.N = fun i => ∑ r : Fin 8192, term m c (i 1).val r.val := by
  refine (dats m 0 c).arrAt_eq_of_covers 6 _ (by decide +kernel) fun t hf y => ?_
  have hm := (flush0_6 t).mp hf
  blk_simp
  rw [after0_6, acc m c t hm]
  have e1 : win0_6.index t 1 = 0 := congrFun (wx6 t) 1
  simp only [e1, Nat.zero_mul, Nat.zero_add]

theorem frame_p : Cert.quiescent_Kernel20 := fun m ρ _ => Cert.Kernel20.Gen.frame m ρ

theorem frame_pi : Cert.quiescent_Kernel20Ideal := fun m ρ _ => Cert.Kernel20Ideal.Gen.frame m ρ

theorem frame_ri : Cert.quiescent_Reference20Ideal := fun m ρ _ =>
  (θ_run Reference20Ideal.defs _ _).mono (fun r h => ⟨fun c => (h c).2.2.2, sem_eq_zero_of_no_sems (by decide) r.2⟩)
    (Reference20Ideal.Value.run (F := Ideal) m ρ)

theorem preserves : Cert.preserves_Kernel20_Kernel20Ideal := trivial

theorem algebraic : Cert.algebraic_Kernel20Ideal_Reference20Ideal := by
  intro m ρ m' ρ' _ hagree
  refine ⟨fun c => (dats m 0 c).arrAt 4 cfg0.N, fun c => (dats m 0 c).arrAt 5 cfg0.N, fun c => (dats m 0 c).arrAt 6 cfg0.N,
    Kernel20Ideal.Value.run_blocks m ρ, ?_⟩
  refine (θ_run Reference20Ideal.defs _ _).mono (fun _ h c => ?_) (Reference20Ideal.Value.run (F := Ideal) m' ρ')
  obtain ⟨g0, g1, g2, g3⟩ := hagree c
  have eX : ∀ (i : Fin 8192) (k : Fin 2048), a0 m c (ix2 i k) = rowX m c i.val k := fun i k => at2_of (a0 m c) _ rfl rfl
  have eD : ∀ (i : Fin 8192) (k : Fin 2048), a2 m c (ix2 i k) = at2 (a2 m c) i.val k.val := fun i k => at2_of (a2 m c) _ rfl rfl
  have eA : ∀ (i : Fin 8192) (k : Fin 2048), a0 m c (ix2 i k) = at2 (a0 m c) i.val k.val := fun i k => at2_of (a0 m c) _ rfl rfl
  have fX : ∀ i : Fin 8192, rowX m c i.val = fun k => a0 m c (ix2 i k) := fun i => funext fun k => (eX i k).symm
  have fG : ∀ i : Fin 8192, rowG m c i.val = fun k => a2 m c (ix2 i k) * a1 m c (ix1 k) := fun i => funext fun k => by
    unfold rowG
    rw [← eD i k]
  have chain : ∀ (i : Fin 8192) (j : Fin 2048),
      a3 m c (ix2 i j) + (a2 m c (ix2 i j) * a1 m c (ix1 j) * iv (fun k => a0 m c (ix2 i k))
        + a0 m c (ix2 i j) * rv (fun k => a0 m c (ix2 i k)) (fun k => a2 m c (ix2 i k) * a1 m c (ix1 k))
        + rv (fun k => a0 m c (ix2 i k)) (fun k => a2 m c (ix2 i k) * a1 m c (ix1 k)) * a0 m c (ix2 i j))
      = res m c i.val j := fun i j => by
    unfold res
    rw [fX, fG]
    exact congrArg₂ (· + ·) (at2_of (a3 m c) (ix2 i j) rfl rfl)
      (dx_chain (fun k => a0 m c (ix2 i k)) (fun k => a2 m c (ix2 i k) * a1 m c (ix1 k)) j)
  refine ⟨(h c).1.trans ?_, (h c).2.1.trans ?_, (h c).2.2.1.trans ?_, (h c).2.2.2⟩
  · rw [g0, g1, g2, g3]
    refine Eq.trans ?_ (final4 m c).symm
    funext i
    idx_vars i
    pointwise []
    refine Eq.trans ?_ (chain i0 i1)
    exact congrArg₂ (· + ·) rfl (congrArg₂ (· + ·) (congrArg₂ (· + ·) rfl (congrArg₂ (· * ·) rfl (Fin.sum_univ_one _)))
      (congrArg₂ (· * ·) (Fin.sum_univ_one _) rfl))
  · unfold Reference20Ideal.Value.res_main_v38
    rw [g0, g1, g2, g3]
    refine Eq.trans ?_ (final5 m c).symm
    funext i
    idx_vars i
    pointwise []
    refine Eq.trans ?_ (chain i0 i1)
    exact congrArg₂ (· + ·) rfl (congrArg₂ (· + ·) (congrArg₂ (· + ·) rfl (congrArg₂ (· * ·) rfl (Fin.sum_univ_one _)))
      (congrArg₂ (· * ·) (Fin.sum_univ_one _) rfl))
  · rw [g0, g2]
    refine Eq.trans ?_ (final6 m c).symm
    funext i
    idx_vars i
    pointwise []
    refine (Fin.sum_univ_one _).trans (Finset.sum_congr rfl fun r _ => ?_)
    unfold term
    rw [fX, ← eD r i1, ← eA r i1]
    exact mul_comm _ _

end Cert.Prod20
end
-- ==== Proof.Prod21.lean ====
/-
  One AdamW step on a device's part of the weights of the combined input projection, in all layers.
-/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import Idealize.ShloMosaic.Lib.Pointwise
public import Idealize.ShloMosaic.Lib.Quiescent

@[expose] public section

set_option maxRecDepth 16384

noncomputable section

namespace Cert.Prod21

open Idealize.ShloMosaic Idealize.ShloMosaic.TcCoe Idealize.SL.Sem
open Cert.Kernel21Ideal Cert.Kernel21Ideal.Gen

theorem frame_p : Cert.quiescent_Kernel21 := fun m ρ _ => Cert.Kernel21.Gen.frame m ρ

theorem frame_pi : Cert.quiescent_Kernel21Ideal := fun m ρ _ => Cert.Kernel21Ideal.Gen.frame m ρ

theorem frame_ri : Cert.quiescent_Reference21Ideal := fun m ρ _ =>
  (θ_run Reference21Ideal.defs _ _).mono (fun r h => ⟨fun c => (h c).2.2.2, sem_eq_zero_of_no_sems (by decide) r.2⟩)
    (Reference21Ideal.Value.run (F := Ideal) m ρ)

theorem preserves : Cert.preserves_Kernel21_Kernel21Ideal := trivial

theorem algebraic : Cert.algebraic_Kernel21Ideal_Reference21Ideal := by
  intro m ρ m' ρ' _ hagree
  refine ⟨_, _, _, Kernel21Ideal.Value.run m ρ, ?_⟩
  refine (θ_run Reference21Ideal.defs _ _).mono (fun _ h c => ?_) (Reference21Ideal.Value.run (F := Ideal) m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end Cert.Prod21
end
-- ==== Proof.Prod22.lean ====
/-
  One AdamW step on a device's part of the weights of a square projection, in all layers.
-/
module

public import proofs.«01_k».proof.Defs
public import proofs.«01_k».proof.Proof.Gen.Kernel22.Frame
public import proofs.«01_k».proof.Proof.Gen.Kernel22Ideal.Value
public import proofs.«01_k».proof.Proof.Gen.Reference22Ideal.Run
public import Idealize.ShloMosaic.Lib.Pointwise
public import Idealize.ShloMosaic.Lib.Quiescent

@[expose] public section

set_option maxRecDepth 16384

noncomputable section

namespace Cert.Prod22

open Idealize.ShloMosaic Idealize.ShloMosaic.TcCoe Idealize.SL.Sem
open Cert.Kernel22Ideal Cert.Kernel22Ideal.Gen

theorem frame_p : Cert.quiescent_Kernel22 := fun m ρ _ => Cert.Kernel22.Gen.frame m ρ

theorem frame_pi : Cert.quiescent_Kernel22Ideal := fun m ρ _ => Cert.Kernel22Ideal.Gen.frame m ρ

theorem frame_ri : Cert.quiescent_Reference22Ideal := fun m ρ _ =>
  (θ_run Reference22Ideal.defs _ _).mono (fun r h => ⟨fun c => (h c).2.2.2, sem_eq_zero_of_no_sems (by decide) r.2⟩)
    (Reference22Ideal.Value.run (F := Ideal) m ρ)

theorem preserves : Cert.preserves_Kernel22_Kernel22Ideal := trivial

theorem algebraic : Cert.algebraic_Kernel22Ideal_Reference22Ideal := by
  intro m ρ m' ρ' _ hagree
  refine ⟨_, _, _, Kernel22Ideal.Value.run m ρ, ?_⟩
  refine (θ_run Reference22Ideal.defs _ _).mono (fun _ h c => ?_) (Reference22Ideal.Value.run (F := Ideal) m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end Cert.Prod22
end
-- ==== Proof.Prod23.lean ====
/-
  One AdamW step on a device's part of the weights of the channel mixer's first projection, in all layers.
-/
module

public import proofs.«01_k».proof.Defs
public import proofs.«01_k».proof.Proof.Gen.Kernel23.Frame
public import proofs.«01_k».proof.Proof.Gen.Kernel23Ideal.Value
public import proofs.«01_k».proof.Proof.Gen.Reference23Ideal.Run
public import Idealize.ShloMosaic.Lib.Pointwise
public import Idealize.ShloMosaic.Lib.Quiescent

@[expose] public section

set_option maxRecDepth 16384

noncomputable section

namespace Cert.Prod23

open Idealize.ShloMosaic Idealize.ShloMosaic.TcCoe Idealize.SL.Sem
open Cert.Kernel23Ideal Cert.Kernel23Ideal.Gen

theorem frame_p : Cert.quiescent_Kernel23 := fun m ρ _ => Cert.Kernel23.Gen.frame m ρ

theorem frame_pi : Cert.quiescent_Kernel23Ideal := fun m ρ _ => Cert.Kernel23Ideal.Gen.frame m ρ

theorem frame_ri : Cert.quiescent_Reference23Ideal := fun m ρ _ =>
  (θ_run Reference23Ideal.defs _ _).mono (fun r h => ⟨fun c => (h c).2.2.2, sem_eq_zero_of_no_sems (by decide) r.2⟩)
    (Reference23Ideal.Value.run (F := Ideal) m ρ)

theorem preserves : Cert.preserves_Kernel23_Kernel23Ideal := trivial

theorem algebraic : Cert.algebraic_Kernel23Ideal_Reference23Ideal := by
  intro m ρ m' ρ' _ hagree
  refine ⟨_, _, _, Kernel23Ideal.Value.run m ρ, ?_⟩
  refine (θ_run Reference23Ideal.defs _ _).mono (fun _ h c => ?_) (Reference23Ideal.Value.run (F := Ideal) m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end Cert.Prod23
end
-- ==== Proof.Prod24.lean ====
/-
  One AdamW step on a device's part of the weights of the channel mixer's second projection, in all layers.
-/
module

public import proofs.«01_k».proof.Defs
public import proofs.«01_k».proof.Proof.Gen.Kernel24.Frame
public import proofs.«01_k».proof.Proof.Gen.Kernel24Ideal.Value
public import proofs.«01_k».proof.Proof.Gen.Reference24Ideal.Run
public import Idealize.ShloMosaic.Lib.Pointwise
public import Idealize.ShloMosaic.Lib.Quiescent

@[expose] public section

set_option maxRecDepth 16384

noncomputable section

namespace Cert.Prod24

open Idealize.ShloMosaic Idealize.ShloMosaic.TcCoe Idealize.SL.Sem
open Cert.Kernel24Ideal Cert.Kernel24Ideal.Gen

theorem frame_p : Cert.quiescent_Kernel24 := fun m ρ _ => Cert.Kernel24.Gen.frame m ρ

theorem frame_pi : Cert.quiescent_Kernel24Ideal := fun m ρ _ => Cert.Kernel24Ideal.Gen.frame m ρ

theorem frame_ri : Cert.quiescent_Reference24Ideal := fun m ρ _ =>
  (θ_run Reference24Ideal.defs _ _).mono (fun r h => ⟨fun c => (h c).2.2.2, sem_eq_zero_of_no_sems (by decide) r.2⟩)
    (Reference24Ideal.Value.run (F := Ideal) m ρ)

theorem preserves : Cert.preserves_Kernel24_Kernel24Ideal := trivial

theorem algebraic : Cert.algebraic_Kernel24Ideal_Reference24Ideal := by
  intro m ρ m' ρ' _ hagree
  refine ⟨_, _, _, Kernel24Ideal.Value.run m ρ, ?_⟩
  refine (θ_run Reference24Ideal.defs _ _).mono (fun _ h c => ?_) (Reference24Ideal.Value.run (F := Ideal) m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end Cert.Prod24
end
-- ==== Proof.Prod25.lean ====
/-
  One AdamW step on the packed small weights.
-/
module

public import proofs.«01_k».proof.Defs
public import proofs.«01_k».proof.Proof.Gen.Kernel25.Frame
public import proofs.«01_k».proof.Proof.Gen.Kernel25Ideal.Value
public import proofs.«01_k».proof.Proof.Gen.Reference25Ideal.Run
public import Idealize.ShloMosaic.Lib.Pointwise
public import Idealize.ShloMosaic.Lib.Quiescent

@[expose] public section

set_option maxRecDepth 16384

noncomputable section

namespace Cert.Prod25

open Idealize.ShloMosaic Idealize.ShloMosaic.TcCoe Idealize.SL.Sem
open Cert.Kernel25Ideal Cert.Kernel25Ideal.Gen

theorem frame_p : Cert.quiescent_Kernel25 := fun m ρ _ => Cert.Kernel25.Gen.frame m ρ

theorem frame_pi : Cert.quiescent_Kernel25Ideal := fun m ρ _ => Cert.Kernel25Ideal.Gen.frame m ρ

theorem frame_ri : Cert.quiescent_Reference25Ideal := fun m ρ _ =>
  (θ_run Reference25Ideal.defs _ _).mono (fun r h => ⟨fun c => (h c).2.2.2, sem_eq_zero_of_no_sems (by decide) r.2⟩)
    (Reference25Ideal.Value.run (F := Ideal) m ρ)

theorem preserves : Cert.preserves_Kernel25_Kernel25Ideal := trivial

theorem algebraic : Cert.algebraic_Kernel25Ideal_Reference25Ideal := by
  intro m ρ m' ρ' _ hagree
  refine ⟨_, _, _, Kernel25Ideal.Value.run m ρ, ?_⟩
  refine (θ_run Reference25Ideal.defs _ _).mono (fun _ h c => ?_) (Reference25Ideal.Value.run (F := Ideal) m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end Cert.Prod25
end
-- ==== Proof.Prod26.lean ====
/-
  The loss's head, over the extended reals: the sum of squares, and the gradients in the rows and in the norm's scale.
-/
module

public import proofs.«01_k».proof.Defs
public import proofs.«01_k».proof.Proof.Mat
public import proofs.«01_k».proof.Proof.Rms
public import proofs.«01_k».proof.Proof.Gen.Kernel26.Frame
public import proofs.«01_k».proof.Proof.Gen.Kernel26Ideal.Value
public import proofs.«01_k».proof.Proof.Gen.Reference26Ideal.Run
public import Idealize.ShloMosaic.Lib.Pipeline.ValueKit.Geometry
public import Idealize.ShloMosaic.Lib.Pipeline.ReadBack
public import Idealize.ShloMosaic.Lib.Quiescent
public import Idealize.ShloMosaic.Lib.StableHlo.ReadAt

@[expose] public section

set_option maxRecDepth 16384

noncomputable section

namespace Cert.Prod26

open Idealize.ShloMosaic Idealize.ShloMosaic.TcCoe Idealize.SL.Sem
open Cert.Kernel26Ideal Cert.Kernel26Ideal.Gen Cert.Mat Cert.Rms

variable (m : (ℓ : Loc nD τ sig) → Buf (Elt Ideal) ℓ) (c : Dev nD)

/-- The three arguments, as the launch found them: the rows, the norm's scale, and the target. -/
abbrev a0 : S8192x2048.Idx → EReal := m ((c : Thread nD τ).loc main_arg0)
abbrev a1 : S2048.Idx → EReal := m ((c : Thread nD τ).loc main_arg1)
abbrev a2 : S8192x2048.Idx → EReal := m ((c : Thread nD τ).loc main_arg2)

/-- The literal that the kernel multiplies the error by, 1 / 2048. -/
abbrev lit : EReal := Ideal.ofBits .f32 0x3A000000#32

/-- The error of an entry of a row `x` under the scale `w`, against the target's `t`. -/
def er (x w t : Fin 2048 → EReal) (j : Fin 2048) : EReal := x j * iv x * w j - t j

/-- The gradient in the normed row. -/
def gr (x w t : Fin 2048 → EReal) (j : Fin 2048) : EReal := er x w t j * lit * w j

/-- The literal is the reciprocal of the row's length. -/
theorem lit_eq : lit = ((1 / 2048 : ℝ) : EReal) := by
  simp [Ideal.ofBits, Ideal.ieee, -EReal.coe_mul]
  norm_num

/-- The reference's factors of the error, a half over the length and two. -/
abbrev cR : EReal := Ideal.div (Ideal.ofBits .f32 0x3F000000#32) (Ideal.ofBits .f32 0x45000000#32)
abbrev two : EReal := Ideal.ofBits .f32 0x40000000#32

theorem factors (e : EReal) : cR * (two * e) = e * lit := by
  unfold cR two
  rw [lit_eq, Lift.lit_half, Lift.lit_two, Lift.lit_2048, Ideal.div_coe (by norm_num), ← mul_assoc, ← EReal.coe_mul,
    ← EReal.coe_mul, mul_comm]
  norm_num

/-- The gradient in the normed row, with the reference's factors. -/
def grR (x w t : Fin 2048 → EReal) (j : Fin 2048) : EReal := cR * (two * er x w t j) * w j

theorem grR_eq (x w t : Fin 2048 → EReal) : grR x w t = gr x w t := funext fun j => by
  unfold grR gr
  rw [factors]

/-- Rows of the arguments, and the scale. -/
def rowX (i : ℕ) (k : Fin 2048) : EReal := at2 (a0 m c) i k.val
def rowT (i : ℕ) (k : Fin 2048) : EReal := at2 (a2 m c) i k.val
def scale (k : Fin 2048) : EReal := a1 m c (ix1 k)

/-- A row's error, and an entry of the gradient in the rows. -/
def err (i : ℕ) (j : Fin 2048) : EReal := er (rowX m c i) (scale m c) (rowT m c i) j
def res (i : ℕ) (j : Fin 2048) : EReal := dx (rowX m c i) (gr (rowX m c i) (scale m c) (rowT m c i)) j

/-- A row's term of the gradient in the scale, and of the sum of squares. -/
def term (j : Fin 2048) (i : ℕ) : EReal := err m c i j * lit * (rowX m c i j * iv (rowX m c i))
def sqs (i : ℕ) : EReal := ∑ k, err m c i k * err m c i k

/-! Each window's block index at a point: 32 blocks of 256 rows. -/

theorem wx0 : ∀ t : Fin cfg0.N, win0_0.index t = ![t.val, 0] := (by decide +kernel : ∀ t : Fin grid0.N, _)
theorem wx1 : ∀ t : Fin cfg0.N, win0_1.index t = ![0, 0] := (by decide +kernel : ∀ t : Fin grid0.N, _)
theorem wx2 : ∀ t : Fin cfg0.N, win0_2.index t = ![t.val, 0] := (by decide +kernel : ∀ t : Fin grid0.N, _)
theorem wx3 : ∀ t : Fin cfg0.N, win0_3.index t = ![t.val, 0] := (by decide +kernel : ∀ t : Fin grid0.N, _)
theorem wx4 : ∀ t : Fin cfg0.N, win0_4.index t = ![t.val, 0] := (by decide +kernel : ∀ t : Fin grid0.N, _)
theorem wx5 : ∀ t : Fin cfg0.N, win0_5.index t = ![0, 0] := (by decide +kernel : ∀ t : Fin grid0.N, _)
theorem wx6 : ∀ t : Fin cfg0.N, win0_6.index t = ![0, 0] := (by decide +kernel : ∀ t : Fin grid0.N, _)

theorem b0 (t : Fin cfg0.N) (i : S256x2048.Idx) :
    iblk m c 0 t i = at2 (a0 m c) (t.val * 256 + (i 0).val) (i 1).val := by
  unfold a0
  rw [← V_main_arg0 m c]
  blk_simp [iblk]
  exact at2_of _ _ (by blk_simp [wx0 t]) (by blk_simp [wx0 t])

theorem b2 (t : Fin cfg0.N) (i : S256x2048.Idx) :
    iblk m c 2 t i = at2 (a2 m c) (t.val * 256 + (i 0).val) (i 1).val := by
  unfold a2
  rw [← V_main_arg2 m c]
  blk_simp [iblk]
  exact at2_of _ _ (by blk_simp [wx2 t]) (by blk_simp [wx2 t])

set_option maxHeartbeats 4000000 in
theorem entry (a : Fin 1) (j : Fin 2048) : V m c main_v0 (ix2 a j) = a1 m c (ix1 j) := by
  unfold V
  after_reads_at

theorem b1 (t : Fin cfg0.N) (i : S1x2048.Idx) : iblk m c 1 t i = a1 m c (ix1 (i 1)) := by
  refine Eq.trans ?_ (entry m c (i 0) (i 1))
  blk_simp [iblk]
  blk_ext [wx1 t]

/-! The kernel's payloads, at blocks in general. -/

section Pay

variable (x y : S256x2048.Idx → EReal) (w : S1x2048.Idx → EReal)

/-- A block's rows, and the scale's row. -/
abbrev row (x : S256x2048.Idx → EReal) (r : Fin 256) (k : Fin 2048) : EReal := x (ix2 r k)
abbrev row1 (w : S1x2048.Idx → EReal) (k : Fin 2048) : EReal := w (ix2 0 k)

theorem pay5 (i : S256x1.Idx) : k0_pay5 (F := Ideal) x i = iv (row x (i 0)) := by
  idx_vars i
  pointwise [k0_pay5]
  rfl

theorem pay6 (i : S256x2048.Idx) : k0_pay6 (F := Ideal) x i = x i * iv (row x (i 0)) := by
  idx_vars i
  pointwise [k0_pay6]
  rw [pay5]
  rfl

theorem pay7 (i : S256x2048.Idx) : k0_pay7 (F := Ideal) x w y i = er (row x (i 0)) (row1 w) (row y (i 0)) (i 1) := by
  idx_vars i
  pointwise [k0_pay7]
  rw [pay6]
  rfl

theorem pay8 (i : S256x2048.Idx) : k0_pay8 (F := Ideal) x w y i = er (row x (i 0)) (row1 w) (row y (i 0)) (i 1) * lit := by
  idx_vars i
  pointwise [k0_pay8]
  rw [pay7]
  rfl

theorem pay9 (i : S256x2048.Idx) : k0_pay9 (F := Ideal) x w y w i
    = dx (row x (i 0)) (gr (row x (i 0)) (row1 w) (row y (i 0))) (i 1) := by
  idx_vars i
  pointwise [k0_pay9]
  simp only [pay5, pay6, pay8]
  rfl

theorem pay10 (i : S256x2048.Idx) : k0_pay10 (F := Ideal) x w y w i = k0_pay9 (F := Ideal) x w y w i := by
  idx_vars i
  pointwise [k0_pay10]

theorem pay3 (p : S1x2048.Idx → EReal) (i : S1x2048.Idx) :
    k0_pay3 (F := Ideal) (k0_pay6 (F := Ideal) x) (k0_pay8 (F := Ideal) x w y) p i
      = p i + ∑ r : Fin 256, er (row x r) (row1 w) (row y r) (i 1) * lit * (x (ix2 r (i 1)) * iv (row x r)) := by
  idx_vars i
  pointwise [k0_pay3]
  simp only [pay6, pay8]
  rfl

theorem pay4 (p : S1x1.Idx → EReal) (i : S1x1.Idx) :
    k0_pay4 (F := Ideal) (k0_pay7 (F := Ideal) x w y) p i
      = p i + ∑ r : Fin 256, ∑ k, er (row x r) (row1 w) (row y r) k * er (row x r) (row1 w) (row y r) k := by
  idx_vars i
  pointwise [k0_pay4]
  simp only [pay7]
  rfl

theorem pay1 (i : S1x2048.Idx) : k0_pay1 (F := Ideal) i = 0 := by
  idx_vars i
  pointwise [k0_pay1]

theorem pay2 (i : S1x1.Idx) : k0_pay2 (F := Ideal) i = 0 := by
  idx_vars i
  pointwise [k0_pay2]

end Pay

theorem row_x (t : Fin cfg0.N) (r : Fin 256) : row (iblk m c 0 t) r = rowX m c (t.val * 256 + r.val) :=
  funext fun k => b0 m c t (ix2 r k)

theorem row_t (t : Fin cfg0.N) (r : Fin 256) : row (iblk m c 2 t) r = rowT m c (t.val * 256 + r.val) :=
  funext fun k => b2 m c t (ix2 r k)

theorem row_w (t : Fin cfg0.N) : row1 (iblk m c 1 t) = scale m c :=
  funext fun k => b1 m c t (ix2 0 k)

theorem blk9 (t : Fin cfg0.N) (i : S256x2048.Idx) :
    k0_pay9 (F := Ideal) (iblk m c 0 t) (iblk m c 1 t) (iblk m c 2 t) (iblk m c 1 t) i
      = res m c (t.val * 256 + (i 0).val) (i 1) := by
  refine (pay9 _ _ _ i).trans ?_
  unfold res
  exact congr (congrArg₂ dx (row_x m c t (i 0)) (congr (congrArg₂ gr (row_x m c t (i 0)) (row_w m c t)) (row_t m c t (i 0)))) rfl

theorem o3 (t : Fin cfg0.N) : (outsAt0 m c t.val t.isLt).1
    = k0_pay9 (F := Ideal) (iblk m c 0 t) (iblk m c 1 t) (iblk m c 2 t) (iblk m c 1 t) := by
  by_cases h : t.val % 32 = 0
  · rw [outsAt0_A m c t h]
    frame_out
  · rw [outsAt0_B m c t h]
    frame_out

theorem o4 (t : Fin cfg0.N) : (outsAt0 m c t.val t.isLt).2.1
    = k0_pay10 (F := Ideal) (iblk m c 0 t) (iblk m c 1 t) (iblk m c 2 t) (iblk m c 1 t) := by
  by_cases h : t.val % 32 = 0
  · rw [outsAt0_A m c t h]
    frame_out
  · rw [outsAt0_B m c t h]
    frame_out

theorem o5A (t : Fin cfg0.N) (h : t.val % 32 = 0) : (outsAt0 m c t.val t.isLt).2.2.1
    = k0_pay3 (F := Ideal) (k0_pay6 (F := Ideal) (iblk m c 0 t))
      (k0_pay8 (F := Ideal) (iblk m c 0 t) (iblk m c 1 t) (iblk m c 2 t)) (k0_pay1 (F := Ideal)) := by
  rw [outsAt0_A m c t h]
  frame_out

theorem o5B (t : Fin cfg0.N) (h : ¬t.val % 32 = 0) : (outsAt0 m c t.val t.isLt).2.2.1
    = k0_pay3 (F := Ideal) (k0_pay6 (F := Ideal) (iblk m c 0 t))
      (k0_pay8 (F := Ideal) (iblk m c 0 t) (iblk m c 1 t) (iblk m c 2 t))
      (outsAt0 m c (t.val - 1) (Nat.lt_of_le_of_lt (Nat.sub_le _ _) t.isLt)).2.2.1 := by
  rw [outsAt0_B m c t h]
  frame_out

theorem o6A (t : Fin cfg0.N) (h : t.val % 32 = 0) : (outsAt0 m c t.val t.isLt).2.2.2
    = k0_pay4 (F := Ideal) (k0_pay7 (F := Ideal) (iblk m c 0 t) (iblk m c 1 t) (iblk m c 2 t)) (k0_pay2 (F := Ideal)) := by
  rw [outsAt0_A m c t h]
  frame_out

theorem o6B (t : Fin cfg0.N) (h : ¬t.val % 32 = 0) : (outsAt0 m c t.val t.isLt).2.2.2
    = k0_pay4 (F := Ideal) (k0_pay7 (F := Ideal) (iblk m c 0 t) (iblk m c 1 t) (iblk m c 2 t))
      (outsAt0 m c (t.val - 1) (Nat.lt_of_le_of_lt (Nat.sub_le _ _) t.isLt)).2.2.2 := by
  rw [outsAt0_B m c t h]
  frame_out

/-- The parts of the scale's gradient and of the sum of squares that one block of rows contributes. -/
def part (s : ℕ) (i : S1x2048.Idx) : EReal := ∑ r : Fin 256, term m c (i 1) (s * 256 + r.val)
def partL (s : ℕ) : EReal := ∑ r : Fin 256, sqs m c (s * 256 + r.val)

theorem pay3_blk (t : Fin cfg0.N) (p : S1x2048.Idx → EReal) (i : S1x2048.Idx) :
    k0_pay3 (F := Ideal) (k0_pay6 (F := Ideal) (iblk m c 0 t))
      (k0_pay8 (F := Ideal) (iblk m c 0 t) (iblk m c 1 t) (iblk m c 2 t)) p i = p i + part m c (t.val % 32) i := by
  have ht : t.val % 32 = t.val := Nat.mod_eq_of_lt (t.isLt.trans_le (le_of_eq N_0))
  rw [ht]
  refine (pay3 _ _ _ p i).trans (congrArg _ (Finset.sum_congr rfl fun r _ => ?_))
  rw [row_x, row_t, row_w, b0]
  rfl

theorem pay4_blk (t : Fin cfg0.N) (p : S1x1.Idx → EReal) (i : S1x1.Idx) :
    k0_pay4 (F := Ideal) (k0_pay7 (F := Ideal) (iblk m c 0 t) (iblk m c 1 t) (iblk m c 2 t)) p i
      = p i + partL m c (t.val % 32) := by
  have ht : t.val % 32 = t.val := Nat.mod_eq_of_lt (t.isLt.trans_le (le_of_eq N_0))
  rw [ht]
  refine (pay4 _ _ _ p i).trans (congrArg _ (Finset.sum_congr rfl fun r _ => ?_))
  rw [row_x, row_t, row_w]
  rfl

theorem acc (t : Fin cfg0.N) (h : t.val % 32 = 31) (i : S1x2048.Idx) :
    (outsAt0 m c t.val t.isLt).2.2.1 i = ∑ r : Fin 8192, term m c (i 1) r.val := by
  refine (fold (fun n h => (outsAt0 m c n h).2.2.1) 32 (fun _ s i => part m c s i) (fun t h i => ?_) (fun t h i => ?_) t h i).trans ?_
  · refine (congrFun (o5A m c t h) i).trans ((pay3_blk m c t _ i).trans ?_)
    rw [pay1, zero_add]
  · exact (congrFun (o5B m c t h) i).trans (pay3_blk m c t _ i)
  · exact sum_blocks 32 256 (term m c (i 1))

theorem accL (t : Fin cfg0.N) (h : t.val % 32 = 31) (i : S1x1.Idx) :
    (outsAt0 m c t.val t.isLt).2.2.2 i = ∑ r : Fin 8192, sqs m c r.val := by
  refine (fold (fun n h => (outsAt0 m c n h).2.2.2) 32 (fun _ s _ => partL m c s) (fun t h i => ?_) (fun t h i => ?_) t h i).trans ?_
  · refine (congrFun (o6A m c t h) i).trans ((pay4_blk m c t _ i).trans ?_)
    rw [pay2, zero_add]
  · exact (congrFun (o6B m c t h) i).trans (pay4_blk m c t _ i)
  · exact sum_blocks 32 256 (sqs m c)

theorem final3 : (dats m 0 c).arrAt 3 cfg0.N = fun i => res m c (i 0).val (i 1) := by
  refine (dats m 0 c).arrAt_eq_of_covers 3 _ (by decide +kernel) fun t hf y => ?_
  blk_simp
  rw [after0_3, o3, blk9]
  refine congrArg₂ (res m c) ?_ (Fin.ext ?_)
  · blk_simp [wx3 t]
  · blk_simp [wx3 t]

theorem final4 : (dats m 0 c).arrAt 4 cfg0.N = fun i => res m c (i 0).val (i 1) := by
  refine (dats m 0 c).arrAt_eq_of_covers 4 _ (by decide +kernel) fun t hf y => ?_
  blk_simp
  rw [after0_4, o4, pay10, blk9]
  refine congrArg₂ (res m c) ?_ (Fin.ext ?_)
  · blk_simp [wx4 t]
  · blk_simp [wx4 t]

theorem final5 : (dats m 0 c).arrAt 5 cfg0.N = fun i => ∑ r : Fin 8192, term m c (i 1) r.val := by
  refine (dats m 0 c).arrAt_eq_of_covers 5 _ (by decide +kernel) fun t hf y => ?_
  have hm := (flush0_5 t).mp hf
  blk_simp
  rw [after0_5, acc m c t hm]
  refine congrArg (fun j : Fin 2048 => ∑ r : Fin 8192, term m c j r.val) (Fin.ext ?_)
  blk_simp [wx5 t]

theorem final6 : (dats m 0 c).arrAt 6 cfg0.N = fun _ => ∑ r : Fin 8192, sqs m c r.val := by
  refine (dats m 0 c).arrAt_eq_of_covers 6 _ (by decide +kernel) fun t hf y => ?_
  have hm := (flush0_6 t).mp hf
  blk_simp
  rw [after0_6, accL m c t hm]

theorem frame_p : Cert.quiescent_Kernel26 := fun m ρ _ => Cert.Kernel26.Gen.frame m ρ

theorem frame_pi : Cert.quiescent_Kernel26Ideal := fun m ρ _ => Cert.Kernel26Ideal.Gen.frame m ρ

theorem frame_ri : Cert.quiescent_Reference26Ideal := fun m ρ _ =>
  (θ_run Reference26Ideal.defs _ _).mono (fun r h => ⟨fun c => (h c).2.2.2.2, sem_eq_zero_of_no_sems (by decide) r.2⟩)
    (Reference26Ideal.Value.run (F := Ideal) m ρ)

theorem preserves : Cert.preserves_Kernel26_Kernel26Ideal := trivial

theorem algebraic : Cert.algebraic_Kernel26Ideal_Reference26Ideal := by
  intro m ρ m' ρ' _ hagree
  refine ⟨fun c => (dats m 0 c).arrAt 3 cfg0.N, fun c => (dats m 0 c).arrAt 4 cfg0.N, fun c => (dats m 0 c).arrAt 5 cfg0.N,
    fun c => (dats m 0 c).arrAt 6 cfg0.N, Kernel26Ideal.Value.run_blocks m ρ, ?_⟩
  refine (θ_run Reference26Ideal.defs _ _).mono (fun _ h c => ?_) (Reference26Ideal.Value.run (F := Ideal) m' ρ')
  obtain ⟨g0, g1, g2⟩ := hagree c
  have fX : ∀ i : Fin 8192, rowX m c i.val = fun k => a0 m c (ix2 i k) := fun i => funext fun k => (at2_of (a0 m c) (ix2 i k) rfl rfl).symm
  have fT : ∀ i : Fin 8192, rowT m c i.val = fun k => a2 m c (ix2 i k) := fun i => funext fun k => (at2_of (a2 m c) (ix2 i k) rfl rfl).symm
  have chain : ∀ (i : Fin 8192) (j : Fin 2048),
      grR (fun k => a0 m c (ix2 i k)) (scale m c) (fun k => a2 m c (ix2 i k)) j * iv (fun k => a0 m c (ix2 i k))
        + a0 m c (ix2 i j) * rv (fun k => a0 m c (ix2 i k)) (grR (fun k => a0 m c (ix2 i k)) (scale m c) (fun k => a2 m c (ix2 i k)))
        + rv (fun k => a0 m c (ix2 i k)) (grR (fun k => a0 m c (ix2 i k)) (scale m c) (fun k => a2 m c (ix2 i k))) * a0 m c (ix2 i j)
      = res m c i.val j := fun i j => by
    unfold res
    rw [fX, fT, grR_eq]
    exact dx_chain (fun k => a0 m c (ix2 i k)) (gr (fun k => a0 m c (ix2 i k)) (scale m c) (fun k => a2 m c (ix2 i k))) j
  refine ⟨(h c).1.trans ?_, (h c).2.1.trans ?_, (h c).2.2.1.trans ?_, (h c).2.2.2.1.trans ?_, (h c).2.2.2.2⟩
  · clear h
    unfold Reference26Ideal.Value.res_main_v50
    rw [g0, g1, g2]
    refine Eq.trans ?_ (final3 m c).symm
    funext i
    idx_vars i
    pointwise []
    refine Eq.trans ?_ (chain i0 i1)
    exact congrArg₂ (· + ·) (congrArg₂ (· + ·) rfl (congrArg₂ (· * ·) rfl (Fin.sum_univ_one _)))
      (congrArg₂ (· * ·) (Fin.sum_univ_one _) rfl)
  · clear h
    unfold Reference26Ideal.Value.res_main_v51
    rw [g0, g1, g2]
    refine Eq.trans ?_ (final4 m c).symm
    funext i
    idx_vars i
    pointwise []
    refine Eq.trans ?_ (chain i0 i1)
    exact congrArg₂ (· + ·) (congrArg₂ (· + ·) rfl (congrArg₂ (· * ·) rfl (Fin.sum_univ_one _)))
      (congrArg₂ (· * ·) (Fin.sum_univ_one _) rfl)
  · clear h
    rw [g0, g1, g2]
    refine Eq.trans ?_ (final5 m c).symm
    funext i
    idx_vars i
    pointwise []
    refine (Fin.sum_univ_one _).trans (Finset.sum_congr rfl fun r _ => ?_)
    unfold term err
    rw [fX, fT, ← factors, mul_comm (cR * _)]
    rfl
  · clear h
    rw [g0, g1, g2]
    refine Eq.trans ?_ (final6 m c).symm
    funext i
    idx_vars i
    pointwise []
    refine Finset.sum_congr rfl fun r _ => Finset.sum_congr rfl fun k _ => ?_
    unfold err
    rw [fX, fT]
    rfl

end Cert.Prod26
end
-- ==== Proof.Prod27.lean ====
/-
  The root mean square norm, over the extended reals.
-/
module

public import proofs.«01_k».proof.Defs
public import proofs.«01_k».proof.Proof.Mat
public import proofs.«01_k».proof.Proof.Rms
public import proofs.«01_k».proof.Proof.Gen.Kernel27.Frame
public import proofs.«01_k».proof.Proof.Gen.Kernel27Ideal.Value
public import proofs.«01_k».proof.Proof.Gen.Reference27Ideal.Run
public import Idealize.ShloMosaic.Lib.Pipeline.ValueKit.Geometry
public import Idealize.ShloMosaic.Lib.Pipeline.ReadBack
public import Idealize.ShloMosaic.Lib.Quiescent
public import Idealize.ShloMosaic.Lib.StableHlo.ReadAt

@[expose] public section

set_option maxRecDepth 16384

noncomputable section

namespace Cert.Prod27

open Idealize.ShloMosaic Idealize.ShloMosaic.TcCoe Idealize.SL.Sem
open Cert.Kernel27Ideal Cert.Kernel27Ideal.Gen Cert.Mat Cert.Rms

variable (m : (ℓ : Loc nD τ sig) → Buf (Elt Ideal) ℓ) (c : Dev nD)

/-- The two arguments, as the launch found them: the rows, and the norm's scale. -/
abbrev a0 : S8192x2048.Idx → EReal := m ((c : Thread nD τ).loc main_arg0)
abbrev a1 : S2048.Idx → EReal := m ((c : Thread nD τ).loc main_arg1)

/-- A row of the first argument, and its normed entry. -/
def rowX (i : ℕ) (k : Fin 2048) : EReal := at2 (a0 m c) i k.val
def res (i : ℕ) (j : Fin 2048) : EReal := rowX m c i j * iv (rowX m c i) * a1 m c (ix1 j)

/-! Each window's block index, and what the windows read. -/

theorem wx0 : ∀ t : Fin cfg0.N, win0_0.index t = ![t.val, 0] := (by decide +kernel : ∀ t : Fin grid0.N, _)
theorem wx1 : ∀ t : Fin cfg0.N, win0_1.index t = ![0, 0] := (by decide +kernel : ∀ t : Fin grid0.N, _)
theorem wx2 : ∀ t : Fin cfg0.N, win0_2.index t = ![t.val, 0] := (by decide +kernel : ∀ t : Fin grid0.N, _)

theorem b0 (t : Fin cfg0.N) (i : S256x2048.Idx) :
    iblk m c 0 t i = at2 (a0 m c) (t.val * 256 + (i 0).val) (i 1).val := by
  unfold a0
  rw [← V_main_arg0 m c]
  blk_simp [iblk]
  exact at2_of _ _ (by blk_simp [wx0 t]) (by blk_simp [wx0 t])

set_option maxHeartbeats 4000000 in
theorem entry (a : Fin 1) (j : Fin 2048) : (V m c main_v0 : S1x2048.Idx → EReal) (ix2 a j) = a1 m c (ix1 j) := by
  unfold V
  after_reads_at

theorem b1 (t : Fin cfg0.N) (i : S1x2048.Idx) : iblk m c 1 t i = a1 m c (ix1 (i 1)) := by
  refine Eq.trans ?_ (entry m c (i 0) (i 1))
  blk_simp [iblk]
  blk_ext [wx1 t]

theorem pay1 (x : S256x2048.Idx → EReal) (w : S1x2048.Idx → EReal) (i : S256x2048.Idx) :
    k0_pay1 (F := Ideal) x w i = x i * iv (fun k => x (ix2 (i 0) k)) * w (ix2 0 (i 1)) := by
  idx_vars i
  pointwise [k0_pay1]
  rfl

theorem o2 (t : Fin cfg0.N) :
    out0_2 (F := Ideal) (iblk m c 0 t) (iblk m c 1 t) = k0_pay1 (F := Ideal) (iblk m c 0 t) (iblk m c 1 t) := by
  unfold out0_2
  frame_out

theorem blk2 (t : Fin cfg0.N) (i : S256x2048.Idx) :
    k0_pay1 (F := Ideal) (iblk m c 0 t) (iblk m c 1 t) i = res m c (t.val * 256 + (i 0).val) (i 1) := by
  have h : (fun k => (iblk m c 0 t : S256x2048.Idx → EReal) (ix2 (i 0) k)) = rowX m c (t.val * 256 + (i 0).val) :=
    funext fun k => b0 m c t (ix2 (i 0) k)
  refine (pay1 _ _ i).trans ?_
  rw [h, b0, b1]
  rfl

theorem final2 : (dats m 0 c).arrAt 2 cfg0.N = fun i => res m c (i 0).val (i 1) := by
  refine (dats m 0 c).arrAt_eq_of_covers 2 _ (by decide +kernel) fun t hf y => ?_
  blk_simp
  rw [after0_2, o2, blk2]
  refine congrArg₂ (res m c) ?_ (Fin.ext ?_)
  · blk_simp [wx2 t]
  · blk_simp [wx2 t]

theorem frame_p : Cert.quiescent_Kernel27 := fun m ρ _ => Cert.Kernel27.Gen.frame m ρ

theorem frame_pi : Cert.quiescent_Kernel27Ideal := fun m ρ _ => Cert.Kernel27Ideal.Gen.frame m ρ

theorem frame_ri : Cert.quiescent_Reference27Ideal := fun m ρ _ =>
  (θ_run Reference27Ideal.defs _ _).mono (fun r h => ⟨fun c => (h c).2, sem_eq_zero_of_no_sems (by decide) r.2⟩)
    (Reference27Ideal.Value.run (F := Ideal) m ρ)

theorem preserves : Cert.preserves_Kernel27_Kernel27Ideal := trivial

theorem algebraic : Cert.algebraic_Kernel27Ideal_Reference27Ideal := by
  intro m ρ m' ρ' _ hagree
  refine ⟨fun c => (dats m 0 c).arrAt 2 cfg0.N, Kernel27Ideal.Value.run_blocks m ρ, ?_⟩
  refine (θ_run Reference27Ideal.defs _ _).mono (fun _ h c => ?_) (Reference27Ideal.Value.run (F := Ideal) m' ρ')
  obtain ⟨g0, g1⟩ := hagree c
  have fX : ∀ i : Fin 8192, rowX m c i.val = fun k => a0 m c (ix2 i k) := fun i => funext fun k => (at2_of (a0 m c) (ix2 i k) rfl rfl).symm
  refine ⟨(h c).1.trans ?_, (h c).2⟩
  clear h
  rw [g0, g1]
  refine Eq.trans ?_ (final2 m c).symm
  funext i
  idx_vars i
  pointwise []
  unfold res
  rw [fX i0]
  rfl

end Cert.Prod27
end
-- ==== Proof.lean ====
/-
  The proof of the certificate's claims: each is proved in Proof/Sgu.lean or in one of the modules Proof/Prod2.lean to Proof/Prod27.lean and put
  in its place here.
-/
module

public import proofs.«01_k».proof.Defs
public import proofs.«01_k».proof.Proof.Sgu
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import proofs.«01_k».proof.Proof.Prod15
public import proofs.«01_k».proof.Proof.Prod16
public import proofs.«01_k».proof.Proof.Prod17
public import proofs.«01_k».proof.Proof.Prod18
public import proofs.«01_k».proof.Proof.Prod19
public import proofs.«01_k».proof.Proof.Prod20
public import proofs.«01_k».proof.Proof.Prod21
public import proofs.«01_k».proof.Proof.Prod22
public import proofs.«01_k».proof.Proof.Prod23
public import proofs.«01_k».proof.Proof.Prod24
public import proofs.«01_k».proof.Proof.Prod25
public import proofs.«01_k».proof.Proof.Prod26
public import proofs.«01_k».proof.Proof.Prod27

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.preFacts, Cert.preFacts11,
    Cert.Sgu.frame_p, Cert.Sgu.frame_pi, Cert.Sgu.frame_pi_pre, Cert.Sgu.frame_ri, Cert.Sgu.frame_ri_pre,
    Prod2.frame_p, Prod2.frame_pi, Prod2.frame_ri,
    Prod3.frame_p, Prod3.frame_pi, Prod3.frame_ri,
    Prod4.frame_p, Prod4.frame_pi, Prod4.frame_ri,
    Prod5.frame_p, Prod5.frame_pi, Prod5.frame_ri,
    Prod6.frame_p, Prod6.frame_pi, Prod6.frame_ri,
    Prod7.frame_p, Prod7.frame_pi, Prod7.frame_ri,
    Prod8.frame_p, Prod8.frame_pi, Prod8.frame_ri,
    Prod9.frame_p, Prod9.frame_pi, Prod9.frame_ri,
    Prod10.frame_p, Prod10.frame_pi, Prod10.frame_ri,
    Prod11.frame_p, Prod11.frame_pi, Prod11.frame_pi_pre, Prod11.frame_ri, Prod11.frame_ri_pre,
    Prod12.frame_p, Prod12.frame_pi, Prod12.frame_ri,
    Prod13.frame_p, Prod13.frame_pi, Prod13.frame_ri,
    Prod14.frame_p, Prod14.frame_pi, Prod14.frame_ri,
    Prod15.frame_p, Prod15.frame_pi, Prod15.frame_ri,
    Prod16.frame_p, Prod16.frame_pi, Prod16.frame_ri,
    Prod17.frame_p, Prod17.frame_pi, Prod17.frame_ri,
    Prod18.frame_p, Prod18.frame_pi, Prod18.frame_ri,
    Prod19.frame_p, Prod19.frame_pi, Prod19.frame_ri,
    Prod20.frame_p, Prod20.frame_pi, Prod20.frame_ri,
    Prod21.frame_p, Prod21.frame_pi, Prod21.frame_ri,
    Prod22.frame_p, Prod22.frame_pi, Prod22.frame_ri,
    Prod23.frame_p, Prod23.frame_pi, Prod23.frame_ri,
    Prod24.frame_p, Prod24.frame_pi, Prod24.frame_ri,
    Prod25.frame_p, Prod25.frame_pi, Prod25.frame_ri,
    Prod26.frame_p, Prod26.frame_pi, Prod26.frame_ri,
    Prod27.frame_p, Prod27.frame_pi, Prod27.frame_ri,
    Cert.Sgu.preserves, Cert.Sgu.algebraic,
    Prod2.preserves, Prod2.algebraic,
    Prod3.preserves, Prod3.algebraic,
    Prod4.preserves, Prod4.algebraic,
    Prod5.preserves, Prod5.algebraic,
    Prod6.preserves, Prod6.algebraic,
    Prod7.preserves, Prod7.algebraic,
    Prod8.preserves, Prod8.algebraic,
    Prod9.preserves, Prod9.algebraic,
    Prod10.preserves, Prod10.algebraic,
    Prod11.preserves, Prod11.algebraic,
    Prod12.preserves, Prod12.algebraic,
    Prod13.preserves, Prod13.algebraic,
    Prod14.preserves, Prod14.algebraic,
    Prod15.preserves, Prod15.algebraic,
    Prod16.preserves, Prod16.algebraic,
    Prod17.preserves, Prod17.algebraic,
    Prod18.preserves, Prod18.algebraic,
    Prod19.preserves, Prod19.algebraic,
    Prod20.preserves, Prod20.algebraic,
    Prod21.preserves, Prod21.algebraic,
    Prod22.preserves, Prod22.algebraic,
    Prod23.preserves, Prod23.algebraic,
    Prod24.preserves, Prod24.algebraic,
    Prod25.preserves, Prod25.algebraic,
    Prod26.preserves, Prod26.algebraic,
    Prod27.preserves, Prod27.algebraic⟩

end Cert.Proof
